-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Experts [hPre_plan_tables : Cert.Pre_plan_tables.Facts] (m : (ℓ : Loc Cert.Experts.nD Cert.Experts.τ Cert.Experts.sig) → Buf (Elt Bits) ℓ) : Prop :=
  ∀ c : Dev Cert.Experts.nD,
    (Cert.Pre_plan_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_plan_tables : Cert.Pre_plan_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_plan_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_plan_tables [hPre_plan_tables : Cert.Pre_plan_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_plan_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_rows [hPre_finite_rows : Cert.Pre_finite_rows.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_rows.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_rows [hPre_finite_rows : Cert.Pre_finite_rows.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_rows.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_out_proj [hPre_finite_out_proj : Cert.Pre_finite_out_proj.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_out_proj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))) = (fun _ => 1#1)

def Pre_OutProjReferenceIdeal (m : (ℓ : Loc Cert.OutProjReferenceIdeal.nD Cert.OutProjReferenceIdeal.τ Cert.OutProjReferenceIdeal.sig) → Buf (Elt Ideal) ℓ) : Prop :=
  True

def Pre_OutProjReferenceIdeal_finite_out_proj [hPre_finite_out_proj : Cert.Pre_finite_out_proj.Facts] (m : (ℓ : Loc Cert.OutProjReferenceIdeal.nD Cert.OutProjReferenceIdeal.τ Cert.OutProjReferenceIdeal.sig) → Buf (Elt Ideal) ℓ) : Prop :=
  ∀ c : Dev Cert.OutProjReferenceIdeal.nD,
    (Cert.Pre_finite_out_proj.fn (F := Ideal) (m ((c.tc : Thread Cert.OutProjReferenceIdeal.nD Cert.OutProjReferenceIdeal.τ).loc Cert.OutProjReferenceIdeal.main_arg0)) (m ((c.tc : Thread Cert.OutProjReferenceIdeal.nD Cert.OutProjReferenceIdeal.τ).loc Cert.OutProjReferenceIdeal.main_arg1)) (m ((c.tc : Thread Cert.OutProjReferenceIdeal.nD Cert.OutProjReferenceIdeal.τ).loc Cert.OutProjReferenceIdeal.main_arg2)) (m ((c.tc : Thread Cert.OutProjReferenceIdeal.nD Cert.OutProjReferenceIdeal.τ).loc Cert.OutProjReferenceIdeal.main_arg3)) (m ((c.tc : Thread Cert.OutProjReferenceIdeal.nD Cert.OutProjReferenceIdeal.τ).loc Cert.OutProjReferenceIdeal.main_arg4)) (m ((c.tc : Thread Cert.OutProjReferenceIdeal.nD Cert.OutProjReferenceIdeal.τ).loc Cert.OutProjReferenceIdeal.main_arg5)) (m ((c.tc : Thread Cert.OutProjReferenceIdeal.nD Cert.OutProjReferenceIdeal.τ).loc Cert.OutProjReferenceIdeal.main_arg6))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6)
      ∧ r.2.mem ((c.tc : Thread Cert.PleReferenceIdeal.nD Cert.PleReferenceIdeal.τ).loc Cert.PleReferenceIdeal.main_arg7) = m ((c.tc : Thread Cert.PleReferenceIdeal.nD Cert.PleReferenceIdeal.τ).loc Cert.PleReferenceIdeal.main_arg7))
      ∧ r.2.sem = fun _ => 0)

def quiescent_Experts [hExperts : Cert.Experts.Facts] [hPre_plan_tables : Cert.Pre_plan_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_plan_tables : Cert.Pre_plan_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_plan_tables [hExpertsReferenceIdeal : Cert.ExpertsReferenceIdeal.Facts] [hPre_plan_tables : Cert.Pre_plan_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_plan_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionIdeal_pre_finite_rows [hAttentionIdeal : Cert.AttentionIdeal.Facts] [hPre_finite_rows : Cert.Pre_finite_rows.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_rows m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_AttentionReferenceIdeal_pre_finite_rows [hAttentionReferenceIdeal : Cert.AttentionReferenceIdeal.Facts] [hPre_finite_rows : Cert.Pre_finite_rows.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_rows m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjIdeal_pre_finite_out_proj [hOutProjIdeal : Cert.OutProjIdeal.Facts] [hPre_finite_out_proj : Cert.Pre_finite_out_proj.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_out_proj m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def quiescent_OutProjReferenceIdeal_pre_finite_out_proj [hOutProjReferenceIdeal : Cert.OutProjReferenceIdeal.Facts] [hPre_finite_out_proj : Cert.Pre_finite_out_proj.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal_finite_out_proj m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v16) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)
      ∧ m' ((c.tc : Thread Cert.PleReferenceIdeal.nD Cert.PleReferenceIdeal.τ).loc Cert.PleReferenceIdeal.main_arg6) = m ((c.tc : Thread Cert.PleIdeal.nD Cert.PleIdeal.τ).loc Cert.PleIdeal.main_arg6)
      ∧ m' ((c.tc : Thread Cert.PleReferenceIdeal.nD Cert.PleReferenceIdeal.τ).loc Cert.PleReferenceIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v10_0)) (v1 : (c : Dev Cert.PleIdeal.nD) → Buf (Elt Ideal) ((c.tc : Thread Cert.PleIdeal.nD Cert.PleIdeal.τ).loc Cert.PleIdeal.main_v10_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v10_0) = v0 c
          ∧ r.2.mem ((c.tc : Thread Cert.PleIdeal.nD Cert.PleIdeal.τ).loc Cert.PleIdeal.main_v10_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v53) = v0 c
          ∧ r.2.mem ((c.tc : Thread Cert.PleReferenceIdeal.nD Cert.PleReferenceIdeal.τ).loc Cert.PleReferenceIdeal.main_v54) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6)
          ∧ r.2.mem ((c.tc : Thread Cert.PleReferenceIdeal.nD Cert.PleReferenceIdeal.τ).loc Cert.PleReferenceIdeal.main_arg7) = m' ((c.tc : Thread Cert.PleReferenceIdeal.nD Cert.PleReferenceIdeal.τ).loc Cert.PleReferenceIdeal.main_arg7))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_plan_tables : Cert.Pre_plan_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v40) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v13)) (v1 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13) = v0 c
          ∧ r.2.mem ((c.tc : Thread Cert.InProjIdeal.nD Cert.InProjIdeal.τ).loc Cert.InProjIdeal.main_v14) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v13) = v0 c
          ∧ r.2.mem ((c.tc : Thread Cert.InProjReferenceIdeal.nD Cert.InProjReferenceIdeal.τ).loc Cert.InProjReferenceIdeal.main_v12) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Attention_AttentionIdeal : Prop :=
  True

def algebraic_AttentionIdeal_AttentionReferenceIdeal_pre_finite_rows [hAttentionIdeal : Cert.AttentionIdeal.Facts] [hAttentionReferenceIdeal : Cert.AttentionReferenceIdeal.Facts] [hPre_finite_rows : Cert.Pre_finite_rows.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_rows m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v41)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v41) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v39) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1))

def preserves_OutProj_OutProjIdeal : Prop :=
  True

def algebraic_OutProjIdeal_OutProjReferenceIdeal_pre_finite_out_proj [hOutProjIdeal : Cert.OutProjIdeal.Facts] [hOutProjReferenceIdeal : Cert.OutProjReferenceIdeal.Facts] [hPre_finite_out_proj : Cert.Pre_finite_out_proj.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal_finite_out_proj m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v12_0)) (v1 : (c : Dev Cert.OutProjIdeal.nD) → Buf (Elt Ideal) ((c.tc : Thread Cert.OutProjIdeal.nD Cert.OutProjIdeal.τ).loc Cert.OutProjIdeal.main_v12_1)) (v2 : (c : Dev Cert.OutProjIdeal.nD) → Buf (Elt Ideal) ((c.tc : Thread Cert.OutProjIdeal.nD Cert.OutProjIdeal.τ).loc Cert.OutProjIdeal.main_v12_2)) (v3 : (c : Dev Cert.OutProjIdeal.nD) → Buf (Elt Ideal) ((c.tc : Thread Cert.OutProjIdeal.nD Cert.OutProjIdeal.τ).loc Cert.OutProjIdeal.main_v12_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12_0) = v0 c
          ∧ r.2.mem ((c.tc : Thread Cert.OutProjIdeal.nD Cert.OutProjIdeal.τ).loc Cert.OutProjIdeal.main_v12_1) = v1 c
          ∧ r.2.mem ((c.tc : Thread Cert.OutProjIdeal.nD Cert.OutProjIdeal.τ).loc Cert.OutProjIdeal.main_v12_2) = v2 c
          ∧ r.2.mem ((c.tc : Thread Cert.OutProjIdeal.nD Cert.OutProjIdeal.τ).loc Cert.OutProjIdeal.main_v12_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v29) = v0 c
          ∧ r.2.mem ((c.tc : Thread Cert.OutProjReferenceIdeal.nD Cert.OutProjReferenceIdeal.τ).loc Cert.OutProjReferenceIdeal.main_v30) = v1 c
          ∧ r.2.mem ((c.tc : Thread Cert.OutProjReferenceIdeal.nD Cert.OutProjReferenceIdeal.τ).loc Cert.OutProjReferenceIdeal.main_v34) = v2 c
          ∧ r.2.mem ((c.tc : Thread Cert.OutProjReferenceIdeal.nD Cert.OutProjReferenceIdeal.τ).loc Cert.OutProjReferenceIdeal.main_v33) = v3 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPle : Cert.Ple.Facts) (hPleIdeal : Cert.PleIdeal.Facts) (hPleReferenceIdeal : Cert.PleReferenceIdeal.Facts) (hExperts : Cert.Experts.Facts) (hExpertsIdeal : Cert.ExpertsIdeal.Facts) (hExpertsReferenceIdeal : Cert.ExpertsReferenceIdeal.Facts) (hInProj : Cert.InProj.Facts) (hInProjIdeal : Cert.InProjIdeal.Facts) (hInProjReferenceIdeal : Cert.InProjReferenceIdeal.Facts) (hAttention : Cert.Attention.Facts) (hAttentionIdeal : Cert.AttentionIdeal.Facts) (hAttentionReferenceIdeal : Cert.AttentionReferenceIdeal.Facts) (hOutProj : Cert.OutProj.Facts) (hOutProjIdeal : Cert.OutProjIdeal.Facts) (hOutProjReferenceIdeal : Cert.OutProjReferenceIdeal.Facts) (hPre_rows_in_range : Cert.Pre_rows_in_range.Facts) (hPre_plan_tables : Cert.Pre_plan_tables.Facts) (hPre_finite_rows : Cert.Pre_finite_rows.Facts) (hPre_finite_out_proj : Cert.Pre_finite_out_proj.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Reference (hReference := hReference) (hPre_rows_in_range := hPre_rows_in_range)
    ∧ quiescent_Ple (hPle := hPle)
    ∧ quiescent_PleIdeal (hPleIdeal := hPleIdeal)
    ∧ quiescent_PleReferenceIdeal (hPleReferenceIdeal := hPleReferenceIdeal)
    ∧ quiescent_Experts (hExperts := hExperts) (hPre_plan_tables := hPre_plan_tables)
    ∧ quiescent_ExpertsIdeal (hExpertsIdeal := hExpertsIdeal) (hPre_plan_tables := hPre_plan_tables)
    ∧ quiescent_ExpertsReferenceIdeal (hExpertsReferenceIdeal := hExpertsReferenceIdeal)
    ∧ quiescent_ExpertsReferenceIdeal_pre_plan_tables (hExpertsReferenceIdeal := hExpertsReferenceIdeal) (hPre_plan_tables := hPre_plan_tables)
    ∧ quiescent_InProj (hInProj := hInProj)
    ∧ quiescent_InProjIdeal (hInProjIdeal := hInProjIdeal)
    ∧ quiescent_InProjReferenceIdeal (hInProjReferenceIdeal := hInProjReferenceIdeal)
    ∧ quiescent_Attention (hAttention := hAttention)
    ∧ quiescent_AttentionIdeal (hAttentionIdeal := hAttentionIdeal)
    ∧ quiescent_AttentionIdeal_pre_finite_rows (hAttentionIdeal := hAttentionIdeal) (hPre_finite_rows := hPre_finite_rows)
    ∧ quiescent_AttentionReferenceIdeal (hAttentionReferenceIdeal := hAttentionReferenceIdeal)
    ∧ quiescent_AttentionReferenceIdeal_pre_finite_rows (hAttentionReferenceIdeal := hAttentionReferenceIdeal) (hPre_finite_rows := hPre_finite_rows)
    ∧ quiescent_OutProj (hOutProj := hOutProj)
    ∧ quiescent_OutProjIdeal (hOutProjIdeal := hOutProjIdeal)
    ∧ quiescent_OutProjIdeal_pre_finite_out_proj (hOutProjIdeal := hOutProjIdeal) (hPre_finite_out_proj := hPre_finite_out_proj)
    ∧ quiescent_OutProjReferenceIdeal (hOutProjReferenceIdeal := hOutProjReferenceIdeal)
    ∧ quiescent_OutProjReferenceIdeal_pre_finite_out_proj (hOutProjReferenceIdeal := hOutProjReferenceIdeal) (hPre_finite_out_proj := hPre_finite_out_proj)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Ple_PleIdeal
    ∧ algebraic_PleIdeal_PleReferenceIdeal (hPleIdeal := hPleIdeal) (hPleReferenceIdeal := hPleReferenceIdeal)
    ∧ preserves_Experts_ExpertsIdeal
    ∧ algebraic_ExpertsIdeal_ExpertsReferenceIdeal (hExpertsIdeal := hExpertsIdeal) (hExpertsReferenceIdeal := hExpertsReferenceIdeal) (hPre_plan_tables := hPre_plan_tables)
    ∧ preserves_InProj_InProjIdeal
    ∧ algebraic_InProjIdeal_InProjReferenceIdeal (hInProjIdeal := hInProjIdeal) (hInProjReferenceIdeal := hInProjReferenceIdeal)
    ∧ preserves_Attention_AttentionIdeal
    ∧ algebraic_AttentionIdeal_AttentionReferenceIdeal_pre_finite_rows (hAttentionIdeal := hAttentionIdeal) (hAttentionReferenceIdeal := hAttentionReferenceIdeal) (hPre_finite_rows := hPre_finite_rows)
    ∧ preserves_OutProj_OutProjIdeal
    ∧ algebraic_OutProjIdeal_OutProjReferenceIdeal_pre_finite_out_proj (hOutProjIdeal := hOutProjIdeal) (hOutProjReferenceIdeal := hOutProjReferenceIdeal) (hPre_finite_out_proj := hPre_finite_out_proj)
-- ==== Pre_finite_out_proj.lean ====
abbrev S8192x1024 : Shape := ⟨2, ![8192, 1024]⟩
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_arg4 : FVec F S2048 .f32) (main_arg5 : FVec F S2048 .f32) (main_arg6 : FVec F S2048x16 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x16 .f32 := Host.absf main_arg6
  let main_cst_10 : FVec F S_ .f32 := constant S_ .f32 0x7F800000#32
  let main_v30 : FVec F S2048x16 .f32 := broadcastInDim S2048x16 ![] bcast_S_S2048x16 main_cst_10
  let main_v31 : IVec S2048x16 1 := cmpf .olt main_v29 main_v30
  let main_c_11 : IVec S_ 1 := constantI S_ 1 1#1
  let main_v32 : IVec S_ 1 := (fun x v => Host.reduce IntOp.andi x v reducesTo_S2048x16_S_d0_1 h_S_) main_v31 main_c_11
  let main_v33 : IVec S_ 1 := andi main_v28 main_v32
  main_v33

def fn {F : FTy → Type} [FloatOps F] (main_arg0 : FVec F S8192x1024 .bf16) (main_arg1 : FVec F S8192x1024 .bf16) (main_arg2 : FVec F S8192x2048 .f32) (main_arg3 : FVec F S2048x2048 .f32) (main_arg4 : FVec F S2048 .f32) (main_arg5 : FVec F S2048 .f32) (main_arg6 : FVec F S2048x16 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Pre_finite_rows.lean ====
abbrev S8192x6144 : Shape := ⟨2, ![8192, 6144]⟩
abbrev S8192x128 : Shape := ⟨2, ![8192, 128]⟩
abbrev S8192x2048 : Shape := ⟨2, ![8192, 2048]⟩
abbrev S_ : Shape := ⟨0, ![]⟩
abbrev S8192x8 : Shape := ⟨2, ![8192, 8]⟩

class Facts : Prop where
  slices_S8192x6144_S8192x2048_0_0 : S8192x6144.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x128_S8192x8_0_16 : S8192x128.Slices ![0, 16] S8192x8
  bcast_S_S8192x8 : S_.BroadcastsInDim S8192x8 (![] : Fin 0 → Fin S8192x8.rank)
  reducesTo_S8192x8_S_d0_1 : S8192x8.ReducesTo [0, 1] S_

variable [Facts]

def fn {F : FTy → Type} [FloatOps F] (main_arg0 : FVec F S8192x6144 .bf16) (main_arg1 : FVec F S8192x128 .f32) : IVec S_ 1 :=
  let main_v0 : FVec F S8192x2048 .bf16 := (extractStridedSlice S8192x2048 ![0, 0] · slices_S8192x6144_S8192x2048_0_0) main_arg0
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x8 .f32 := (extractStridedSlice S8192x8 ![0, 16] · slices_S8192x128_S8192x8_0_16) main_arg1
  let main_v6 : FVec F S8192x8 .f32 := Host.absf main_v5
  let main_cst_0 : FVec F S_ .f32 := constant S_ .f32 0x7F800000#32
  let main_v7 : FVec F S8192x8 .f32 := broadcastInDim S8192x8 ![] bcast_S_S8192x8 main_cst_0
  let main_v8 : IVec S8192x8 1 := cmpf .olt main_v6 main_v7
  let main_c_1 : IVec S_ 1 := constantI S_ 1 1#1
  let main_v9 : IVec S_ 1 := (fun x v => Host.reduce IntOp.andi x v reducesTo_S8192x8_S_d0_1 h_S_) main_v8 main_c_1
  let main_v10 : IVec S_ 1 := andi main_v4 main_v9
  main_v10
-- ==== Pre_plan_tables.lean ====
abbrev S32 : Shape := ⟨1, ![32]⟩
abbrev S1 : Shape := ⟨1, ![1]⟩
abbrev S32768x16x128 : Shape := ⟨3, ![32768, 16, 128]⟩
abbrev S16x2048x1024 : Shape := ⟨3, ![16, 2048, 1024]⟩
abbrev S16x1024x2048 : Shape := ⟨3, ![16, 1024, 2048]⟩
abbrev S_ : Shape := ⟨0, ![]⟩

class Facts : Prop where
  bcast_S_S32 : S_.BroadcastsInDim S32 (![] : Fin 0 → Fin S32.rank)
  bcast_S_S1 : S_.BroadcastsInDim S1 (![] : Fin 0 → Fin S1.rank)
  bcast_S1_S32_0 : S1.BroadcastsInDim S32 (![0] : Fin 1 → Fin S32.rank)

variable [Facts]

def fn_part1 {F : FTy → Type} [FloatOps F] (main_v13 : IVec S32 1) (main_v18 : IVec S32 1) : IVec S32 1 :=
  let main_v19 : IVec S32 1 := andi main_v13 main_v18
  main_v19

def fn {F : FTy → Type} [FloatOps F] (main_arg0 : IVec S32 32) (main_arg1 : IVec S32 32) (main_arg2 : IVec S1 32) (main_arg3 : FVec F S32768x16x128 .bf16) (main_arg4 : FVec F S16x2048x1024 .f32) (main_arg5 : FVec F S16x2048x1024 .f32) (main_arg6 : FVec F S16x1024x2048 .f32) : IVec S32 1 :=
  let main_v0 : IVec S32 32 := iotaInDim S32 32 0
  let main_c : IVec S_ 32 := constantI S_ 32 0#32
  let main_v1 : IVec S32 32 := broadcastInDim S32 ![] bcast_S_S32 main_c
  let main_v2 : IVec S32 1 := cmpi .sge main_arg0 main_v1
  let main_c_0 : IVec S_ 32 := constantI S_ 32 16#32
  let main_v3 : IVec S32 32 := broadcastInDim S32 ![] bcast_S_S32 main_c_0
  let main_v4 : IVec S32 1 := cmpi .slt main_arg0 main_v3
  let main_v5 : IVec S32 1 := andi main_v2 main_v4
  let main_c_1 : IVec S_ 32 := constantI S_ 32 1#32
  let main_v6 : IVec S1 32 := broadcastInDim S1 ![] bcast_S_S1 main_c_1
  let main_v7 : IVec S1 1 := cmpi .sge main_arg2 main_v6
  let main_v8 : IVec S32 1 := broadcastInDim S32 ![0] bcast_S1_S32_0 main_v7
  let main_v9 : IVec S32 1 := andi main_v5 main_v8
  let main_c_2 : IVec S_ 32 := constantI S_ 32 32#32
  let main_v10 : IVec S1 32 := broadcastInDim S1 ![] bcast_S_S1 main_c_2
  let main_v11 : IVec S1 1 := cmpi .sle main_arg2 main_v10
  let main_v12 : IVec S32 1 := broadcastInDim S32 ![0] bcast_S1_S32_0 main_v11
  let main_v13 : IVec S32 1 := andi main_v9 main_v12
  let main_v14 : IVec S32 32 := broadcastInDim S32 ![0] bcast_S1_S32_0 main_arg2
  let main_v15 : IVec S32 1 := cmpi .slt main_v0 main_v14
  let main_c_3 : IVec S_ 32 := constantI S_ 32 0#32
  let main_v16 : IVec S32 32 := broadcastInDim S32 ![] bcast_S_S32 main_c_3
  let main_v17 : IVec S32 1 := cmpi .sle main_arg1 main_v16
  let main_v18 : IVec S32 1 := ori main_v15 main_v17
  fn_part1 (F := F) main_v13 main_v18
-- ==== Pre_rows_in_range.lean ====
abbrev S8192 : Shape := ⟨1, ![8192]⟩
abbrev S32768x16x128 : Shape := ⟨3, ![32768, 16, 128]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : IVec S8192 32) (main_arg1 : IVec S8192 32) (main_arg2 : FVec F S32768x16x128 .bf16) : IVec S8192 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 32768#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 32 := constantI S_ 32 0#32
  let main_v5 : IVec S8192 32 := broadcastInDim S8192 ![] bcast_S_S8192 main_c_1
  let main_v6 : IVec S8192 1 := cmpi .sge main_arg1 main_v5
  let main_v7 : IVec S8192 1 := andi main_v4 main_v6
  let main_c_2 : IVec S_ 32 := constantI S_ 32 32768#32
  let main_v8 : IVec S8192 32 := broadcastInDim S8192 ![] bcast_S_S8192 main_c_2
  let main_v9 : IVec S8192 1 := cmpi .slt main_arg1 main_v8
  let main_v10 : IVec S8192 1 := andi main_v7 main_v9
  main_v10
-- ==== Kernel.lean ====
abbrev S8192 : Shape := ⟨1, ![8192]⟩
abbrev S32768x16x128 : Shape := ⟨3, ![32768, 16, 128]⟩
abbrev S2x8192x16x128 : Shape := ⟨4, ![2, 8192, 16, 128]⟩
abbrev S_ : Shape := ⟨0, ![]⟩
abbrev S1 : Shape := ⟨1, ![1]⟩
abbrev S1x1x16x128 : Shape := ⟨4, ![1, 1, 16, 128]⟩
abbrev S1x16x128 : Shape := ⟨3, ![1, 16, 128]⟩

abbrev nBuf : Space → Nat
  | .hbm => 2
  | .vmem => 0
  | .smem => 2
  | _ => 0

abbrev bufTy : (tb : Table) → Fin (tcTables nBuf tb) → BufTy
  | .hbm, ⟨0, _⟩ => ⟨S32768x16x128, .bf16⟩
  | .hbm, ⟨1, _⟩ => ⟨S2x8192x16x128, .bf16⟩
  | .local _ .smem, ⟨0, _⟩ => ⟨S8192, .i32⟩
  | .local _ .smem, ⟨1, _⟩ => ⟨S8192, .i32⟩
  | _, _ => ⟨S32768x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg2 : Ref sig .tc := ⟨.hbm, 0, rfl⟩
abbrev main_v0 : Ref sig .tc := ⟨.hbm, 1, rfl⟩
abbrev main_arg0 : Ref sig .tc := ⟨.smem, 0, rfl⟩
abbrev main_arg1 : Ref sig .tc := ⟨.smem, 1, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c8192_i32 : BitVec 32 := 8192#32
  let v0 : BitVec 32 := Scalar.addi c0_i32 c8192_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let v2 : Index := Scalar.indexCast arg6
  ![v2.toNat]
def k0_off2 (k0_t1 : Fin k0_t1_loop.trips) : Fin 4 → Nat :=
  let c0_i32_3 : BitVec 32 := 0#32
  let c0_i32 : BitVec 32 := 0#32
  let c1_i32 : BitVec 32 := 1#32
  let arg6 : BitVec 32 := Scf.iv c0_i32 c1_i32 k0_t1
  let c0_i32_4 : BitVec 32 := 0#32
  let c0_i32_5 : BitVec 32 := 0#32
  ![0, arg6.toNat, 0, 0]
def k0_off3 (v3 : BitVec 32) : Fin 3 → Nat :=
  let c0_i32_6 : BitVec 32 := 0#32
  let c0_i32_7 : BitVec 32 := 0#32
  ![v3.toNat, 0, 0]

def k0_chk1 (v3 : BitVec 32) : Prop :=
  (∀ a, (k0_off3 v3) a + S1x16x128.size a ≤ S32768x16x128.size a) ∧
  (∀ (hinb : ∀ a, (k0_off3 v3) a + S1x16x128.size a ≤ S32768x16x128.size a), (Rect.unit (s := S32768x16x128) (k0_off3 v3) S1x16x128.size hinb).WholeWords (EltTy.packing .bf16))
theorem k0_off3_inb : ∀ (v3 : BitVec 32) (k0_hw1 : k0_chk1 v3), ∀ a, (k0_off3 v3) a + S1x16x128.size a ≤ S32768x16x128.size a := fun v3 k0_hw1 => k0_hw1.1
theorem k0_off3_wordsbf16 : ∀ (v3 : BitVec 32) (k0_hw1 : k0_chk1 v3), (Rect.unit (s := S32768x16x128) (k0_off3 v3) S1x16x128.size (k0_off3_inb v3 k0_hw1)).WholeWords (EltTy.packing .bf16) := fun v3 k0_hw1 => k0_hw1.2 (k0_off3_inb v3 k0_hw1)

def k0_off4 (k0_t1 : Fin k0_t1_loop.trips) : Fin 1 → Nat :=
  let c0_i32 : BitVec 32 := 0#32
  let c1_i32 : BitVec 32 := 1#32
  let arg6 : BitVec 32 := Scf.iv c0_i32 c1_i32 k0_t1
  let v7 : Index := Scalar.indexCast arg6
  ![v7.toNat]
def k0_off5 (k0_t1 : Fin k0_t1_loop.trips) : Fin 4 → Nat :=
  let c1_i32_8 : BitVec 32 := 1#32
  let c0_i32 : BitVec 32 := 0#32
  let c1_i32 : BitVec 32 := 1#32
  let arg6 : BitVec 32 := Scf.iv c0_i32 c1_i32 k0_t1
  let c0_i32_9 : BitVec 32 := 0#32
  let c0_i32_10 : BitVec 32 := 0#32
  ![1, arg6.toNat, 0, 0]
def k0_off6 (v8 : BitVec 32) : Fin 3 → Nat :=
  let c0_i32_11 : BitVec 32 := 0#32
  let c0_i32_12 : BitVec 32 := 0#32
  ![v8.toNat, 0, 0]

def k0_chk2 (v8 : BitVec 32) : Prop :=
  (∀ a, (k0_off6 v8) a + S1x16x128.size a ≤ S32768x16x128.size a) ∧
  (∀ (hinb : ∀ a, (k0_off6 v8) a + S1x16x128.size a ≤ S32768x16x128.size a), (Rect.unit (s := S32768x16x128) (k0_off6 v8) S1x16x128.size hinb).WholeWords (EltTy.packing .bf16))
theorem k0_off6_inb : ∀ (v8 : BitVec 32) (k0_hw2 : k0_chk2 v8), ∀ a, (k0_off6 v8) a + S1x16x128.size a ≤ S32768x16x128.size a := fun v8 k0_hw2 => k0_hw2.1
theorem k0_off6_wordsbf16 : ∀ (v8 : BitVec 32) (k0_hw2 : k0_chk2 v8), (Rect.unit (s := S32768x16x128) (k0_off6 v8) S1x16x128.size (k0_off6_inb v8 k0_hw2)).WholeWords (EltTy.packing .bf16) := fun v8 k0_hw2 => k0_hw2.2 (k0_off6_inb v8 k0_hw2)

@[reducible] def k0_t2_loop : Scf.Loop 32 :=
  let c0_i32_1 : BitVec 32 := 0#32
  let c16_i32 : BitVec 32 := 16#32
  let v1 : BitVec 32 := Scalar.addi c0_i32_1 c16_i32
  let c1_i32_2 : BitVec 32 := 1#32
  ⟨c0_i32_1, v1, c1_i32_2⟩
-- ==== Reference.lean ====
abbrev S8192 : Shape := ⟨1, ![8192]⟩
abbrev S32768x16x128 : Shape := ⟨3, ![32768, 16, 128]⟩
abbrev S_ : Shape := ⟨0, ![]⟩
abbrev S8192x1 : Shape := ⟨2, ![8192, 1]⟩
abbrev S8192x16x128 : Shape := ⟨3, ![8192, 16, 128]⟩
abbrev S1x8192x16x128 : Shape := ⟨4, ![1, 8192, 16, 128]⟩
abbrev S2x8192x16x128 : Shape := ⟨4, ![2, 8192, 16, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S32768x16x128, .bf16⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x16x128, .bf16⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x16x128, .bf16⟩
  | .hbm, ⟨21, _⟩ => ⟨S1x8192x16x128, .bf16⟩
  | .hbm, ⟨22, _⟩ => ⟨S1x8192x16x128, .bf16⟩
  | .hbm, ⟨23, _⟩ => ⟨S2x8192x16x128, .bf16⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2x8192x16x128 : Shape := ⟨4, ![2, 8192, 16, 128]⟩
abbrev S8x8192 : Shape := ⟨2, ![8, 8192]⟩
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S8192x8 : Shape := ⟨2, ![8192, 8]⟩
abbrev S2x8192 : Shape := ⟨2, ![2, 8192]⟩
abbrev S8192x2 : Shape := ⟨2, ![8192, 2]⟩
abbrev S1 : Shape := ⟨1, ![1]⟩
abbrev S1x2048 : Shape := ⟨2, ![1, 2048]⟩
abbrev S512x2048 : Shape := ⟨2, ![512, 2048]⟩
abbrev S512x256 : Shape := ⟨2, ![512, 256]⟩
abbrev S2x512x16x128 : Shape := ⟨4, ![2, 512, 16, 128]⟩
abbrev S512x8 : Shape := ⟨2, ![512, 8]⟩
abbrev S1x512x16x128 : Shape := ⟨4, ![1, 512, 16, 128]⟩
abbrev S512x16x128 : Shape := ⟨3, ![512, 16, 128]⟩
abbrev S512x1 : Shape := ⟨2, ![512, 1]⟩
abbrev S512 : Shape := ⟨1, ![512]⟩

abbrev nBuf : Space → Nat
  | .hbm => 22
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2x8192x16x128, .bf16⟩
  | .hbm, ⟨3, _⟩ => ⟨S8x8192, .f32⟩
  | .hbm, ⟨4, _⟩ => ⟨S256x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S8192x8, .f32⟩
  | .hbm, ⟨10, _⟩ => ⟨S2x8192, .f32⟩
  | .hbm, ⟨11, _⟩ => ⟨S8192x2, .f32⟩
  | .hbm, ⟨12, _⟩ => ⟨S_, .i32⟩
  | .hbm, ⟨13, _⟩ => ⟨S1, .i32⟩
  | .hbm, ⟨14, _⟩ => ⟨S8192x8, .f32⟩
  | .hbm, ⟨15, _⟩ => ⟨S8192x2048, .bf16⟩
  | .hbm, ⟨16, _⟩ => ⟨S2048x2048, .bf16⟩
  | .hbm, ⟨17, _⟩ => ⟨S256x2048, .bf16⟩
  | .hbm, ⟨18, _⟩ => ⟨S1x2048, .f32⟩
  | .hbm, ⟨19, _⟩ => ⟨S1x2048, .f32⟩
  | .hbm, ⟨20, _⟩ => ⟨S8192x2048, .f32⟩
  | .hbm, ⟨21, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2x512x16x128, .bf16⟩
  | .local _ .vmem, ⟨7, _⟩ => ⟨S2x512x16x128, .bf16⟩
  | .local _ .vmem, ⟨8, _⟩ => ⟨S512x8, .f32⟩
  | .local _ .vmem, ⟨9, _⟩ => ⟨S512x8, .f32⟩
  | .local _ .vmem, ⟨10, _⟩ => ⟨S2048x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PleReferenceIdeal.lean ====
abbrev S8192x2048 : Shape := ⟨2, ![8192, 2048]⟩
abbrev S8192x256 : Shape := ⟨2, ![8192, 256]⟩
abbrev S2x8192x16x128 : Shape := ⟨4, ![2, 8192, 16, 128]⟩
abbrev S8x8192 : Shape := ⟨2, ![8, 8192]⟩
abbrev S256x2048 : Shape := ⟨2, ![256, 2048]⟩
abbrev S2048x2048 : Shape := ⟨2, ![2048, 2048]⟩
abbrev S2048 : Shape := ⟨1, ![2048]⟩
abbrev S2x8192x2048 : Shape := ⟨3, ![2, 8192, 2048]⟩
abbrev S1x8192 : Shape := ⟨2, ![1, 8192]⟩
abbrev S8192 : Shape := ⟨1, ![8192]⟩
abbrev S8192x1 : Shape := ⟨2, ![8192, 1]⟩
abbrev S1x8192x2048 : Shape := ⟨3, ![1, 8192, 2048]⟩
abbrev S_ : Shape := ⟨0, ![]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2x8192x16x128, .bf16⟩
  | .hbm, ⟨3, _⟩ => ⟨S8x8192, .f32⟩
  | .hbm, ⟨4, _⟩ => ⟨S256x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2x8192x2048, .bf16⟩
  | .hbm, ⟨9, _⟩ => ⟨S2x8192x2048, .f32⟩
  | .hbm, ⟨10, _⟩ => ⟨S1x8192, .f32⟩
  | .hbm, ⟨11, _⟩ => ⟨S8192, .f32⟩
  | .hbm, ⟨12, _⟩ => ⟨S8192x1, .f32⟩
  | .hbm, ⟨13, _⟩ => ⟨S1x8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x8192, .f32⟩
  | .hbm, ⟨18, _⟩ => ⟨S8192, .f32⟩
  | .hbm, ⟨19, _⟩ => ⟨S8192x1, .f32⟩
  | .hbm, ⟨20, _⟩ => ⟨S1x8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x2048, .f32⟩
  | .hbm, ⟨63, _⟩ => ⟨S8192x2048, .f32⟩
  | .hbm, ⟨64, _⟩ => ⟨S1x2048, .f32⟩
  | .hbm, ⟨65, _⟩ => ⟨S8192x2048, .f32⟩
  | .hbm, ⟨66, _⟩ => ⟨S8192x2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Experts.lean ====
abbrev S32 : Shape := ⟨1, ![32]⟩
abbrev S1 : Shape := ⟨1, ![1]⟩
abbrev S32768x16x128 : Shape := ⟨3, ![32768, 16, 128]⟩
abbrev S16x2048x1024 : Shape := ⟨3, ![16, 2048, 1024]⟩
abbrev S16x1024x2048 : Shape := ⟨3, ![16, 1024, 2048]⟩
abbrev S1024x16x128 : Shape := ⟨3, ![1024, 16, 128]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S256x2048 : Shape := ⟨2, ![256, 2048]⟩
abbrev S256x16x128 : Shape := ⟨3, ![256, 16, 128]⟩
abbrev S256x256 : Shape := ⟨2, ![256, 256]⟩

abbrev nBuf : Space → Nat
  | .hbm => 5
  | .vmem => 11
  | .smem => 3
  | _ => 0

abbrev bufTy : (tb : Table) → Fin (tcTables nBuf tb) → BufTy
  | .hbm, ⟨0, _⟩ => ⟨S32768x16x128, .bf16⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S32768x16x128, .bf16⟩
  | .local _ .vmem, ⟨0, _⟩ => ⟨S1024x16x128, .bf16⟩
  | .local _ .vmem, ⟨1, _⟩ => ⟨S1024x16x128, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1024x16x128, .bf16⟩
  | .local _ .vmem, ⟨9, _⟩ => ⟨S1024x16x128, .bf16⟩
  | .local _ .vmem, ⟨10, _⟩ => ⟨S1024x2048, .f32⟩
  | .local _ .smem, ⟨0, _⟩ => ⟨S32, .i32⟩
  | .local _ .smem, ⟨1, _⟩ => ⟨S32, .i32⟩
  | .local _ .smem, ⟨2, _⟩ => ⟨S1, .i32⟩
  | _, _ => ⟨S32768x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v11 : BitVec 1 := Scalar.cmpi .sgt v1 c0_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c3_i32_35 : BitVec 32 := 3#32
  let v64 : BitVec 1 := Scalar.cmpi .eq arg1 c3_i32_35
  let v65 : BitVec 32 := Scalar.extui v64
  let c0_i32_36 : BitVec 32 := 0#32
  let v66 : BitVec 1 := Scalar.cmpi .ne v65 c0_i32_36
  v66

def k0_cond5 (i : grid0.Coords) (v1 : BitVec 32) : BitVec 1 :=
  let c0_i32_9 : BitVec 32 := 0#32
  let v14 : BitVec 1 := Scalar.cmpi .sle v1 c0_i32_9
  let arg1 : BitVec 32 := BitVec.ofNat 32 (i 1).val
  let c3_i32 : BitVec 32 := 3#32
  let v15 : BitVec 1 := Scalar.cmpi .eq arg1 c3_i32
  let v16 : BitVec 1 := Scalar.andi v14 v15
  let v17 : BitVec 32 := Scalar.extui v16
  let c0_i32_10 : BitVec 32 := 0#32
  let v18 : BitVec 1 := Scalar.cmpi .ne v17 c0_i32_10
  v18

def k0_cond6 (v1 : BitVec 32) : BitVec 1 :=
  let c256_i32 : BitVec 32 := 256#32
  let v19 : BitVec 1 := Scalar.cmpi .sgt v1 c256_i32
  let v20 : BitVec 32 := Scalar.extui v19
  let c0_i32_11 : BitVec 32 := 0#32
  let v21 : BitVec 1 := Scalar.cmpi .ne v20 c0_i32_11
  v21

def k0_cond9 (i : grid0.Coords) : BitVec 1 :=
  let arg1 : BitVec 32 := BitVec.ofNat 32 (i 1).val
  let c3_i32_34 : BitVec 32 := 3#32
  let v64 : BitVec 1 := Scalar.cmpi .eq arg1 c3_i32_34
  let v65 : BitVec 32 := Scalar.extui v64
  let c0_i32_35 : BitVec 32 := 0#32
  let v66 : BitVec 1 := Scalar.cmpi .ne v65 c0_i32_35
  v66

def k0_cond10 (i : grid0.Coords) (v1 : BitVec 32) : BitVec 1 :=
  let c256_i32_12 : BitVec 32 := 256#32
  let v22 : BitVec 1 := Scalar.cmpi .sle v1 c256_i32_12
  let arg1 : BitVec 32 := BitVec.ofNat 32 (i 1).val
  let c3_i32_13 : BitVec 32 := 3#32
  let v23 : BitVec 1 := Scalar.cmpi .eq arg1 c3_i32_13
  let v24 : BitVec 1 := Scalar.andi v22 v23
  let v25 : BitVec 32 := Scalar.extui v24
  let c0_i32_14 : BitVec 32 := 0#32
  let v26 : BitVec 1 := Scalar.cmpi .ne v25 c0_i32_14
  v26

def k0_cond11 (v1 : BitVec 32) : BitVec 1 :=
  let c512_i32 : BitVec 32 := 512#32
  let v27 : BitVec 1 := Scalar.cmpi .sgt v1 c512_i32
  let v28 : BitVec 32 := Scalar.extui v27
  let c0_i32_15 : BitVec 32 := 0#32
  let v29 : BitVec 1 := Scalar.cmpi .ne v28 c0_i32_15
  v29

def k0_cond14 (i : grid0.Coords) : BitVec 1 :=
  let arg1 : BitVec 32 := BitVec.ofNat 32 (i 1).val
  let c3_i32_34 : BitVec 32 := 3#32
  let v64 : BitVec 1 := Scalar.cmpi .eq arg1 c3_i32_34
  let v65 : BitVec 32 := Scalar.extui v64
  let c0_i32_35 : BitVec 32 := 0#32
  let v66 : BitVec 1 := Scalar.cmpi .ne v65 c0_i32_35
  v66

def k0_cond15 (i : grid0.Coords) (v1 : BitVec 32) : BitVec 1 :=
  let c512_i32_16 : BitVec 32 := 512#32
  let v30 : BitVec 1 := Scalar.cmpi .sle v1 c512_i32_16
  let arg1 : BitVec 32 := BitVec.ofNat 32 (i 1).val
  let c3_i32_17 : BitVec 32 := 3#32
  let v31 : BitVec 1 := Scalar.cmpi .eq arg1 c3_i32_17
  let v32 : BitVec 1 := Scalar.andi v30 v31
  let v33 : BitVec 32 := Scalar.extui v32
  let c0_i32_18 : BitVec 32 := 0#32
  let v34 : BitVec 1 := Scalar.cmpi .ne v33 c0_i32_18
  v34

def k0_cond16 (v1 : BitVec 32) : BitVec 1 :=
  let c768_i32 : BitVec 32 := 768#32
  let v35 : BitVec 1 := Scalar.cmpi .sgt v1 c768_i32
  let v36 : BitVec 32 := Scalar.extui v35
  let c0_i32_19 : BitVec 32 := 0#32
  let v37 : BitVec 1 := Scalar.cmpi .ne v36 c0_i32_19
  v37

def k0_cond19 (i : grid0.Coords) : BitVec 1 :=
  let arg1 : BitVec 32 := BitVec.ofNat 32 (i 1).val
  let c3_i32_34 : BitVec 32 := 3#32
  let v64 : BitVec 1 := Scalar.cmpi .eq arg1 c3_i32_34
  let v65 : BitVec 32 := Scalar.extui v64
  let c0_i32_35 : BitVec 32 := 0#32
  let v66 : BitVec 1 := Scalar.cmpi .ne v65 c0_i32_35
  v66

def k0_cond20 (i : grid0.Coords) (v1 : BitVec 32) : BitVec 1 :=
  let c768_i32_20 : BitVec 32 := 768#32
  let v38 : BitVec 1 := Scalar.cmpi .sle v1 c768_i32_20
  let arg1 : BitVec 32 := BitVec.ofNat 32 (i 1).val
  let c3_i32_21 : BitVec 32 := 3#32
  let v39 : BitVec 1 := Scalar.cmpi .eq arg1 c3_i32_21
  let v40 : BitVec 1 := Scalar.andi v38 v39
  let v41 : BitVec 32 := Scalar.extui v40
  let c0_i32_22 : BitVec 32 := 0#32
  let v42 : BitVec 1 := Scalar.cmpi .ne v41 c0_i32_22
  v42

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S32 : Shape := ⟨1, ![32]⟩
abbrev S1 : Shape := ⟨1, ![1]⟩
abbrev S32768x16x128 : Shape := ⟨3, ![32768, 16, 128]⟩
abbrev S16x2048x1024 : Shape := ⟨3, ![16, 2048, 1024]⟩
abbrev S16x1024x2048 : Shape := ⟨3, ![16, 1024, 2048]⟩
abbrev S32x1024x2048 : Shape := ⟨3, ![32, 1024, 2048]⟩
abbrev S_ : Shape := ⟨0, ![]⟩
abbrev S32x1 : Shape := ⟨2, ![32, 1]⟩
abbrev S32x2048x1024 : Shape := ⟨3, ![32, 2048, 1024]⟩
abbrev S32x1024x1024 : Shape := ⟨3, ![32, 1024, 1024]⟩
abbrev S4 : Shape := ⟨1, ![4]⟩
abbrev S1x4 : Shape := ⟨2, ![1, 4]⟩
abbrev S32x4 : Shape := ⟨2, ![32, 4]⟩
abbrev S32x4x1x1 : Shape := ⟨4, ![32, 4, 1, 1]⟩
abbrev S32x4x256x2048 : Shape := ⟨4, ![32, 4, 256, 2048]⟩

abbrev nBuf : Space → Nat
  | .hbm => 67
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S1, .i32⟩
  | .hbm, ⟨3, _⟩ => ⟨S32768x16x128, .bf16⟩
  | .hbm, ⟨4, _⟩ => ⟨S16x2048x1024, .f32⟩
  | .hbm, ⟨5, _⟩ => ⟨S16x2048x1024, .f32⟩
  | .hbm, ⟨6, _⟩ => ⟨S16x1024x2048, .f32⟩
  | .hbm, ⟨7, _⟩ => ⟨S32x1024x2048, .bf16⟩
  | .hbm, ⟨8, _⟩ => ⟨S32x1024x2048, .f32⟩
  | .hbm, ⟨9, _⟩ => ⟨S_, .i32⟩
  | .hbm, ⟨10, _⟩ => ⟨S32, .i32⟩
  | .hbm, ⟨11, _⟩ => ⟨S32, .i1⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S32x1, .i32⟩
  | .hbm, ⟨17, _⟩ => ⟨S32x2048x1024, .f32⟩
  | .hbm, ⟨18, _⟩ => ⟨S32x1024x1024, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x2048x1024, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S_, .f32⟩
  | .hbm, ⟨32, _⟩ => ⟨S32x1024x1024, .f32⟩
  | .hbm, ⟨33, _⟩ => ⟨S32x1024x1024, .f32⟩
  | .hbm, ⟨34, _⟩ => ⟨S_, .f32⟩
  | .hbm, ⟨35, _⟩ => ⟨S32x1024x1024, .f32⟩
  | .hbm, ⟨36, _⟩ => ⟨S32x1024x1024, .f32⟩
  | .hbm, ⟨37, _⟩ => ⟨S32x1024x1024, .f32⟩
  | .hbm, ⟨38, _⟩ => ⟨S32x1024x1024, .f32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32, .i32⟩
  | .hbm, ⟨46, _⟩ => ⟨S32x1, .i32⟩
  | .hbm, ⟨47, _⟩ => ⟨S32x1024x2048, .f32⟩
  | .hbm, ⟨48, _⟩ => ⟨S32x1024x2048, .f32⟩
  | .hbm, ⟨49, _⟩ => ⟨S4, .i32⟩
  | .hbm, ⟨50, _⟩ => ⟨S1x4, .i32⟩
  | .hbm, ⟨51, _⟩ => ⟨S_, .i32⟩
  | .hbm, ⟨52, _⟩ => ⟨S1x4, .i32⟩
  | .hbm, ⟨53, _⟩ => ⟨S1x4, .i32⟩
  | .hbm, ⟨54, _⟩ => ⟨S32x1, .i32⟩
  | .hbm, ⟨55, _⟩ => ⟨S32x4, .i32⟩
  | .hbm, ⟨56, _⟩ => ⟨S32x4, .i32⟩
  | .hbm, ⟨57, _⟩ => ⟨S32x4, .i1⟩
  | .hbm, ⟨58, _⟩ => ⟨S32x4x1x1, .i1⟩
  | .hbm, ⟨59, _⟩ => ⟨S32x4x256x2048, .f32⟩
  | .hbm, ⟨60, _⟩ => ⟨S_, .f32⟩
  | .hbm, ⟨61, _⟩ => ⟨S_, .f32⟩
  | .hbm, ⟨62, _⟩ => ⟨S32x4x256x2048, .i1⟩
  | .hbm, ⟨63, _⟩ => ⟨S32x4x256x2048, .f32⟩
  | .hbm, ⟨64, _⟩ => ⟨S32x4x256x2048, .f32⟩
  | .hbm, ⟨65, _⟩ => ⟨S32768x16x128, .f32⟩
  | .hbm, ⟨66, _⟩ => ⟨S32768x16x128, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== InProj.lean ====
abbrev S8192x2048 : Shape := ⟨2, ![8192, 2048]⟩
abbrev S2048x6168 : Shape := ⟨2, ![2048, 6168]⟩
abbrev S2048x1024 : Shape := ⟨2, ![2048, 1024]⟩
abbrev S_ : Shape := ⟨0, ![]⟩
abbrev S2048x2048 : Shape := ⟨2, ![2048, 2048]⟩
abbrev S2048x3072 : Shape := ⟨2, ![2048, 3072]⟩
abbrev S2048x6144 : Shape := ⟨2, ![2048, 6144]⟩
abbrev S2048x16 : Shape := ⟨2, ![2048, 16]⟩
abbrev S2048x8 : Shape := ⟨2, ![2048, 8]⟩
abbrev S2048x104 : Shape := ⟨2, ![2048, 104]⟩
abbrev S2048x128 : Shape := ⟨2, ![2048, 128]⟩
abbrev S8192x6144 : Shape := ⟨2, ![8192, 6144]⟩
abbrev S1024x2048 : Shape := ⟨2, ![1024, 2048]⟩
abbrev S1024x1024 : Shape := ⟨2, ![1024, 1024]⟩
abbrev S8192x128 : Shape := ⟨2, ![8192, 128]⟩
abbrev S1024x128 : Shape := ⟨2, ![1024, 128]⟩

abbrev nBuf : Space → Nat
  | .hbm => 19
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x6168, .f32⟩
  | .hbm, ⟨2, _⟩ => ⟨S8192x2048, .bf16⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x3072, .f32⟩
  | .hbm, ⟨9, _⟩ => ⟨S2048x6144, .f32⟩
  | .hbm, ⟨10, _⟩ => ⟨S2048x6144, .bf16⟩
  | .hbm, ⟨11, _⟩ => ⟨S2048x16, .f32⟩
  | .hbm, ⟨12, _⟩ => ⟨S2048x8, .f32⟩
  | .hbm, ⟨13, _⟩ => ⟨S_, .f32⟩
  | .hbm, ⟨14, _⟩ => ⟨S2048x104, .f32⟩
  | .hbm, ⟨15, _⟩ => ⟨S2048x128, .f32⟩
  | .hbm, ⟨16, _⟩ => ⟨S2048x128, .bf16⟩
  | .hbm, ⟨17, _⟩ => ⟨S8192x6144, .bf16⟩
  | .hbm, ⟨18, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x128, .bf16⟩
  | .local _ .vmem, ⟨9, _⟩ => ⟨S1024x128, .f32⟩
  | .local _ .vmem, ⟨10, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InProjReferenceIdeal.lean ====
abbrev S8192x2048 : Shape := ⟨2, ![8192, 2048]⟩
abbrev S2048x6168 : Shape := ⟨2, ![2048, 6168]⟩
abbrev S8192x6168 : Shape := ⟨2, ![8192, 6168]⟩
abbrev S8192x1024 : Shape := ⟨2, ![8192, 1024]⟩
abbrev S8192x8 : Shape := ⟨2, ![8192, 8]⟩
abbrev S8192x16 : Shape := ⟨2, ![8192, 16]⟩
abbrev S_ : Shape := ⟨0, ![]⟩
abbrev S8192x6144 : Shape := ⟨2, ![8192, 6144]⟩
abbrev S8192x104 : Shape := ⟨2, ![8192, 104]⟩
abbrev S8192x128 : Shape := ⟨2, ![8192, 128]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6168, .f32⟩
  | .hbm, ⟨2, _⟩ => ⟨S8192x6168, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8, .f32⟩
  | .hbm, ⟨7, _⟩ => ⟨S8192x1024, .f32⟩
  | .hbm, ⟨8, _⟩ => ⟨S8192x2048, .f32⟩
  | .hbm, ⟨9, _⟩ => ⟨S8192x16, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x6144, .f32⟩
  | .hbm, ⟨14, _⟩ => ⟨S_, .f32⟩
  | .hbm, ⟨15, _⟩ => ⟨S8192x104, .f32⟩
  | .hbm, ⟨16, _⟩ => ⟨S8192x128, .f32⟩
  | .hbm, ⟨17, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Attention.lean ====
abbrev S8192x6144 : Shape := ⟨2, ![8192, 6144]⟩
abbrev S8192x128 : Shape := ⟨2, ![8192, 128]⟩
abbrev S8x384x128 : Shape := ⟨3, ![8, 384, 128]⟩
abbrev S_ : Shape := ⟨0, ![]⟩
abbrev S1x128 : Shape := ⟨2, ![1, 128]⟩
abbrev S8x8192x256 : Shape := ⟨3, ![8, 8192, 256]⟩
abbrev S512x128 : Shape := ⟨2, ![512, 128]⟩
abbrev S1x384x128 : Shape := ⟨3, ![1, 384, 128]⟩
abbrev S1x512x256 : Shape := ⟨3, ![1, 512, 256]⟩
abbrev S512x384 : Shape := ⟨2, ![512, 384]⟩
abbrev S384x128 : Shape := ⟨2, ![384, 128]⟩
abbrev S1x512x128 : Shape := ⟨3, ![1, 512, 128]⟩
abbrev S8192x1024 : Shape := ⟨2, ![8192, 1024]⟩
abbrev S1x8192x256 : Shape := ⟨3, ![1, 8192, 256]⟩
abbrev S128x512 : Shape := ⟨2, ![128, 512]⟩
abbrev S512x256 : Shape := ⟨2, ![512, 256]⟩
abbrev S1x512 : Shape := ⟨2, ![1, 512]⟩
abbrev S512x512 : Shape := ⟨2, ![512, 512]⟩
abbrev S512 : Shape := ⟨1, ![512]⟩

abbrev nBuf : Space → Nat
  | .hbm => 72
  | .vmem => 25
  | .smem => 0
  | _ => 0

abbrev bufTy : (tb : Table) → Fin (tcTables nBuf tb) → BufTy
  | .hbm, ⟨0, _⟩ => ⟨S8192x6144, .bf16⟩
  | .hbm, ⟨1, _⟩ => ⟨S8192x128, .f32⟩
  | .hbm, ⟨2, _⟩ => ⟨S8x384x128, .i32⟩
  | .hbm, ⟨3, _⟩ => ⟨S8x384x128, .i32⟩
  | .hbm, ⟨4, _⟩ => ⟨S8x384x128, .i32⟩
  | .hbm, ⟨5, _⟩ => ⟨S_, .i32⟩
  | .hbm, ⟨6, _⟩ => ⟨S8x384x128, .i32⟩
  | .hbm, ⟨7, _⟩ => ⟨S8x384x128, .i1⟩
  | .hbm, ⟨8, _⟩ => ⟨S_, .i32⟩
  | .hbm, ⟨9, _⟩ => ⟨S8x384x128, .i32⟩
  | .hbm, ⟨10, _⟩ => ⟨S8x384x128, .i32⟩
  | .hbm, ⟨11, _⟩ => ⟨S_, .i32⟩
  | .hbm, ⟨12, _⟩ => ⟨S8x384x128, .i32⟩
  | .hbm, ⟨13, _⟩ => ⟨S8x384x128, .i32⟩
  | .hbm, ⟨14, _⟩ => ⟨S8x384x128, .i32⟩
  | .hbm, ⟨15, _⟩ => ⟨S8x384x128, .i1⟩
  | .hbm, ⟨16, _⟩ => ⟨S8x384x128, .i1⟩
  | .hbm, ⟨17, _⟩ => ⟨S_, .f32⟩
  | .hbm, ⟨18, _⟩ => ⟨S_, .f32⟩
  | .hbm, ⟨19, _⟩ => ⟨S8x384x128, .f32⟩
  | .hbm, ⟨20, _⟩ => ⟨S8x384x128, .f32⟩
  | .hbm, ⟨21, _⟩ => ⟨S8x384x128, .f32⟩
  | .hbm, ⟨22, _⟩ => ⟨S_, .i32⟩
  | .hbm, ⟨23, _⟩ => ⟨S8x384x128, .i32⟩
  | .hbm, ⟨24, _⟩ => ⟨S8x384x128, .i1⟩
  | .hbm, ⟨25, _⟩ => ⟨S_, .i32⟩
  | .hbm, ⟨26, _⟩ => ⟨S8x384x128, .i32⟩
  | .hbm, ⟨27, _⟩ => ⟨S8x384x128, .i1⟩
  | .hbm, ⟨28, _⟩ => ⟨S8x384x128, .i1⟩
  | .hbm, ⟨29, _⟩ => ⟨S_, .i32⟩
  | .hbm, ⟨30, _⟩ => ⟨S8x384x128, .i32⟩
  | .hbm, ⟨31, _⟩ => ⟨S8x384x128, .i32⟩
  | .hbm, ⟨32, _⟩ => ⟨S_, .i32⟩
  | .hbm, ⟨33, _⟩ => ⟨S8x384x128, .i32⟩
  | .hbm, ⟨34, _⟩ => ⟨S8x384x128, .i32⟩
  | .hbm, ⟨35, _⟩ => ⟨S_, .i32⟩
  | .hbm, ⟨36, _⟩ => ⟨S8x384x128, .i32⟩
  | .hbm, ⟨37, _⟩ => ⟨S8x384x128, .i32⟩
  | .hbm, ⟨38, _⟩ => ⟨S8x384x128, .i32⟩
  | .hbm, ⟨39, _⟩ => ⟨S8x384x128, .i1⟩
  | .hbm, ⟨40, _⟩ => ⟨S8x384x128, .i1⟩
  | .hbm, ⟨41, _⟩ => ⟨S_, .f32⟩
  | .hbm, ⟨42, _⟩ => ⟨S_, .f32⟩
  | .hbm, ⟨43, _⟩ => ⟨S8x384x128, .f32⟩
  | .hbm, ⟨44, _⟩ => ⟨S8x384x128, .f32⟩
  | .hbm, ⟨45, _⟩ => ⟨S8x384x128, .f32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S1x128, .i1⟩
  | .hbm, ⟨54, _⟩ => ⟨S_, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S_, .i32⟩
  | .hbm, ⟨60, _⟩ => ⟨S1x128, .i32⟩
  | .hbm, ⟨61, _⟩ => ⟨S1x128, .i1⟩
  | .hbm, ⟨62, _⟩ => ⟨S_, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S8x384x128, .bf16⟩
  | .hbm, ⟨68, _⟩ => ⟨S8x384x128, .bf16⟩
  | .hbm, ⟨69, _⟩ => ⟨S8x8192x256, .bf16⟩
  | .hbm, ⟨70, _⟩ => ⟨S8x8192x256, .bf16⟩
  | .hbm, ⟨71, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S1x384x128, .bf16⟩
  | .local _ .vmem, ⟨7, _⟩ => ⟨S1x384x128, .bf16⟩
  | .local _ .vmem, ⟨8, _⟩ => ⟨S1x384x128, .bf16⟩
  | .local _ .vmem, ⟨9, _⟩ => ⟨S1x384x128, .bf16⟩
  | .local _ .vmem, ⟨10, _⟩ => ⟨S1x128, .f32⟩
  | .local _ .vmem, ⟨11, _⟩ => ⟨S1x128, .f32⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x8192x256, .bf16⟩
  | .local _ .vmem, ⟨19, _⟩ => ⟨S1x8192x256, .bf16⟩
  | .local _ .vmem, ⟨20, _⟩ => ⟨S8192x128, .bf16⟩
  | .local _ .vmem, ⟨21, _⟩ => ⟨S8192x128, .bf16⟩
  | .local _ .vmem, ⟨22, _⟩ => ⟨S512x128, .bf16⟩
  | .local _ .vmem, ⟨23, _⟩ => ⟨S512x128, .bf16⟩
  | .local _ .vmem, ⟨24, _⟩ => ⟨S128x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_v28 : Ref sig .tc := ⟨.hbm, 46, rfl⟩
abbrev main_c_10 : Ref sig .tc := ⟨.hbm, 47, rfl⟩
abbrev main_v29 : Ref sig .tc := ⟨.hbm, 48, rfl⟩
abbrev main_v30 : Ref sig .tc := ⟨.hbm, 49, rfl⟩
abbrev main_c_11 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_12 : Ref sig .tc := ⟨.hbm, 54, rfl⟩
abbrev main_cst_13 : Ref sig .tc := ⟨.hbm, 55, rfl⟩
abbrev main_call2_v0 : Ref sig .tc := ⟨.hbm, 56, rfl⟩
abbrev main_call2_v1 : Ref sig .tc := ⟨.hbm, 57, rfl⟩
abbrev main_v34 : Ref sig .tc := ⟨.hbm, 58, rfl⟩
abbrev main_c_14 : Ref sig .tc := ⟨.hbm, 59, rfl⟩
abbrev main_v35 : Ref sig .tc := ⟨.hbm, 60, rfl⟩
abbrev main_v36 : Ref sig .tc := ⟨.hbm, 61, rfl⟩
abbrev main_cst_15 : Ref sig .tc := ⟨.hbm, 62, rfl⟩
abbrev main_cst_16 : Ref sig .tc := ⟨.hbm, 63, rfl⟩
abbrev main_call3_v0 : Ref sig .tc := ⟨.hbm, 64, rfl⟩
abbrev main_call3_v1 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40_0 : Ref sig .tc := ⟨.hbm, 69, rfl⟩
abbrev main_v40_1 : Ref sig .tc := ⟨.hbm, 70, rfl⟩
abbrev main_v41 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 16], ![false, false]⟩

@[reducible] def k1_t1_loop (i : grid1.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  ⟨c0_i32, v12, c1_i32_6⟩
def k1_mult1 (i : grid1.Coords) (k1_t1 : Fin (k1_t1_loop i).trips) : BitVec 32 :=
  let c0_i32 : BitVec 32 := 0#32
  let c1_i32_6 : BitVec 32 := 1#32
  let arg7 : BitVec 32 := Scf.iv c0_i32 c1_i32_6 k1_t1
  let c512_i32_24 : BitVec 32 := 512#32
  let v55 : BitVec 32 := Scalar.muli arg7 c512_i32_24
  v55
def k1_off1 (i : grid1.Coords) (k1_t1 : Fin (k1_t1_loop i).trips) : Fin 3 → Nat :=
  let c0_25 : Index := 0#32
  let c0_i32 : BitVec 32 := 0#32
  let c1_i32_6 : BitVec 32 := 1#32
  let arg7 : BitVec 32 := Scf.iv c0_i32 c1_i32_6 k1_t1
  let c512_i32_24 : BitVec 32 := 512#32
  let v55 : BitVec 32 := Scalar.muli arg7 c512_i32_24
  let v56 : BitVec 32 := v55
  let v57 : Index := Scalar.indexCast v56
  let c0_26 : Index := 0#32
  ![0, v57.toNat, 0]
def k1_off2 (i : grid1.Coords) (k1_t1 : Fin (k1_t1_loop i).trips) : Fin 2 → Nat :=
  let c0_i32 : BitVec 32 := 0#32
  let c1_i32_6 : BitVec 32 := 1#32
  let arg7 : BitVec 32 := Scf.iv c0_i32 c1_i32_6 k1_t1
  let c512_i32_24 : BitVec 32 := 512#32
  let v55 : BitVec 32 := Scalar.muli arg7 c512_i32_24
  let v56 : BitVec 32 := v55
  let v60 : Index := Scalar.indexCast v56
  let c0_27 : Index := 0#32
  ![v60.toNat, 0]
@[reducible] def k1_t2_loop (i : grid1.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_7 : BitVec 32 := 1#32
  ⟨v12, v9, c1_i32_7⟩
def k1_mult2 (i : grid1.Coords) (k1_t2 : Fin (k1_t2_loop i).trips) : BitVec 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg7 : BitVec 32 := Scf.iv v12 c1_i32_7 k1_t2
  let c512_i32_24 : BitVec 32 := 512#32
  let v55 : BitVec 32 := Scalar.muli arg7 c512_i32_24
  v55
def k1_off3 (i : grid1.Coords) (k1_t2 : Fin (k1_t2_loop i).trips) : Fin 3 → Nat :=
  let c0_25 : Index := 0#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg7 : BitVec 32 := Scf.iv v12 c1_i32_7 k1_t2
  let c512_i32_24 : BitVec 32 := 512#32
  let v55 : BitVec 32 := Scalar.muli arg7 c512_i32_24
  let v56 : BitVec 32 := v55
  let v57 : Index := Scalar.indexCast v56
  let c0_26 : Index := 0#32
  ![0, v57.toNat, 0]
def k1_off4 (i : grid1.Coords) (k1_t2 : Fin (k1_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg7 : BitVec 32 := Scf.iv v12 c1_i32_7 k1_t2
  let c512_i32_24 : BitVec 32 := 512#32
  let v55 : BitVec 32 := Scalar.muli arg7 c512_i32_24
  let v56 : BitVec 32 := v55
  let v60 : Index := Scalar.indexCast v56
  let c0_27 : Index := 0#32
  ![v60.toNat, 0]
def k1_mult3 (i : grid1.Coords) : BitVec 32 :=
  let arg1 : BitVec 32 := BitVec.ofNat 32 (i 1).val
  let c512_i32 : BitVec 32 := 512#32
  let v15 : BitVec 32 := Scalar.muli arg1 c512_i32
  v15
def k1_off5 (i : grid1.Coords) : Fin 3 → Nat :=
  let c0_8 : Index := 0#32
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![0, v17.toNat, 0]
def k1_off6 (i : grid1.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_10 : Index := 0#32
  ![v20.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== AttentionReferenceIdeal.lean ====
abbrev S8192x6144 : Shape := ⟨2, ![8192, 6144]⟩
abbrev S8192x128 : Shape := ⟨2, ![8192, 128]⟩
abbrev S8192x1024 : Shape := ⟨2, ![8192, 1024]⟩
abbrev S8192x8x128 : Shape := ⟨3, ![8192, 8, 128]⟩
abbrev S8192x8 : Shape := ⟨2, ![8192, 8]⟩
abbrev S8x8192 : Shape := ⟨2, ![8, 8192]⟩
abbrev S8192 : Shape := ⟨1, ![8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S_ : Shape := ⟨0, ![]⟩
abbrev S8x128x8192 : Shape := ⟨3, ![8, 128, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x128, .f32⟩
  | .hbm, ⟨2, _⟩ => ⟨S8192x1024, .bf16⟩
  | .hbm, ⟨3, _⟩ => ⟨S8192x8x128, .bf16⟩
  | .hbm, ⟨4, _⟩ => ⟨S8192x8x128, .f32⟩
  | .hbm, ⟨5, _⟩ => ⟨S8192x1024, .bf16⟩
  | .hbm, ⟨6, _⟩ => ⟨S8192x8x128, .bf16⟩
  | .hbm, ⟨7, _⟩ => ⟨S8192x8x128, .f32⟩
  | .hbm, ⟨8, _⟩ => ⟨S8192x1024, .bf16⟩
  | .hbm, ⟨9, _⟩ => ⟨S8192x8x128, .bf16⟩
  | .hbm, ⟨10, _⟩ => ⟨S8192x8x128, .f32⟩
  | .hbm, ⟨11, _⟩ => ⟨S8192x8, .f32⟩
  | .hbm, ⟨12, _⟩ => ⟨S8x8192, .f32⟩
  | .hbm, ⟨13, _⟩ => ⟨S8192, .i32⟩
  | .hbm, ⟨14, _⟩ => ⟨S8x8192x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S1x1x8192, .i32⟩
  | .hbm, ⟨22, _⟩ => ⟨S1x8192x1, .i32⟩
  | .hbm, ⟨23, _⟩ => ⟨S1x8192x8192, .i32⟩
  | .hbm, ⟨24, _⟩ => ⟨S1x8192x8192, .i32⟩
  | .hbm, ⟨25, _⟩ => ⟨S1x8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x128x8192, .f32⟩
  | .hbm, ⟨46, _⟩ => ⟨S8192x8x128, .f32⟩
  | .hbm, ⟨47, _⟩ => ⟨S8192x1024, .f32⟩
  | .hbm, ⟨48, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== OutProj.lean ====
abbrev S8192x1024 : Shape := ⟨2, ![8192, 1024]⟩
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1 : Shape := ⟨1, ![1]⟩
abbrev S1024x2048 : Shape := ⟨2, ![1024, 2048]⟩
abbrev S1x2048 : Shape := ⟨2, ![1, 2048]⟩
abbrev S8192x16x128 : Shape := ⟨3, ![8192, 16, 128]⟩
abbrev S8192x128 : Shape := ⟨2, ![8192, 128]⟩
abbrev S512x1024 : Shape := ⟨2, ![512, 1024]⟩
abbrev S512x2048 : Shape := ⟨2, ![512, 2048]⟩
abbrev S512x16x128 : Shape := ⟨3, ![512, 16, 128]⟩
abbrev S512x128 : Shape := ⟨2, ![512, 128]⟩
abbrev S512 : Shape := ⟨1, ![512]⟩
abbrev S512x1 : Shape := ⟨2, ![512, 1]⟩

abbrev nBuf : Space → Nat
  | .hbm => 25
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S_, .f32⟩
  | .hbm, ⟨8, _⟩ => ⟨S2048x128, .f32⟩
  | .hbm, ⟨9, _⟩ => ⟨S_, .i32⟩
  | .hbm, ⟨10, _⟩ => ⟨S1, .i32⟩
  | .hbm, ⟨11, _⟩ => ⟨S2048x128, .f32⟩
  | .hbm, ⟨12, _⟩ => ⟨S2048x128, .bf16⟩
  | .hbm, ⟨13, _⟩ => ⟨S2048x128, .f32⟩
  | .hbm, ⟨14, _⟩ => ⟨S2048x128, .f32⟩
  | .hbm, ⟨15, _⟩ => ⟨S2048x128, .bf16⟩
  | .hbm, ⟨16, _⟩ => ⟨S2048x2048, .bf16⟩
  | .hbm, ⟨17, _⟩ => ⟨S1024x2048, .bf16⟩
  | .hbm, ⟨18, _⟩ => ⟨S1024x2048, .bf16⟩
  | .hbm, ⟨19, _⟩ => ⟨S1x2048, .f32⟩
  | .hbm, ⟨20, _⟩ => ⟨S1x2048, .f32⟩
  | .hbm, ⟨21, _⟩ => ⟨S8192x2048, .f32⟩
  | .hbm, ⟨22, _⟩ => ⟨S8192x2048, .bf16⟩
  | .hbm, ⟨23, _⟩ => ⟨S8192x16x128, .bf16⟩
  | .hbm, ⟨24, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S2048x128, .bf16⟩
  | .local _ .vmem, ⟨11, _⟩ => ⟨S2048x128, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x16x128, .bf16⟩
  | .local _ .vmem, ⟨17, _⟩ => ⟨S512x16x128, .bf16⟩
  | .local _ .vmem, ⟨18, _⟩ => ⟨S512x128, .f32⟩
  | .local _ .vmem, ⟨19, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutProjReferenceIdeal.lean ====
abbrev S8192x1024 : Shape := ⟨2, ![8192, 1024]⟩
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16 : Shape := ⟨2, ![8192, 16]⟩
abbrev S8192x112 : Shape := ⟨2, ![8192, 112]⟩
abbrev S8192x128 : Shape := ⟨2, ![8192, 128]⟩
abbrev S8192x16x128 : Shape := ⟨3, ![8192, 16, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S8192x2048, .bf16⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | .hbm, ⟨44, _⟩ => ⟨S8192x16, .f32⟩
  | .hbm, ⟨45, _⟩ => ⟨S_, .f32⟩
  | .hbm, ⟨46, _⟩ => ⟨S8192x112, .f32⟩
  | .hbm, ⟨47, _⟩ => ⟨S8192x128, .f32⟩
  | .hbm, ⟨48, _⟩ => ⟨S8192x16x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Rows.lean ====
/-
  The rows the gather kernel moves. The result has two planes of 8192 rows; transfer number t fills row t / 2 of plane
  t % 2 with one row of the operand, the one the plane's index table names. Here: what the finished result holds, the
  set of elements of each row, that the rows are disjoint and cover the result, and that one landed transfer leaves its
  row at the finished result's values.
-/
module

public import proofs.«01_k».proof.Proof.Gen.KernelIdeal.Launch
public import proofs.«01_k».proof.Proof.Gen.KernelIdeal.Skeleton
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- The operand's contents, the result's, a table's. -/
abbrev OpC (F : FTy → Type) : Type := S32768x16x128.Idx → Elt F .bf16
abbrev ResC (F : FTy → Type) : Type := S2x8192x16x128.Idx → Elt F .bf16
abbrev TabC : Type := S8192.Idx → BitVec 32

/-- The row a word names, kept inside the operand. -/
def rowOf (w : BitVec 32) : Fin 32768 := ⟨min w.toNat 32767, by omega⟩

theorem rowOf_val {w : BitVec 32} (h : w.toNat < 32768) : (rowOf w).val = w.toNat := by
  unfold rowOf; show min w.toNat 32767 = w.toNat; omega

/-- The word plane `j` reads for row `i`. -/
def wordAt (p1 p2 : TabC) (j : Fin 2) (i : Fin 8192) : BitVec 32 := if j.val = 0 then p1 (ix1 i) else p2 (ix1 i)

/-- The four coordinates of an element of the result. -/
def c0 (x : S2x8192x16x128.Idx) : Fin 2 := x 0
def c1 (x : S2x8192x16x128.Idx) : Fin 8192 := x 1
def c2 (x : S2x8192x16x128.Idx) : Fin 16 := x 2
def c3 (x : S2x8192x16x128.Idx) : Fin 128 := x 3

/-- The finished result: row `i` of plane `j` is the operand's row that plane's table names. -/
def gathered (p1 p2 : TabC) (y : OpC F) : ResC F :=
  fun x => y (ix3 (rowOf (wordAt p1 p2 (c0 x) (c1 x))) (c2 x) (c3 x))

/-- The elements of the row transfer `t` fills. -/
def rowSet (t : Fin 16384) : Finset S2x8192x16x128.Idx :=
  Finset.univ.filter fun x => (x 0).val = t.val % 2 ∧ (x 1).val = t.val / 2

theorem mem_rowSet {t : Fin 16384} {x : S2x8192x16x128.Idx} :
    x ∈ rowSet t ↔ (x 0).val = t.val % 2 ∧ (x 1).val = t.val / 2 := by
  unfold rowSet; rw [Finset.mem_filter]; exact ⟨fun h => h.2, fun h => ⟨Finset.mem_univ _, h⟩⟩

theorem rowSet_disjoint : ∀ t ∈ (Finset.univ : Finset (Fin 16384)), ∀ t' ∈ (Finset.univ : Finset (Fin 16384)), t ≠ t' →
    Disjoint (rowSet t) (rowSet t') := by
  intro t _ t' _ hne
  rw [Finset.disjoint_left]
  intro x hx hx'
  rw [mem_rowSet] at hx hx'
  exact hne (Fin.ext (by omega))

theorem rowSet_cover : (Finset.univ : Finset (Fin 16384)).biUnion rowSet = Finset.univ := by
  ext x
  simp only [Finset.mem_biUnion, Finset.mem_univ, true_and, iff_true]
  have h0 : (x 0).val < 2 := (x 0).isLt
  have h1 : (x 1).val < 8192 := (x 1).isLt
  exact ⟨⟨2 * (x 1).val + (x 0).val, by omega⟩, mem_rowSet.mpr ⟨by show (x 0).val = (2 * (x 1).val + (x 0).val) % 2; omega,
    by show (x 1).val = (2 * (x 1).val + (x 0).val) / 2; omega⟩⟩

/-- The result's row at an offset, as the kernel names it. -/
abbrev dstRow (off : Fin 4 → ℕ) (inb : ∀ a, off a + S1x1x16x128.size a ≤ S2x8192x16x128.size a) : Memref sig .tc .hbm S1x16x128 .bf16 :=
  ((Memref.whole main_v0 : Memref sig .tc .hbm S2x8192x16x128 .bf16).slice (Rect.unit (s := S2x8192x16x128) off S1x1x16x128.size inb)
    (fun _ => rfl)).squeeze S1x16x128 squeezes_S1x1x16x128_S1x16x128

/-- The operand's row at an offset, as the kernel names it. -/
abbrev srcRow (off : Fin 3 → ℕ) (inb : ∀ a, off a + S1x16x128.size a ≤ S32768x16x128.size a) : Memref sig .tc .hbm S1x16x128 .bf16 :=
  (Memref.whole main_arg2 : Memref sig .tc .hbm S32768x16x128 .bf16).slice (Rect.unit (s := S32768x16x128) off S1x16x128.size inb) (fun _ => rfl)

/-- The row's element under an index of the slice. -/
theorem dstRow_emb (j i : ℕ) (inb : ∀ a, (![j, i, 0, 0] : Fin 4 → ℕ) a + S1x1x16x128.size a ≤ S2x8192x16x128.size a)
    (x : S2x8192x16x128.Idx) (h0 : (x 0).val = j) (h1 : (x 1).val = i) :
    (dstRow ![j, i, 0, 0] inb).view.emb (ix3 (0 : Fin 1) (c2 x) (c3 x) : S1x16x128.Idx) = x := by
  show (Rect.unit (s := S2x8192x16x128) ![j, i, 0, 0] S1x1x16x128.size inb).emb
    (Shape.reshapeEquiv _ (ix3 (0 : Fin 1) (c2 x) (c3 x) : S1x16x128.Idx)) = x
  rw [reshapeEquiv_ix3_1abc]
  funext a
  apply Fin.ext
  match a with
  | ⟨0, _⟩ => show j + 1 * 0 = (x 0).val; omega
  | ⟨1, _⟩ => show i + 1 * 0 = (x 1).val; omega
  | ⟨2, _⟩ => show 0 + 1 * (x 2).val = (x 2).val; omega
  | ⟨3, _⟩ => show 0 + 1 * (x 3).val = (x 3).val; omega

/-- The operand's element under an index of the slice. -/
theorem srcRow_emb (r : ℕ) (hr : r < 32768) (inb : ∀ a, (![r, 0, 0] : Fin 3 → ℕ) a + S1x16x128.size a ≤ S32768x16x128.size a)
    (b : Fin 16) (l : Fin 128) :
    (srcRow ![r, 0, 0] inb).view.emb (ix3 (0 : Fin 1) b l : S1x16x128.Idx) = ix3 (⟨r, hr⟩ : Fin 32768) b l := by
  show (Rect.unit (s := S32768x16x128) ![r, 0, 0] S1x16x128.size inb).emb (ix3 (0 : Fin 1) b l : S1x16x128.Idx) = _
  funext a
  apply Fin.ext
  match a with
  | ⟨0, _⟩ => show r + 1 * 0 = r; omega
  | ⟨1, _⟩ => show 0 + 1 * b.val = b.val; omega
  | ⟨2, _⟩ => show 0 + 1 * l.val = l.val; omega

/-- The slice's elements are the row's. -/
theorem dstRow_set (j i : ℕ) (inb : ∀ a, (![j, i, 0, 0] : Fin 4 → ℕ) a + S1x1x16x128.size a ≤ S2x8192x16x128.size a)
    (t : Fin 16384) (h0 : j = t.val % 2) (h1 : i = t.val / 2) : (dstRow ![j, i, 0, 0] inb).view.set ⊆ rowSet t := by
  intro x hx
  have e : (dstRow ![j, i, 0, 0] inb).view.set = (Rect.unit (s := S2x8192x16x128) ![j, i, 0, 0] S1x1x16x128.size inb).set :=
    (View.set_reshape _ _).trans (View.set_slice_whole _ _)
  have hx' : x ∈ (Rect.unit (s := S2x8192x16x128) ![j, i, 0, 0] S1x1x16x128.size inb).set := e ▸ hx
  rw [Rect.mem_set_unit] at hx'
  have a0 : j ≤ (x 0).val ∧ (x 0).val < j + 1 := hx' 0
  have a1 : i ≤ (x 1).val ∧ (x 1).val < i + 1 := hx' 1
  exact mem_rowSet.mpr ⟨by omega, by omega⟩

/-- What a landed transfer leaves in its row: the finished result's values there. -/
theorem landed (p1 p2 : TabC) (y : OpC F) (fd : ResC F) (t : Fin 16384) (j i r : ℕ) (hr : r < 32768)
    (inb : ∀ a, (![j, i, 0, 0] : Fin 4 → ℕ) a + S1x1x16x128.size a ≤ S2x8192x16x128.size a)
    (inb' : ∀ a, (![r, 0, 0] : Fin 3 → ℕ) a + S1x16x128.size a ≤ S32768x16x128.size a)
    (h0 : j = t.val % 2) (h1 : i = t.val / 2) (hi : i < 8192)
    (hw : (wordAt p1 p2 ⟨t.val % 2, by omega⟩ ⟨i, hi⟩).toNat = r) (x : S2x8192x16x128.Idx) (hx : x ∈ rowSet t) :
    (dstRow ![j, i, 0, 0] inb).view.write (Elt F) fd (ReadAs.same.apply ((srcRow ![r, 0, 0] inb').view.read (Elt F) y)) Finset.univ x
      = gathered p1 p2 y x := by
  obtain ⟨hx0, hx1⟩ := mem_rowSet.mp hx
  have e := dstRow_emb j i inb x (by omega) (by omega)
  have hw' : wordAt p1 p2 (c0 x) (c1 x) = wordAt p1 p2 ⟨t.val % 2, by omega⟩ ⟨i, hi⟩ := by
    congr 1
    · exact Fin.ext hx0
    · exact Fin.ext (by show (x 1).val = i; omega)
  conv_lhs => rw [← e]
  rw [View.write_emb_of_mem _ _ (Finset.mem_univ _)]
  show y ((srcRow ![r, 0, 0] inb').view.emb (ix3 (0 : Fin 1) (c2 x) (c3 x) : S1x16x128.Idx)) = _
  rw [srcRow_emb r hr]
  unfold gathered
  rw [show rowOf (wordAt p1 p2 (c0 x) (c1 x)) = ⟨r, hr⟩ from Fin.ext (by rw [hw', rowOf_val (by omega)]; exact hw)]

end Cert.KernelIdeal.Hand

end
-- ==== Proof.Issue.lean ====
/-
  Issuing one transfer of a batch whose source is held as a read share of the WHOLE source buffer: the transfer takes the
  slice it reads out of that share, the rest of the share is deposited beside it, and what the transfer delivers is its
  destination row, written, together with the share of the whole buffer again.
-/
module

public import Idealize.ShloMosaic.Lib.Batch
public import Idealize.ShloMosaic.Lib.Tactic

@[expose] public section

noncomputable section

namespace Cert.KernelIdeal.Hand

open Idealize.ShloMosaic Idealize.ShloMosaic.TcCoe
open Idealize.SL
open Idealize.SL.BI (sProp Storable bigSep bigSep_insert)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl))
variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {n : ℕ}

/-- A slice taken out of a share of a whole buffer, and put back. -/
theorem take_slice {ℓ : Loc nD τ sig} (S : Finset (Idx ℓ)) (q : PosShare TreeShare) (f : Buf Val ℓ) :
    (ℓ ↦{q} f : sProp 𝕄) ⊣⊢ iprop((ℓ ↦[S]{q} f) ∗ ℓ ↦[Sᶜ]{q} f) := by
  classical
  have h := pointsTo_union (Ix := Ix) (Name := Name) (U := U) (Lvl := Lvl) (ℓ := ℓ) (q := q) (f := f) (I := S) (J := Sᶜ) disjoint_compl_right
  rwa [Finset.union_compl] at h

theorem wp_issueRow [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {fd : Buf Val (dst.view.loc c)}
    {D : Fin n → sProp 𝕄} {j u : ℕ}
    (ι : Ix) (N : ℕ) (hN : dst.view.amount sm = N) (hSd : dst.view.set ⊆ Sd) (hj : j < n) (hu : u ≤ j * N)
    (hD : iprop((dst.view.loc c ↦[Sd]{fullShare} (dst.view.write Val fd (ReadAs.same.apply (src.view.read Val fs)) Finset.univ))
              ∗ (src.view.loc c ↦{q} fs)) ⊢ D ⟨j, hj⟩) :
    iprop((src.view.loc c ↦{q} fs) ∗ (dst.view.loc c ↦[Sd]{fullShare} fd) ∗ Batch EC c sm ι N D j u)
      ⊢ iprop((Batch EC c sm ι N D (j + 1) u -∗ wp frame (wpE defs 𝒱 c bd) Set.univ (k ⟨⟩) Q)
          -∗ wp frame (wpE defs 𝒱 c bd) Set.univ (.op (.enqueueDma src (.here dst) sm hsrc hdst hsem) k) Q) := by
  unfold Batch
  iintro ⟨Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hs' := (take_slice src.view.set q fs).1 $$ Hs
  icases Hs' with ⟨Hs, Hrest⟩
  iapply (wp_enqueueDmaAs 𝒱 c bd Set.univ ι N hN) $$ [Hs Hd] [Ht Hrest]
  · isplitl [Hs]; · iexact Hs
    iapply (pointsTo_writeUpdate c hSd) $$ Hd
  · iapply (batch_creditUpdate_with EC ⟨j, hj⟩ (put := (src.view.loc c ↦[src.view.setᶜ]{q} fs : sProp 𝕄)) (by
      refine .trans ?_ hD
      iintro ⟨Hr, Hd, Hs⟩
      isplitl [Hd]; · iexact Hd
      iapply (take_slice src.view.set q fs).2
      isplitl [Hs]; · iexact Hs
      iexact Hr))
    isplitr; · iexact Hinv
    isplitl [Ht]; · iexact Ht
    iexact Hrest
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

end Cert.KernelIdeal.Hand

end
-- ==== Proof.Loops.lean ====
/-
  The kernel body. One batch of 16384 transfers completes on the one scratch semaphore. Trip i of the first loop reads
  the two tables' words at i, issues transfers 2i and 2i + 1, and from trip 16 on waits for two transfers' amounts; the
  second loop's 16 trips wait for the rest. After the last wait every transfer's delivery is collected.
-/
module

public import proofs.«01_k».proof.Proof.Rows
public import proofs.«01_k».proof.Proof.Issue
public import proofs.«01_k».proof.Proof.Gen.KernelIdeal.Loops
public import Idealize.ShloMosaic.Lib.Pipeline.FrameBody
public import Idealize.ShloMosaic.Lib.ShareLeaves

@[expose] public section

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ShareLeaves (leaf pointsTo_leaves)
open Idealize.ShloMosaic.Transfers (Batch pending pending_succ not_mem_pending_succ)

variable {F : FTy → Type} [FloatOps F]

local notation "𝕄" => MT nD τ sig Unit (Elt F) ℕ (Pipeline.UD sig nD τ) ℕ

/-! ## Words, offsets, conditions -/

theorem trips1 : k0_t1_loop.trips = 8192 := by decide
theorem trips2 : k0_t2_loop.trips = 16 := by decide

/-- The amount one transfer credits. -/
def rowAmt : ℕ := (dstRow ![0, 0, 0, 0] inb_S2x8192x16x128_S1x1x16x128_0_0_0_0).view.amount (SemLoc.dma (sig := sig) 0)

theorem rowAmt_pos : 0 < rowAmt := by
  unfold rowAmt; exact View.amount_pos _ _ (by decide)

/-- The one element a table's one-word load names. -/
theorem word_emb (off : Fin 1 → ℕ) (inb : ∀ a, off a + S1.size a ≤ S8192.size a) (k : ℕ) (hk : k < 8192) (e : off = ![k]) (x : S1.Idx) :
    (Rect.unit (s := S8192) off S1.size inb).emb x = ix1 (⟨k, hk⟩ : Fin 8192) := by
  subst e
  funext a
  apply Fin.ext
  match a with
  | ⟨0, _⟩ =>
    have hx : (x 0).val < 1 := (x 0).isLt
    show k + 1 * (x 0).val = k
    omega

/-- A word below 32768 passes the check of the row it names. -/
theorem chk1_of_lt {w : BitVec 32} (h : w.toNat < 32768) : k0_chk1 w := by
  unfold k0_chk1 k0_off3
  refine ⟨?_, ?_⟩
  · intro a; fin_cases a <;> simp [Scalar.indexCast] <;> omega
  · intro hinb
    exact Affine.words_rows (of_decide_eq_true rfl) rfl (by decide)

theorem wait_cond (k : Fin k0_t1_loop.trips) :
    Scalar.cmpi .ne (Scalar.extui (Scalar.cmpi .sge (Scf.iv 0#32 1#32 k) 16#32)) (0#32) = 1#1 ↔ 16 ≤ k.val := by
  have hk : k.val < 8192 := lt_of_lt_of_eq k.isLt trips1
  have e : Scf.iv (0#32 : BitVec 32) 1#32 k = BitVec.ofNat 32 k.val := by
    unfold Scf.iv; simp
  rw [e]
  have h : (16#32).sle (BitVec.ofNat 32 k.val) = decide (16 ≤ k.val) := by
    simp only [BitVec.sle, BitVec.toInt, BitVec.toNat_ofNat]
    congr 1
    rw [Nat.mod_eq_of_lt (a := k.val) (by omega)]
    simp only [eq_iff_iff]
    omega
  simp only [Scalar.cmpi, IntOp.cmpi, Scalar.extui, h]
  by_cases h16 : 16 ≤ k.val <;> simp [h16]

theorem chk2_of_lt {w : BitVec 32} (h : w.toNat < 32768) : k0_chk2 w := by
  unfold k0_chk2 k0_off6
  refine ⟨?_, ?_⟩
  · intro a; fin_cases a <;> simp [Scalar.indexCast] <;> omega
  · intro hinb
    exact Affine.words_rows (of_decide_eq_true rfl) rfl (by decide)

theorem dstRow_sub (j i : ℕ) (off : Fin 4 → ℕ) (inb : ∀ a, off a + S1x1x16x128.size a ≤ S2x8192x16x128.size a) (e : off = ![j, i, 0, 0])
    (t : Fin 16384) (h0 : j = t.val % 2) (h1 : i = t.val / 2) : (dstRow off inb).view.set ⊆ rowSet t := by
  subst e; exact dstRow_set j i inb t h0 h1

theorem pow14 : 16384 = 2 ^ 14 := by norm_num

/-- Transfer `t`'s share of the operand: one of the 2^14 the full share splits into. -/
def share (t : Fin 16384) : PosShare TreeShare := leaf 14 fullShare (Fin.cast pow14 t)

/-- The shares split over a range whose size is a power of two by an equation. -/
theorem leaves_cast {ℓ : Loc nD τ sig} (f : Buf (Elt F) ℓ) (n N : ℕ) (h : N = 2 ^ n) (q : PosShare TreeShare) :
    (ℓ ↦{q} f : sProp 𝕄) = bigSep Finset.univ fun i : Fin N => ℓ ↦{leaf n q (Fin.cast h i)} f := by
  subst h; exact pointsTo_leaves Finset.univ f n q

/-! ## The batch -/

section Batch

variable (c : Dev nD) (p1 p2 : TabC) (y : OpC F)

/-- What transfer `t` delivers: its row at the finished result, and its share of the operand. -/
def D (t : Fin 16384) : sProp 𝕄 :=
  iprop((((c : Thread nD τ).loc main_v0) ↦[rowSet t]{fullShare} gathered p1 p2 y)
    ∗ ((c : Thread nD τ).loc main_arg2) ↦{share t} y)

instance D_storable (t : Fin 16384) : Storable (upEmb : UEmb _ 𝕄) (D c p1 p2 y t) := by unfold D; infer_instance

/-- What transfer `t` is issued from: its row at any contents, and its share of the operand. -/
def T (f : ResC F) (t : Fin 16384) : sProp 𝕄 :=
  iprop((((c : Thread nD τ).loc main_v0) ↦[rowSet t]{fullShare} f)
    ∗ ((c : Thread nD τ).loc main_arg2) ↦{share t} y)

/-- `j` transfers issued, `u` waited for. -/
abbrev batch (j u : ℕ) : sProp 𝕄 :=
  Batch (countersEmb (U := Pipeline.UD sig nD τ)) (c : Thread nD τ) (SemLoc.dma (sig := sig) 0) () rowAmt (D c p1 p2 y) j u

/-- The two tables, each held at the share the launch gives the body. -/
abbrev tabs : sProp 𝕄 :=
  iprop((((c : Thread nD τ).loc main_arg0) ↦{fullShare.right} p1) ∗ ((c : Thread nD τ).loc main_arg1) ↦{fullShare.right} p2)

/-- Before trip `k` of the first loop. -/
def inv1 (f : ResC F) (k : ℕ) (_ : Unit) : sProp 𝕄 :=
  iprop(tabs c p1 p2 ∗ batch c p1 p2 y (2 * k) (2 * (k - 16) * rowAmt)
    ∗ bigSep (pending (n := 16384) (2 * k)) (T c y f) ∗ ∃ W, owes (c : Thread nD τ) 0 W)

theorem T_step (f : ResC F) (k : ℕ) (hk : k < 16384) :
    bigSep (pending (n := 16384) k) (T c y f) ⊢ iprop(T c y f ⟨k, hk⟩ ∗ bigSep (pending (n := 16384) (k + 1)) (T c y f)) :=
  Entails.of_eq (by rw [pending_succ hk, bigSep_insert (not_mem_pending_succ hk)]; rfl)

theorem deliver (f : ResC F) (t : Fin 16384) (j i r : ℕ) (hr : r < 32768) (off : Fin 4 → ℕ) (off' : Fin 3 → ℕ)
    (inb : ∀ a, off a + S1x1x16x128.size a ≤ S2x8192x16x128.size a)
    (inb' : ∀ a, off' a + S1x16x128.size a ≤ S32768x16x128.size a)
    (e : off = ![j, i, 0, 0]) (e' : off' = ![r, 0, 0])
    (h0 : j = t.val % 2) (h1 : i = t.val / 2) (hi : i < 8192)
    (hw : (wordAt p1 p2 ⟨t.val % 2, by omega⟩ ⟨i, hi⟩).toNat = r) :
    (iprop((((c : Thread nD τ).loc main_v0) ↦[rowSet t]{fullShare}
        ((dstRow off inb).view.write (Elt F) f (ReadAs.same.apply ((srcRow off' inb').view.read (Elt F) y)) Finset.univ))
      ∗ ((c : Thread nD τ).loc main_arg2) ↦{share t} y) : sProp 𝕄) ⊢ D c p1 p2 y t := by
  subst e e'
  unfold D
  rw [pointsTo_congr (landed p1 p2 y f t j i r hr inb inb' h0 h1 hi hw)]

/-- Issuing transfer `t`. -/
theorem issue (𝒱 : Variants) (f : ResC F) (t : Fin 16384) (j i r u : ℕ) (hr : r < 32768) (off : Fin 4 → ℕ) (off' : Fin 3 → ℕ)
    (inb : ∀ a, off a + S1x1x16x128.size a ≤ S2x8192x16x128.size a)
    (inb' : ∀ a, off' a + S1x16x128.size a ≤ S32768x16x128.size a)
    (e : off = ![j, i, 0, 0]) (e' : off' = ![r, 0, 0])
    (h0 : j = t.val % 2) (h1 : i = t.val / 2) (hi : i < 8192)
    (hw : (wordAt p1 p2 ⟨t.val % 2, by omega⟩ ⟨i, hi⟩).toNat = r) (hu : u ≤ t.val * rowAmt)
    {hsrc : (srcRow off' inb').view.WordExact} {hdst : (dstRow off inb).view.WordExact}
    {hsem : DmaTarget.Typed (nD := nD) (τ := τ) (p := .tc) Space.hbm (SemLoc.dma (sig := sig) cc0_scratch0.sem) (.here (dstRow off inb))}
    {k : PUnit → Prog (TpuEff nD τ sig (Elt F) Λ₀ .tc) Unit} {Q : Unit → sProp 𝕄} :
    iprop((((c : Thread nD τ).loc main_arg2) ↦{share t} y) ∗ (((c : Thread nD τ).loc main_v0) ↦[rowSet t]{fullShare} f)
        ∗ batch c p1 p2 y t.val u)
      ⊢ iprop((batch c p1 p2 y (t.val + 1) u -∗ wp frame (wpE defs₀ 𝒱 (c : Thread nD τ) none) Set.univ (k ⟨⟩) Q)
          -∗ wp frame (wpE defs₀ 𝒱 (c : Thread nD τ) none) Set.univ
            (.op (.enqueueDma (srcRow off' inb') (.here (dstRow off inb)) (SemLoc.dma cc0_scratch0.sem) hsrc hdst hsem) k) Q) :=
  wp_issueRow (countersEmb (U := Pipeline.UD sig nD τ)) 𝒱 (c : Thread nD τ) none (src := srcRow off' inb') (dst := dstRow off inb)
    (sm := SemLoc.dma cc0_scratch0.sem) (q := share t) (fs := y) (fd := f)
    (Sd := rowSet t) (D := D c p1 p2 y) (j := t.val) (u := u) () rowAmt rfl
    (dstRow_sub j i off inb e t h0 h1) t.isLt hu
    (deliver c p1 p2 y f t j i r hr off off' inb inb' e e' h0 h1 hi hw)

/-- Waiting for one transfer's amount: nothing is handed back yet. -/
theorem wait (𝒱 : Variants) (j w : ℕ) (hu : w + 1 ≤ j) (W : Waits sig Unit)
    {hsrc : (srcRow ![0, 0, 0] inb_S32768x16x128_S1x16x128_0_0_0).view.WordExact}
    {hdst : (dstRow ![0, 0, 0, 0] inb_S2x8192x16x128_S1x1x16x128_0_0_0_0).view.WordExact}
    {k : PUnit → Prog (TpuEff nD τ sig (Elt F) Λ₀ .tc) Unit} {Q : Unit → sProp 𝕄} :
    iprop(batch c p1 p2 y j (w * rowAmt) ∗ owes (c : Thread nD τ) 0 W)
      ⊢ iprop((iprop(batch c p1 p2 y j ((w + 1) * rowAmt) ∗ owes (c : Thread nD τ) 0 (insert (SemLoc.dma cc0_scratch0.sem, ()) W))
            -∗ wp frame (wpE defs₀ 𝒱 (c : Thread nD τ) none) Set.univ (k ⟨⟩) Q)
          -∗ wp frame (wpE defs₀ 𝒱 (c : Thread nD τ) none) Set.univ
            (.op (.waitDma2 cc0_scratch0.sem (srcRow ![0, 0, 0] inb_S32768x16x128_S1x16x128_0_0_0)
              (dstRow ![0, 0, 0, 0] inb_S2x8192x16x128_S1x1x16x128_0_0_0_0) hsrc hdst) k) Q) := by
  have h := Transfers.wp_waitBatchMul (countersEmb (U := Pipeline.UD sig nD τ)) 𝒱 (c : Thread nD τ) none (defs := defs₀)
    (sem := cc0_scratch0.sem) (srcw := srcRow ![0, 0, 0] inb_S32768x16x128_S1x16x128_0_0_0)
    (dstw := dstRow ![0, 0, 0, 0] inb_S2x8192x16x128_S1x1x16x128_0_0_0_0) (hsrc := hsrc) (hdst := hdst) (k := k) (Q := Q) ()
    (N := rowAmt) 1 (Nat.one_mul _).symm (D := D c p1 p2 y) (j := j) (u := w * rowAmt)
    (by rw [Nat.mul_comm rowAmt, ← Nat.add_mul]; exact Nat.mul_le_mul_right _ hu) (W := W)
  rw [← Nat.add_mul] at h
  exact h

variable (h1 : ∀ x, (p1 x).toNat < 32768) (h2 : ∀ x, (p2 x).toNat < 32768)
variable (𝒱 : Variants) (i : grid0.Coords)

include h1 h2 in
theorem step1 (f : ResC F) (k : Fin k0_t1_loop.trips) (acc : Unit) :
    inv1 c p1 p2 y f k.val acc ⊢ wp frame (wpE defs₀ 𝒱 (c : Thread nD τ) none) Set.univ
      (k0_t1_body (F := F) i (Memref.whole main_arg0) (Memref.isWhole_whole _) (Memref.whole main_arg1) (Memref.isWhole_whole _) (Memref.whole main_arg2) (Memref.isWhole_whole _)
        (Memref.whole main_v0) (Memref.isWhole_whole _) cc0_scratch0 k acc)
      (inv1 c p1 p2 y f (k.val + 1)) := by
  have hk : k.val < 8192 := lt_of_lt_of_eq k.isLt trips1
  unfold inv1
  iintro ⟨⟨Hp1, Hp2⟩, HB, HT, ⟨%W, HO⟩⟩
  ihave HT' := (T_step c y f (2 * k.val) (by omega)) $$ HT
  icases HT' with ⟨Ha, HT⟩
  ihave HT' := (T_step c y f (2 * k.val + 1) (by omega)) $$ HT
  icases HT' with ⟨Hb, HT⟩
  unfold T
  icases Ha with ⟨Had, Has⟩
  icases Hb with ⟨Hbd, Hbs⟩
  dsimp only [k0_t1_body]
  iapply (wp_load_rect 𝒱 (c : Thread nD τ) none Set.univ (m := Memref.whole main_arg0)
    (r := Rect.unit (s := S8192) (k0_off1 k) S1.size (k0_off1_inb k)) (Finset.subset_univ _)) $$ Hp1; iintro Hp1
  have hv1 := congrArg p1 (word_emb (k0_off1 k) (k0_off1_inb k) k.val hk (k0_off1_eq k) (Shape.Idx.first (s := S1) (numel1_S1.symm ▸ Nat.one_pos)))
  have hlt1 := h1 (ix1 (⟨k.val, hk⟩ : Fin 8192))
  rw [← hv1] at hlt1
  have hc1 : k0_chk1 (((Memref.whole main_arg0).access (Rect.unit (s := S8192) (k0_off1 k) S1.size (k0_off1_inb k)) : View sig .tc _ _ _).read (Elt F) p1 (Shape.Idx.first (s := S1) (numel1_S1.symm ▸ Nat.one_pos))) := chk1_of_lt hlt1
  iapply (wp_assume 𝒱 (c : Thread nD τ) none Set.univ hc1)
  iapply (issue c p1 p2 y 𝒱 f ⟨2 * k.val, by omega⟩ 0 k.val _ (2 * (k.val - 16) * rowAmt) hlt1 _ _ (k0_off2_inb k)
    (k0_off3_inb _ hc1) (k0_off2_eq k) rfl (by show 0 = 2 * k.val % 2; omega)
      (by show k.val = 2 * k.val / 2; omega) hk (by rw [hv1]; unfold wordAt; rw [if_pos (by show 2 * k.val % 2 = 0; omega)])
      (Nat.mul_le_mul_right _ (by show 2 * (k.val - 16) ≤ 2 * k.val; omega))) $$ [Has Had HB]
  · isplitl [Has]; · iexact Has
    isplitl [Had]; · iexact Had
    iexact HB
  iintro HB
  iapply (wp_load_rect 𝒱 (c : Thread nD τ) none Set.univ (m := Memref.whole main_arg1)
    (r := Rect.unit (s := S8192) (k0_off4 k) S1.size (k0_off4_inb k)) (Finset.subset_univ _)) $$ Hp2; iintro Hp2
  have hv2 := congrArg p2 (word_emb (k0_off4 k) (k0_off4_inb k) k.val hk (k0_off4_eq k) (Shape.Idx.first (s := S1) (numel1_S1.symm ▸ Nat.one_pos)))
  have hlt2 := h2 (ix1 (⟨k.val, hk⟩ : Fin 8192))
  rw [← hv2] at hlt2
  have hc2 : k0_chk2 (((Memref.whole main_arg1).access (Rect.unit (s := S8192) (k0_off4 k) S1.size (k0_off4_inb k)) : View sig .tc _ _ _).read (Elt F) p2 (Shape.Idx.first (s := S1) (numel1_S1.symm ▸ Nat.one_pos))) := chk2_of_lt hlt2
  iapply (wp_assume 𝒱 (c : Thread nD τ) none Set.univ hc2)
  iapply (issue c p1 p2 y 𝒱 f ⟨2 * k.val + 1, by omega⟩ 1 k.val _ (2 * (k.val - 16) * rowAmt) hlt2 _ _ (k0_off5_inb k)
    (k0_off6_inb _ hc2) (k0_off5_eq k) rfl (by show 1 = (2 * k.val + 1) % 2; omega)
      (by show k.val = (2 * k.val + 1) / 2; omega) hk (by rw [hv2]; unfold wordAt; rw [if_neg (by show ¬ (2 * k.val + 1) % 2 = 0; omega)])
      (Nat.mul_le_mul_right _ (by show 2 * (k.val - 16) ≤ 2 * k.val + 1; omega))) $$ [Hbs Hbd HB]
  · isplitl [Hbs]; · iexact Hbs
    isplitl [Hbd]; · iexact Hbd
    iexact HB
  iintro HB
  by_cases hw : 16 ≤ k.val
  · have hcond := (wait_cond k).mpr hw
    simp only [hcond, ↓reduceDIte, Prog.bind_op, Prog.bind_ret, Prog.pure_eq_ret]
    iapply (wait c p1 p2 y 𝒱 (2 * k.val + 1 + 1) (2 * (k.val - 16)) (by omega) W) $$ [HB HO]
    · isplitl [HB]; · iexact HB
      iexact HO
    iintro ⟨HB, HO⟩
    iapply (wait c p1 p2 y 𝒱 (2 * k.val + 1 + 1) (2 * (k.val - 16) + 1) (by omega) _) $$ [HB HO]
    · isplitl [HB]; · iexact HB
      iexact HO
    iintro ⟨HB, HO⟩
    dsimp only [Prog.bind]
    sl_step
    rw [show 2 * (k.val + 1) = 2 * k.val + 1 + 1 by omega,
      show 2 * (k.val + 1 - 16) = 2 * (k.val - 16) + 1 + 1 by omega]
    isplitl [Hp1 Hp2]
    · isplitl [Hp1]; · iexact Hp1
      iexact Hp2
    isplitl [HB]; · iexact HB
    isplitl [HT]; · iexact HT
    iexists _; iexact HO
  · have hcond := fun h => hw ((wait_cond k).mp h)
    simp only [dif_neg hcond, Prog.bind_op, Prog.bind_ret, Prog.pure_eq_ret]
    dsimp only [Prog.bind]
    sl_step
    rw [show 2 * (k.val + 1) = 2 * k.val + 1 + 1 by omega, show 2 * (k.val + 1 - 16) = 2 * (k.val - 16) by omega]
    isplitl [Hp1 Hp2]
    · isplitl [Hp1]; · iexact Hp1
      iexact Hp2
    isplitl [HB]; · iexact HB
    isplitl [HT]; · iexact HT
    iexists W; iexact HO

/-- Before trip `k` of the second loop. -/
def inv2 (k : ℕ) (_ : Unit) : sProp 𝕄 :=
  iprop(batch c p1 p2 y 16384 (2 * (8176 + k) * rowAmt) ∗ ∃ W, owes (c : Thread nD τ) 0 W)

theorem step2 (k : Fin k0_t2_loop.trips) (acc : Unit) :
    inv2 c p1 p2 y k.val acc ⊢ wp frame (wpE defs₀ 𝒱 (c : Thread nD τ) none) Set.univ
      (k0_t2_body (F := F) i (Memref.whole main_arg0) (Memref.isWhole_whole _) (Memref.whole main_arg1) (Memref.isWhole_whole _) (Memref.whole main_arg2) (Memref.isWhole_whole _)
        (Memref.whole main_v0) (Memref.isWhole_whole _) cc0_scratch0 k acc)
      (inv2 c p1 p2 y (k.val + 1)) := by
  have hk : k.val < 16 := lt_of_lt_of_eq k.isLt trips2
  unfold inv2
  iintro ⟨HB, ⟨%W, HO⟩⟩
  dsimp only [k0_t2_body]
  iapply (wait c p1 p2 y 𝒱 16384 (2 * (8176 + k.val)) (by omega) W) $$ [HB HO]
  · isplitl [HB]; · iexact HB
    iexact HO
  iintro ⟨HB, HO⟩
  iapply (wait c p1 p2 y 𝒱 16384 (2 * (8176 + k.val) + 1) (by omega) _) $$ [HB HO]
  · isplitl [HB]; · iexact HB
    iexact HO
  iintro ⟨HB, HO⟩
  dsimp only [Prog.bind]
  sl_step
  rw [show 2 * (8176 + (k.val + 1)) = 2 * (8176 + k.val) + 1 + 1 by omega]
  isplitl [HB]; · iexact HB
  iexists _; iexact HO

/-- The operand as its 16384 shares. -/
theorem op_leaves : (((c : Thread nD τ).loc main_arg2) ↦{fullShare} y : sProp 𝕄)
    = bigSep Finset.univ fun t : Fin 16384 => ((c : Thread nD τ).loc main_arg2) ↦{share t} y := by
  have h := leaves_cast (ℓ := ((c : Thread nD τ).loc main_arg2)) y 14 16384 pow14 fullShare
  exact h

/-- The result as its 16384 rows. -/
theorem res_rows (f : ResC F) : (((c : Thread nD τ).loc main_v0) ↦{fullShare} f : sProp 𝕄)
    = bigSep Finset.univ fun t : Fin 16384 => ((c : Thread nD τ).loc main_v0) ↦[rowSet t]{fullShare} f := by
  have h := pointsTo_biUnion (Ix := Unit) (Name := ℕ) (U := Pipeline.UD sig nD τ) (Lvl := ℕ) (Val := Elt F)
    (ℓ := ((c : Thread nD τ).loc main_v0)) (q := fullShare) (f := f) (Finset.univ : Finset (Fin 16384)) rowSet rowSet_disjoint
  rw [← h]; exact congrArg (fun S => (((c : Thread nD τ).loc main_v0) ↦[S]{fullShare} f : sProp 𝕄)) rowSet_cover.symm

theorem split_all (f : ResC F) :
    (iprop((((c : Thread nD τ).loc main_v0) ↦{fullShare} f) ∗ ((c : Thread nD τ).loc main_arg2) ↦{fullShare} y) : sProp 𝕄)
      = bigSep (pending (n := 16384) 0) (T c y f) := by
  rw [op_leaves c y, res_rows c f, Transfers.pending_zero]
  exact (BI.bigSep_sep Finset.univ _ _).symm

theorem join_all : bigSep Finset.univ (D c p1 p2 y)
    = (iprop((((c : Thread nD τ).loc main_v0) ↦{fullShare} gathered p1 p2 y) ∗ ((c : Thread nD τ).loc main_arg2) ↦{fullShare} y) : sProp 𝕄) := by
  rw [op_leaves c y, res_rows c (gathered p1 p2 y)]
  exact BI.bigSep_sep Finset.univ _ _

include h1 h2 in
/-- The whole body: from the tables, the operand and the result at any contents, the semaphore at zero, to the result
    gathered. -/
theorem body_run (f : ResC F) (W : Waits sig Unit) :
    iprop(tabs c p1 p2 ∗ (((c : Thread nD τ).loc main_arg2) ↦{fullShare} y) ∗ (((c : Thread nD τ).loc main_v0) ↦{fullShare} f)
        ∗ semVal ((c : Thread nD τ), SemLoc.dma (sig := sig) 0) 0 ∗ owes (c : Thread nD τ) 0 W)
      ⊢ (wp frame (wpE defs₀ 𝒱 (c : Thread nD τ) none) Set.univ
      (cc0_combine_rows (F := F) i (Memref.whole main_arg0) (Memref.isWhole_whole _) (Memref.whole main_arg1) (Memref.isWhole_whole _) (Memref.whole main_arg2) (Memref.isWhole_whole _)
        (Memref.whole main_v0) (Memref.isWhole_whole _) cc0_scratch0)
      (fun _ => iprop(tabs c p1 p2 ∗ (((c : Thread nD τ).loc main_arg2) ↦{fullShare} y)
        ∗ (((c : Thread nD τ).loc main_v0) ↦{fullShare} gathered p1 p2 y)
        ∗ semVal ((c : Thread nD τ), SemLoc.dma (sig := sig) 0) 0 ∗ ∃ W', owes (c : Thread nD τ) 0 W')) : sProp 𝕄) := by
  iintro ⟨Ht, Hy, Hf, Hs, HO⟩
  imod (Transfers.batch_alloc' (Lvl := ℕ) (countersEmb (U := Pipeline.UD sig nD τ)) (c : Thread nD τ) () rowAmt (D c p1 p2 y) (sm := .dma 0) (E := Set.univ)) $$ Hs with HB
  ihave HT := (Entails.of_eq (split_all c y f)) $$ [Hf Hy]
  · isplitl [Hf]; · iexact Hf
    iexact Hy
  rw [cc0_combine_rows_eq_skeleton]
  sl_unfold [cc0_combine_rows_skel]
  sl_for (inv1 c p1 p2 y f) $$ [Ht HB HT HO]
  · intro k acc; exact step1 c p1 p2 y h1 h2 𝒱 i f k acc
  · unfold inv1
    isplitl [Ht]; · iexact Ht
    isplitl [HB]
    · rw [show 2 * (0 - 16) * rowAmt = 0 by simp]; iexact HB
    isplitl [HT]; · iexact HT
    iexists W; iexact HO
  iintro %acc HL
  ihave HL' := (show inv1 c p1 p2 y f k0_t1_loop.trips acc ⊢ iprop(tabs c p1 p2 ∗ inv2 c p1 p2 y 0 ()) from by
    unfold inv1 inv2
    rw [trips1]
    iintro ⟨Ht, HB, -, HO⟩
    isplitl [Ht]; · iexact Ht
    isplitl [HB]; · iexact HB
    iexact HO) $$ HL
  icases HL' with ⟨Ht, HL⟩
  sl_for (inv2 c p1 p2 y) $$ [HL]
  · intro k acc; exact step2 c p1 p2 y 𝒱 i k acc
  · iexact HL
  iintro %acc2 HL
  ihave HL' := (show inv2 c p1 p2 y k0_t2_loop.trips acc2 ⊢ iprop(batch c p1 p2 y 16384 (rowAmt * 16384) ∗ ∃ W, owes (c : Thread nD τ) 0 W) from by
    unfold inv2
    rw [trips2, Nat.mul_comm rowAmt]) $$ HL
  icases HL' with ⟨HB, HO⟩
  imod (Transfers.batch_collect' (countersEmb (U := Pipeline.UD sig nD τ)) (c : Thread nD τ) (N := rowAmt) rowAmt_pos (D := D c p1 p2 y)) $$ HB with ⟨Hall, Hs⟩
  ihave Hall' := (Entails.of_eq (join_all c p1 p2 y)) $$ Hall
  icases Hall' with ⟨Hf, Hy⟩
  sl_step
  isplitl [Ht]; · iexact Ht
  isplitl [Hy]; · iexact Hy
  isplitl [Hf]; · iexact Hf
  isplitl [Hs]; · iexact Hs
  iexact HO

end Batch

end Cert.KernelIdeal.Hand

end
-- ==== Proof.Run.lean ====
/-
  The launch: the kernel's run from any memory whose two tables hold rows of the operand ends with the result at
  `gathered`, every argument as it was, and every semaphore at zero. Proved once, over any number instance `F`.
-/
module

public import proofs.«01_k».proof.Proof.Loops
public import proofs.«01_k».proof.Proof.Gen.KernelIdeal.Launch
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one semaphore the body's transfers complete on. -/
def osem0 : Fin 1 → SemLoc sig := ![SemLoc.dma 0]

theorem ownSemFacts0 : Pipeline.OwnSemFacts spec0 osem0 := by decide

/-- The buffer the body reads by transfers, and the one it writes. -/
def H0 : Finset (Ref sig .tc) := {main_arg2}
def R0 : Finset (Ref sig .tc) := {main_v0}

theorem H0_sub : H0 ⊆ Pipeline.restRefsP sig pre0 spec0 := by decide
theorem R0_sub : R0 ⊆ Pipeline.restRefsP sig pre0 spec0 \ H0 := by decide

/-- A core's contents of its buffers at entry. -/
abbrev V (c : Dev nD) (b : Ref sig .tc) : Buf (Elt F) ((c : Thread nD τ).loc b) := m ((c : Thread nD τ).loc b)

/-- What the result holds at the end. -/
def outRows (c : Dev nD) : ResC F := gathered (V m c main_arg0 : TabC) (V m c main_arg1 : TabC) (V m c main_arg2 : OpC F)

/-- A core's contents of its buffers at the end. -/
def G (c : Dev nD) : (b : Ref sig .tc) → Buf (Elt F) ((c : Thread nD τ).loc b) :=
  Function.update (V m c) main_v0 (outRows m c)

theorem G_v0 (c : Dev nD) : G m c main_v0 = outRows m c := Function.update_self ..

/-- The tables' contents at the launch. -/
def adm (_ : Fin 1) : (pcfg0 (F := F)).Adm := ⟨fun k => V m 0 (pre0.ref k), trivial⟩

theorem tables_eq (c : Dev nD) (k : Fin pre0.K) : V m c (pre0.ref k) = (adm m 0).1 k := by
  have e : c = 0 := Subsingleton.elim c 0
  subst e; rfl

/-- The invariant around the one point: the launch's holdings, the result routed at its entry contents before the
    point and at its end contents after it. -/
def Φr (c : Dev nD) (n : ℕ) : sProp 𝕄 :=
  iprop(Pipeline.ΦDRG osem0 spec0 H0 R0 (V m) (if n = 0 then V m else G m) c ∗ Pipeline.ΦT pre0 (adm m 0).1 c)

def dats (p : Fin 1) (c : Dev nD) :
    Dat τ (Elt F) Unit ℕ (Pipeline.UD sig nD τ) ℕ (Pipeline.pin (pcfgs (F := F)) (adm m) p) c where
  A w := w.elim0
  after w _ := w.elim0
  Φ t := Φr m c t.val
  q w := w.elim0
  owed _ := 0

/-! ## The holdings, spelled out -/

theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma (sig := sig) 0) 0 := by
  rw [Pipeline.ownSems0_eq_of_list c osem0 [0] (by decide) (by decide)]
  rfl

theorem held0_eq (c : Dev nD) (W : (b : Ref sig .tc) → Buf (Elt F) ((c : Thread nD τ).loc b)) :
    (bigSep H0 fun b => (((c : Thread nD τ).loc b) ↦{fullShare} W b : sProp 𝕄))
      = (((c : Thread nD τ).loc main_arg2) ↦{fullShare} W main_arg2) := by
  rw [BI.bigSep_eq_bigSepL_of_eq [main_arg2] (by decide) (by decide)]
  rfl

theorem routed0_eq (c : Dev nD) (W : (b : Ref sig .tc) → Buf (Elt F) ((c : Thread nD τ).loc b)) :
    (Pipeline.routed R0 c W : sProp 𝕄) = (((c : Thread nD τ).loc main_v0) ↦{fullShare} W main_v0) := by
  unfold Pipeline.routed
  rw [BI.bigSep_eq_bigSepL_of_eq [main_v0] (by decide) (by decide)]
  rfl

theorem tables0_eq (c : Dev nD) :
    (Pipeline.ΦT pre0 (adm m 0).1 c : sProp 𝕄) = tabs c (V m c main_arg0 : TabC) (V m c main_arg1 : TabC) := by
  have e : c = 0 := Subsingleton.elim c 0
  subst e
  unfold Pipeline.ΦT Pipeline.prefHeld tabs
  rw [BI.bigSep_eq_bigSepL_of_eq [(0 : Fin 2), 1] (by decide) (by decide)]
  rfl

/-! ## The body at the point -/

variable (hpre : ∀ c : Dev nD, (∀ x, ((V m c main_arg0 : TabC) x).toNat < 32768) ∧ ∀ x, ((V m c main_arg1 : TabC) x).toNat < 32768)

theorem defs₀_row (t : Fin grid0.N) :
    defs₀ (F := F) .tc (cfg0 (adm m 0)).body ((cfg0 (adm m 0)).bodyArgs t ((cfg0 (adm m 0)).slots t))
      = cc0_combine_rows (grid0.coords t) (Memref.whole main_arg0) (Memref.isWhole_whole _) (Memref.whole main_arg1) (Memref.isWhole_whole _) (Memref.whole main_arg2) (Memref.isWhole_whole _) (Memref.whole main_v0) (Memref.isWhole_whole _) cc0_scratch0 := by
  unfold defs₀; rw [Defs.onTc_tc]

include hpre in
theorem sound_body (c : Dev nD) (t : Fin grid0.N) :
    iprop(Φr m c 0 ∗ (dats m 0 c).owesAt () t.castSucc)
      ⊢ wp frame (wpE (defs₀ (F := F)) Variants.none c none) Set.univ
          (cc0_combine_rows (grid0.coords t) (Memref.whole main_arg0) (Memref.isWhole_whole _) (Memref.whole main_arg1) (Memref.isWhole_whole _) (Memref.whole main_arg2) (Memref.isWhole_whole _) (Memref.whole main_v0) (Memref.isWhole_whole _) cc0_scratch0)
          (fun _ => iprop(Φr m c 1 ∗ (dats m 0 c).owesAt () t.succ)) := by
  unfold Dat.owesAt Pipeline.owesWithin
  rw [show (dats m 0 c).owed t.castSucc = 0 from rfl, show (dats m 0 c).owed t.succ = 0 from rfl]
  unfold Φr
  rw [if_pos rfl, if_neg (by decide), Pipeline.ΦDRG_eq, Pipeline.ΦDRG_eq, ownSems0_eq, held0_eq, routed0_eq, routed0_eq, tables0_eq, G_v0]
  iintro ⟨⟨⟨HS, Hg, Ho, HH, HR⟩, HT⟩, ⟨%W, -, HW⟩⟩
  iapply (Idealize.SL.Sem.wp_wand_r frame (wpE (defs₀ (F := F)) Variants.none (c : Thread nD τ) none) Set.univ)
  isplitl [HT HH HR Ho HW]
  · iapply (body_run c (V m c main_arg0 : TabC) (V m c main_arg1 : TabC) (V m c main_arg2 : OpC F) (hpre c).1 (hpre c).2
      Variants.none (grid0.coords t) (V m c main_v0 : ResC F) W)
    isplitl [HT]; · iexact HT
    isplitl [HH]; · iexact HH
    isplitl [HR]; · iexact HR
    isplitl [Ho]; · iexact Ho
    iexact HW
  iintro %_ ⟨HT, HH, HR, Ho, ⟨%W', HW'⟩⟩
  isplitl [HT HH HR Ho HS Hg]
  · isplitr [HT]
    · isplitl [HS]; · iexact HS
      isplitl [Hg]; · iexact Hg
      isplitl [Ho]; · iexact Ho
      isplitl [HH]; · iexact HH
      iexact HR
    iexact HT
  iexists W'; isplitr; · ipureintro; exact fun _ _ => Or.inl trivial
  iexact HW'

include hpre in
theorem body_obligation (c : Dev nD) :
    BodyObligation (dats m 0 c) (defs₀ (F := F)) Variants.none () Set.univ := fun t => by
  have ht : t = t0_0 := fin_N0 t
  rw [show (Finset.univ : Finset (Fin (Pipeline.pin (pcfgs (F := F)) (adm m) 0).W)) = ∅ from rfl, BI.bigSep_empty, BI.bigSep_empty, defs₀_row]
  subst ht
  refine triple_restated (sound_body m hpre c t0_0) rfl ?_ fun _ => ?_
  · show iprop(Φr m c 0 ∗ (dats m 0 c).owesAt () t0_0.castSucc ∗ BI.emp) ⊢ _
    iintro ⟨H, HW, -⟩
    isplitl [H]; · iexact H
    iexact HW
  · show _ ⊢ iprop(Φr m c 1 ∗ (dats m 0 c).owesAt () t0_0.succ ∗ BI.emp)
    iintro ⟨H, HW⟩
    isplitl [H]; · iexact H
    isplitl [HW]; · iexact HW
    iempintro

/-! ## The run -/

include hpre in
set_option backward.isDefEq.respectTransparency.types false in
theorem run_post : θ_run defs (onTc (τ := τ) (main (F := F))) (s₀ m ρ)
    (fun r => Pipeline.FramePostRG (Pipeline.pin (pcfgs (F := F)) (adm m)) (dats m) 0 R0 (V m) (G m) r ∧ r.2.sem = fun _ => 0) :=
  Pipeline.θ_run_frameP_dmaRG (Q' := _) pcfgs (adm m) (dats m) (0 : Fin 1) launch0 osem0 defs₀ Variants.none ownSemFacts0 H0 R0 H0_sub R0_sub m ρ main
    (hbody := fun c => (body_obligation m hpre c).loose) (hshare := fun _ w => w.elim0)
    (howed := fun _ _ => rfl) (V := V m) (hmain := Pipeline.hmainP_region pcfgs 0 defs₀ Variants.none m main fun c => (main_chain c).trans rfl)
    (hA := fun _ w => w.elim0) (hpf := tables_eq m) (G := G m)
    (hin := fun _ => .rfl) (hout := fun c => by
      show Φr m c grid0.N ⊢ _
      rw [N_0]; unfold Φr; rw [if_neg (by decide)]
      iintro ⟨H, -⟩; iexact H)

include hpre in
/-- The kernel's run: the result at the gathered rows, the arguments as they were, every semaphore at zero. -/
theorem run_main : θ_run defs (onTc (τ := τ) (main (F := F))) ⟨m, fun _ => 0, ρ⟩ (fun r => (∀ c : Dev nD,
      (r.2.mem ((c.tc : Thread nD τ).loc main_v0) : ResC F)
        = gathered (m ((c.tc : Thread nD τ).loc main_arg0) : TabC) (m ((c.tc : Thread nD τ).loc main_arg1) : TabC) (m ((c.tc : Thread nD τ).loc main_arg2) : OpC F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.2 c main_v0 (by decide)).trans (G_v0 m c),
     (h.1.1 c).2 main_arg0 (Finset.mem_sdiff.mpr ⟨Pipeline.mem_restRefs_of main_arg0 (by decide) (fun w => w.elim0), by decide⟩),
     (h.1.1 c).2 main_arg1 (Finset.mem_sdiff.mpr ⟨Pipeline.mem_restRefs_of main_arg1 (by decide) (fun w => w.elim0), by decide⟩),
     (h.1.1 c).2 main_arg2 (Finset.mem_sdiff.mpr ⟨Pipeline.mem_restRefs_of main_arg2 (by decide) (fun w => w.elim0), by decide⟩)⟩, h.2⟩)
    (run_post m ρ hpre)

end Cert.KernelIdeal.Hand

end
-- ==== Proof.Value.lean ====
/-
  What the reference computes: row i of plane j of its result is the operand's row that table j names, for tables whose
  words all lie below 32768. The precondition says that of the words. The reference wraps a negative word and clamps a
  large one; at such words neither happens.
-/
module

public import proofs.«01_k».proof.Defs
public import proofs.«01_k».proof.Proof.Rows
public import proofs.«01_k».proof.Proof.Gen.ReferenceIdeal.Run
public import proofs.«01_k».proof.Proof.Gen.Pre_rows_in_range
public import Idealize.ShloMosaic.Lib.Pipeline.Value
public import Idealize.ShloMosaic.Lib.Quiescent
public import Idealize.ShloMosaic.Lib.Claim

@[expose] public section

noncomputable section

namespace Cert.RowsValue

open Cert.ReferenceIdeal Cert.ReferenceIdeal.Gen Cert.ReferenceIdeal.Value
open Idealize.ShloMosaic Idealize.ShloMosaic.TcCoe Idealize.ShloMosaic.ValueIdx Idealize.SL.Sem
open Cert.KernelIdeal.Hand (OpC ResC TabC gathered rowOf wordAt c0 c1 c2 c3)

variable {F : FTy → Type} [FloatOps F]

/-! ## The precondition -/

/-- The precondition's words: all of both tables' lie in [0, 32768). -/
theorem words_of_pre (p1 p2 : TabC) (y : OpC F) (h : Cert.Pre_rows_in_range.fn (F := F) p1 p2 y = fun _ => 1#1) :
    (∀ x, (p1 x).toNat < 32768) ∧ ∀ x, (p2 x).toNat < 32768 := by
  have both (p q : Bool) : IntOp.andi (BitVec.ofBool p) (BitVec.ofBool q) = BitVec.ofBool (p && q) := by
    cases p <;> cases q <;> decide
  have holds (p : Bool) : (BitVec.ofBool p = 1#1) ↔ p = true := by cases p <;> decide
  have key : ∀ x, (p1 x).toNat < 32768 ∧ (p2 x).toNat < 32768 := by
    intro x
    have e := congrFun h x
    simp only [Cert.Pre_rows_in_range.fn, andi, cmpi, broadcastInDim, constantI, IntOp.cmpi, both, holds, Bool.and_eq_true] at e
    obtain ⟨⟨⟨a, b⟩, c⟩, d⟩ := e
    simp only [BitVec.sle, BitVec.slt, decide_eq_true_eq, BitVec.toInt, BitVec.toNat_ofNat] at a b c d
    exact ⟨by omega, by omega⟩
  exact ⟨fun x => (key x).1, fun x => (key x).2⟩

/-! ## The reference's gather at an element -/

/-- The table as the reference's gather reads it: a negative word wrapped, on a trailing unit axis. -/
def wrapped (p : TabC) : S8192x1.Idx → BitVec 32 :=
  broadcastInDim S8192x1 ![0] bcast_S8192_S8192x1_0 (select (cmpi .slt p (broadcastInDim S8192 ![] bcast_S_S8192 (constantI S_ 32 0#32)))
    (addi p (broadcastInDim S8192 ![] bcast_S_S8192 (constantI S_ 32 32768#32))) p)

theorem wrapped_apply (p : TabC) (i : Fin 8192) (h : (p (ix1 i)).toNat < 32768) :
    wrapped p (ix2 i (0 : Fin 1)) = p (ix1 i) := by
  unfold wrapped
  refine (broadcastInDim_apply _ _ _ _ (ix1 i) fun a => ?_).trans ?_
  · match a with
    | ⟨0, _⟩ => rfl
  · have hsl : IntOp.cmpi .slt (p (ix1 i)) 0#32 = 0#1 := by
      simp only [IntOp.cmpi, BitVec.slt, BitVec.toInt, BitVec.toNat_ofNat]
      rw [decide_eq_false (by omega)]; rfl
    show Scalar.select (IntOp.cmpi .slt (p (ix1 i)) 0#32) _ (p (ix1 i)) = p (ix1 i)
    rw [hsl]; unfold Scalar.select; rw [if_neg (by decide)]

/-- The reference's gather at row i: the operand's row the table names. -/
theorem gather_apply (y : OpC F) (q : S8192x1.Idx → BitVec 32) (i : Fin 8192) (b : Fin 16) (l : Fin 128) (h : (q (ix2 i (0 : Fin 1))).toNat < 32768) :
    Host.gather gather_S32768x16x128_S8192x1_S8192x16x128_12_0_n_n_0_1_116128 y q (ix3 i b l)
      = y (ix3 (rowOf (q (ix2 i (0 : Fin 1)))) b l) := by
  set d := gather_S32768x16x128_S8192x1_S8192x16x128_12_0_n_n_0_1_116128 with hd
  unfold Host.gather
  congr 1
  funext a
  refine Fin.ext ?_
  show d.start _ q a + d.batchCoord _ a + d.offCoord _ a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ d.startIndexMap from List.mem_singleton.mpr rfl)]
    have hsi : d.siIdx (ix3 i b l) ⟨List.idxOf (0 : Fin 3) d.startIndexMap, List.idxOf_lt_length_iff.2 (List.mem_singleton.mpr rfl)⟩
        = ix2 i (0 : Fin 1) := by
      funext e; refine Fin.ext ?_
      match e with
      | ⟨0, _⟩ => rfl
      | ⟨1, _⟩ => rfl
    show min (q (d.siIdx _ _)).toInt.toNat (32768 - 1) + 0 + 0 = min (q _).toNat 32767
    erw [hsi]
    have : (q (ix2 i (0 : Fin 1))).toInt.toNat = (q (ix2 i (0 : Fin 1))).toNat := by
      simp only [BitVec.toInt]; omega
    omega
  · unfold GatherDims.start
    rw [dif_neg (show (1 : Fin 3) ∉ d.startIndexMap from List.not_mem_cons_of_ne_of_not_mem (by decide) List.not_mem_nil)]
    show 0 + 0 + d.offCoord _ 1 = b.val
    unfold GatherDims.offCoord
    rw [dif_pos (show (1 : Fin 3) ∈ d.sKept from (GatherDims.mem_sKept _ _).mpr ⟨by decide, by decide⟩)]
    simp only [Nat.zero_add]
    rfl
  · unfold GatherDims.start
    rw [dif_neg (show (2 : Fin 3) ∉ d.startIndexMap from List.not_mem_cons_of_ne_of_not_mem (by decide) List.not_mem_nil)]
    show 0 + 0 + d.offCoord _ 2 = l.val
    unfold GatherDims.offCoord
    rw [dif_pos (show (2 : Fin 3) ∈ d.sKept from (GatherDims.mem_sKept _ _).mpr ⟨by decide, by decide⟩)]
    simp only [Nat.zero_add]
    rfl

/-- One plane of the reference's result. -/
def plane (p : TabC) (y : OpC F) : S1x8192x16x128.Idx → Elt F .bf16 :=
  broadcastInDim S1x8192x16x128 ![1, 2, 3] bcast_S8192x16x128_S1x8192x16x128_1_2_3
    (Host.gather gather_S32768x16x128_S8192x1_S8192x16x128_12_0_n_n_0_1_116128 y (wrapped p))

theorem plane_apply (p : TabC) (y : OpC F) (i : Fin 8192) (b : Fin 16) (l : Fin 128) (h : (p (ix1 i)).toNat < 32768) :
    plane p y (ix4 (0 : Fin 1) i b l) = y (ix3 (rowOf (p (ix1 i))) b l) := by
  have e := gather_apply y (wrapped p) i b l (by rw [wrapped_apply p i h]; exact h)
  rw [wrapped_apply p i h] at e
  rw [← e]
  unfold plane
  refine broadcastInDim_apply _ _ _ _ (ix3 i b l) fun a => ?_
  match a with
  | ⟨0, _⟩ => rfl
  | ⟨1, _⟩ => rfl
  | ⟨2, _⟩ => rfl

/-- The reference's result. -/
def planes (p1 p2 : TabC) (y : OpC F) : S2x8192x16x128.Idx → Elt F .bf16 :=
  concatenate S2x8192x16x128 0 [⟨S1x8192x16x128, plane p1 y⟩, ⟨S1x8192x16x128, plane p2 y⟩]
    concatenates_S1x8192x16x128_S1x8192x16x128_S2x8192x16x128_d0

theorem planes_eq (p1 p2 : TabC) (y : OpC F) (h1 : ∀ x, (p1 x).toNat < 32768) (h2 : ∀ x, (p2 x).toNat < 32768) :
    planes p1 p2 y = gathered p1 p2 y := by
  funext x
  unfold planes gathered wordAt
  have hlt : (x 0).val < 2 := (x 0).isLt
  by_cases h0 : (x 0).val = 0
  · rw [if_pos (show (c0 x).val = 0 from h0), ← plane_apply p1 y (c1 x) (c2 x) (c3 x) (h1 _)]
    refine concatenate_pair_apply_left (s₁ := S1x8192x16x128) (s₂ := S1x8192x16x128) 0 _ _ _ x rfl _ fun b => ?_
    match b with
    | ⟨0, _⟩ => exact h0.symm
    | ⟨1, _⟩ => rfl
    | ⟨2, _⟩ => rfl
    | ⟨3, _⟩ => rfl
  · rw [if_neg (show ¬ (c0 x).val = 0 from h0), ← plane_apply p2 y (c1 x) (c2 x) (c3 x) (h2 _)]
    refine concatenate_pair_apply_right (s₁ := S1x8192x16x128) (s₂ := S1x8192x16x128) 0 _ _ _ x rfl rfl _ (fun b hb => ?_) ?_
    · match b with
      | ⟨0, _⟩ => exact absurd rfl hb
      | ⟨1, _⟩ => rfl
      | ⟨2, _⟩ => rfl
      | ⟨3, _⟩ => rfl
    · show 0 + 1 = (x 0).val; omega

/-- The reference's run: the gathered rows, the arguments as they were, every counter at zero. -/
theorem run_frame (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_v16) : ResC F)
        = planes (m ((c.tc : Thread nD τ).loc main_arg0) : TabC) (m ((c.tc : Thread nD τ).loc main_arg1) : TabC) (m ((c.tc : Thread nD τ).loc main_arg2) : OpC F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by decide) r.2⟩) (Cert.ReferenceIdeal.Value.run m ρ)

end Cert.RowsValue

end
-- ==== Proof.PleVal.lean ====
module

public import proofs.«01_k».proof.Defs
public import proofs.«01_k».proof.Proof.Gen.PleIdeal.Frame
public import proofs.«01_k».proof.Proof.Gen.PleReferenceIdeal.Run
public import proofs.«01_k».proof.Proof.Gen.PleReferenceIdeal.Read
public import Idealize.ShloMosaic.Lib.Pipeline.ValueKit
public import Idealize.ShloMosaic.Lib.Pointwise
public import Idealize.ShloMosaic.Lib.Routing.OpsSet

@[expose] public section

set_option maxRecDepth 16384

noncomputable section

namespace Cert.PleValue

open Cert.PleIdeal Cert.PleIdeal.Gen
open Idealize.ShloMosaic Idealize.ShloMosaic.TcCoe Idealize.SL.Sem
open Cert.PleReferenceIdeal.Read

variable (m : (ℓ : Loc nD τ sig) → Buf (Elt Ideal) ℓ)

/-- The reference's value at the kernel's own arguments. -/
abbrev expect (c : Dev nD) :=
  val_main_v53 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem core (A0 : S8192x2048.Idx → EReal) (A1 : S8192x256.Idx → EReal) (A2 : S2x8192x16x128.Idx → EReal) (A3 : S8x8192.Idx → EReal)
    (A4 : S256x2048.Idx → EReal) (A5 : S2048x2048.Idx → EReal) (A6 A7 : S2048.Idx → EReal)
    (X0 : Vec Ideal S512x2048 .f32) (X1 : Vec Ideal S512x2048 .bf16) (X2 : Vec Ideal S512x256 .f32) (X3 : Vec Ideal S2x512x16x128 .bf16)
    (X4 : Vec Ideal S512x8 .f32) (X5 : Vec Ideal S2048x2048 .bf16) (X6 : Vec Ideal S256x2048 .bf16) (X7 X8 : Vec Ideal S1x2048 .f32)
    (r : Fin 512) (q : Fin 2048) (n : Fin 8192)
    (h0 : ∀ q, X0 (ix2 r q) = A0 (ix2 n q)) (h1 : ∀ q, X1 (ix2 r q) = A0 (ix2 n q)) (h2 : ∀ k, X2 (ix2 r k) = A1 (ix2 n k))
    (h3 : ∀ a b l, X3 (ix4 a r b l) = A2 (ix4 a n b l)) (h4 : X4 (ix2 r 0) = A3 (ix2 2 n)) (h4' : X4 (ix2 r 1) = A3 (ix2 3 n))
    (h5 : ∀ k q, X5 (ix2 k q) = A5 (ix2 k q)) (h6 : ∀ k q, X6 (ix2 k q) = A4 (ix2 k q)) (h7 : ∀ q, X7 (ix2 0 q) = A6 (ix1 q)) (h8 : ∀ q, X8 (ix2 0 q) = A7 (ix1 q)) :
    k0_pay1 (k0_pay6 X0 X1 X2 X3 X4 X5 X6 X7 X8) (k0_pay7 X0 X1 X2 X3 X4 X5 X6 X7 X8) (k0_pay8 X0 X1 X2 X3 X4 X5 X6 X7 X8) X0 X7 X8 (ix2 r q)
      = val_main_v53 (F := Ideal) A0 A1 A2 A3 A4 A5 A6 A7 (ix2 n q) := by
  pointwise [k0_pay1, k0_pay6, k0_pay7, k0_pay8, k0_pay3, k0_pay4, k0_pay5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6]
  simp only [h0, h1, h2, h3, h4, h4', h5, h6, h7, h8, zero_sub]

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, t.val, 0, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![t.val, 0] := by decide +kernel
theorem index10 : ∀ t : Fin grid0.N, win0_10.index t = ![t.val, 0] := by decide +kernel

/-- The token that row r of grid point t's block is. -/
def token (t : Fin grid0.N) (r : Fin 512) : Fin 8192 :=
  ⟨t.val * 512 + r.val, by have h : t.val < 16 := t.isLt; have := r.isLt; omega⟩

theorem emb9 (t : Fin grid0.N) (r : Fin 512) (q : Fin 2048) :
    ((View.whole main_v10_0).slice (win0_9.rect t)).emb (ix2 r q) = ix2 (token t r) q := by
  funext a
  apply Fin.ext
  blk_simp [index9]
  match a with
  | ⟨0, _⟩ => simp [token]
  | ⟨1, _⟩ => simp

/-! ## The two columns of routing weights, set in a table of zeros -/

abbrev setDims := scatter_S8192x8_S1_S8192x2_01_n_1_0

/-- Every entry of the two columns lands at its own row, in columns 0 and 1. -/
theorem lands (idx : S1.Idx → BitVec 32) (hidx : ∀ i, idx i = 0#32) (j : S8192x2.Idx) :
    setDims.resultIdx? j idx = some (ix2 (j 0 : Fin 8192) (⟨(j 1).val, by have : (j 1).val < 2 := (j 1).isLt; omega⟩ : Fin 8)) := by
  have st : ∀ a, setDims.start j idx a = 0 := by
    intro a
    unfold ScatterDims.start
    split
    · rw [hidx]; rfl
    · rfl
  have wi : ∀ a : Fin 2, setDims.window j a = (j a).val := by
    intro a
    unfold ScatterDims.window
    have hk : setDims.sKept = [0, 1] := rfl
    rw [dif_pos (by rw [hk]; match a with | ⟨0, _⟩ => exact List.mem_cons_self | ⟨1, _⟩ => exact List.mem_cons_of_mem _ List.mem_cons_self)]
    match a with
    | ⟨0, _⟩ => rfl
    | ⟨1, _⟩ => rfl
  have h0 : (j 0).val < 8192 := (j 0).isLt
  have h1 : (j 1).val < 2 := (j 1).isLt
  unfold ScatterDims.resultIdx?
  rw [dif_pos (by
    intro a
    rw [st, wi]
    match a with
    | ⟨0, _⟩ => exact ⟨by show (0 : Int) ≤ 0 + ((j 0).val : Int); omega, by show (0 : Int) + ((j 0).val : Int) < 8192; omega⟩
    | ⟨1, _⟩ => exact ⟨by show (0 : Int) ≤ 0 + ((j 1).val : Int); omega, by show (0 : Int) + ((j 1).val : Int) < 8; omega⟩)]
  refine congrArg some (funext fun a => Fin.ext ?_)
  show (setDims.start j idx a + setDims.window j a).toNat = _
  rw [st, wi]
  match a with
  | ⟨0, _⟩ => show ((0 : Int) + ((j 0).val : Int)).toNat = (j 0).val; omega
  | ⟨1, _⟩ => show ((0 : Int) + ((j 1).val : Int)).toNat = (j 1).val; omega

theorem set_apply (x : S8192x8.Idx → EReal) (idx : S1.Idx → BitVec 32) (hidx : ∀ i, idx i = 0#32) (u : S8192x2.Idx → EReal) (n : Fin 8192) (e : Fin 2) (e' : Fin 8)
    (he : e'.val = e.val) : Host.scatter setDims (fun _ b => b) x idx u (ix2 n e') = u (ix2 n e) := by
  refine Routing.scatter_set_hit _ _ _ _ _ _ (fun k hk => ?_) (ix2 n e) ?_
  · rw [lands idx hidx] at hk
    have q := Option.some.inj hk
    obtain ⟨a, b, rfl⟩ : ∃ (a : Fin 8192) (b : Fin 2), k = ix2 a b := ⟨k 0, k 1, eq_ix2 k⟩
    have q0 := congrArg Fin.val (congrFun q 0)
    have q1 := congrArg Fin.val (congrFun q 1)
    congr 1
    have r0 : a = n := Fin.ext q0
    have r1 : b = e := Fin.ext (q1.trans he)
    rw [r0, r1]
  · rw [lands idx hidx]
    refine congrArg some (funext fun a => Fin.ext ?_)
    match a with
    | ⟨0, _⟩ => rfl
    | ⟨1, _⟩ => exact he.symm

theorem V_v5 (c : Dev nD) (n : Fin 8192) (q : Fin 2048) : V m c main_v5 (ix2 n q) = m ((c.tc : Thread nD τ).loc main_arg0) (ix2 n q) := by
  dsimp only [V, hostOps0]
  after_results_simp
  rfl
theorem V_v6 (c : Dev nD) (k : Fin 2048) (q : Fin 2048) : V m c main_v6 (ix2 k q) = m ((c.tc : Thread nD τ).loc main_arg5) (ix2 k q) := by
  dsimp only [V, hostOps0]
  after_results_simp
  rfl
theorem V_v7 (c : Dev nD) (k : Fin 256) (q : Fin 2048) : V m c main_v7 (ix2 k q) = m ((c.tc : Thread nD τ).loc main_arg4) (ix2 k q) := by
  dsimp only [V, hostOps0]
  after_results_simp
  rfl
theorem V_v8 (c : Dev nD) (q : Fin 2048) : V m c main_v8 (ix2 0 q) = m ((c.tc : Thread nD τ).loc main_arg6) (ix1 q) := by
  dsimp only [V, hostOps0]
  after_results_simp
  pointwise
theorem V_v9 (c : Dev nD) (q : Fin 2048) : V m c main_v9 (ix2 0 q) = m ((c.tc : Thread nD τ).loc main_arg7) (ix1 q) := by
  dsimp only [V, hostOps0]
  after_results_simp
  pointwise
theorem V_v4 (c : Dev nD) (n : Fin 8192) (e : Fin 2) (e' : Fin 8) (he : e'.val = e.val) :
    V m c main_v4 (ix2 n e') = m ((c.tc : Thread nD τ).loc main_arg3) (ix2 (⟨2 + e.val, by omega⟩ : Fin 8) n) := by
  dsimp only [V, hostOps0]
  after_results_simp
  refine (set_apply _ _ (fun _ => rfl) _ n e e' he).trans ?_
  pointwise

theorem emb0 (t : Fin grid0.N) (r : Fin 512) (q : Fin 2048) : (win0_0.blk t).view.emb (ix2 r q) = ix2 (token t r) q := by
  funext a
  apply Fin.ext
  blk_simp [index0]
  match a with
  | ⟨0, _⟩ => simp [token]
  | ⟨1, _⟩ => simp [token]

theorem emb1 (t : Fin grid0.N) (r : Fin 512) (q : Fin 2048) : (win0_1.blk t).view.emb (ix2 r q) = ix2 (token t r) q := by
  funext a
  apply Fin.ext
  blk_simp [index1]
  match a with
  | ⟨0, _⟩ => simp [token]
  | ⟨1, _⟩ => simp [token]

theorem emb2 (t : Fin grid0.N) (r : Fin 512) (q : Fin 256) : (win0_2.blk t).view.emb (ix2 r q) = ix2 (token t r) q := by
  funext a
  apply Fin.ext
  blk_simp [index2]
  match a with
  | ⟨0, _⟩ => simp [token]
  | ⟨1, _⟩ => simp [token]

theorem emb3 (t : Fin grid0.N) (a : Fin 2) (r : Fin 512) (b : Fin 16) (l : Fin 128) : (win0_3.blk t).view.emb (ix4 a r b l) = ix4 a (token t r) b l := by
  funext d
  apply Fin.ext
  blk_simp [index3]
  match d with
  | ⟨0, _⟩ => simp [token]
  | ⟨1, _⟩ => simp [token]
  | ⟨2, _⟩ => simp [token]
  | ⟨3, _⟩ => simp [token]

theorem emb4 (t : Fin grid0.N) (r : Fin 512) (q : Fin 8) : (win0_4.blk t).view.emb (ix2 r q) = ix2 (token t r) q := by
  funext a
  apply Fin.ext
  blk_simp [index4]
  match a with
  | ⟨0, _⟩ => simp [token]
  | ⟨1, _⟩ => simp [token]

theorem emb5 (t : Fin grid0.N) (r : Fin 2048) (q : Fin 2048) : (win0_5.blk t).view.emb (ix2 r q) = ix2 r q := by
  funext a
  apply Fin.ext
  blk_simp [index5]
  match a with
  | ⟨0, _⟩ => simp [token]
  | ⟨1, _⟩ => simp [token]

theorem emb6 (t : Fin grid0.N) (r : Fin 256) (q : Fin 2048) : (win0_6.blk t).view.emb (ix2 r q) = ix2 r q := by
  funext a
  apply Fin.ext
  blk_simp [index6]
  match a with
  | ⟨0, _⟩ => simp [token]
  | ⟨1, _⟩ => simp [token]

theorem emb7 (t : Fin grid0.N) (r : Fin 1) (q : Fin 2048) : (win0_7.blk t).view.emb (ix2 r q) = ix2 r q := by
  funext a
  apply Fin.ext
  blk_simp [index7]
  match a with
  | ⟨0, _⟩ => simp [token]
  | ⟨1, _⟩ => simp [token]

theorem emb8 (t : Fin grid0.N) (r : Fin 1) (q : Fin 2048) : (win0_8.blk t).view.emb (ix2 r q) = ix2 r q := by
  funext a
  apply Fin.ext
  blk_simp [index8]
  match a with
  | ⟨0, _⟩ => simp [token]
  | ⟨1, _⟩ => simp [token]

theorem emb10 (t : Fin grid0.N) (r : Fin 512) (q : Fin 2048) :
    ((View.whole main_v10_1).slice (win0_10.rect t)).emb (ix2 r q) = ix2 (token t r) q := by
  funext a
  apply Fin.ext
  blk_simp [index10]
  match a with
  | ⟨0, _⟩ => simp [token]
  | ⟨1, _⟩ => simp

/-! ## The staged blocks -/

theorem iblk0 (c : Dev nD) (t : Fin grid0.N) (r : Fin 512) (q : Fin 2048) : (iblk m c 0 t : S512x2048.Idx → EReal) (ix2 r q) = m ((c.tc : Thread nD τ).loc main_arg0) (ix2 (token t r) q) := by
  unfold iblk; blk_simp; rw [V_main_arg0, emb0]
theorem iblk1 (c : Dev nD) (t : Fin grid0.N) (r : Fin 512) (q : Fin 2048) : (iblk m c 1 t : S512x2048.Idx → EReal) (ix2 r q) = m ((c.tc : Thread nD τ).loc main_arg0) (ix2 (token t r) q) := by
  unfold iblk; blk_simp; rw [emb1, V_v5]
theorem iblk2 (c : Dev nD) (t : Fin grid0.N) (r : Fin 512) (q : Fin 256) : (iblk m c 2 t : S512x256.Idx → EReal) (ix2 r q) = m ((c.tc : Thread nD τ).loc main_arg1) (ix2 (token t r) q) := by
  unfold iblk; blk_simp; rw [V_main_arg1, emb2]
theorem iblk3 (c : Dev nD) (t : Fin grid0.N) (r : Fin 512) (a : Fin 2) (b : Fin 16) (l : Fin 128) : (iblk m c 3 t : S2x512x16x128.Idx → EReal) (ix4 a r b l) = m ((c.tc : Thread nD τ).loc main_arg2) (ix4 a (token t r) b l) := by
  unfold iblk; blk_simp; rw [V_main_arg2, emb3]
theorem iblk4 (c : Dev nD) (t : Fin grid0.N) (r : Fin 512) (e : Fin 2) (e' : Fin 8) (he : e'.val = e.val) :
    (iblk m c 4 t : S512x8.Idx → EReal) (ix2 r e') = m ((c.tc : Thread nD τ).loc main_arg3) (ix2 (⟨2 + e.val, by omega⟩ : Fin 8) (token t r)) := by
  unfold iblk; blk_simp; rw [emb4, V_v4 m c _ e e' he]
theorem iblk5 (c : Dev nD) (t : Fin grid0.N) (k : Fin 2048) (q : Fin 2048) : (iblk m c 5 t : S2048x2048.Idx → EReal) (ix2 k q) = m ((c.tc : Thread nD τ).loc main_arg5) (ix2 k q) := by
  unfold iblk; blk_simp; rw [emb5, V_v6]
theorem iblk6 (c : Dev nD) (t : Fin grid0.N) (k : Fin 256) (q : Fin 2048) : (iblk m c 6 t : S256x2048.Idx → EReal) (ix2 k q) = m ((c.tc : Thread nD τ).loc main_arg4) (ix2 k q) := by
  unfold iblk; blk_simp; rw [emb6, V_v7]
theorem iblk7 (c : Dev nD) (t : Fin grid0.N) (q : Fin 2048) : (iblk m c 7 t : S1x2048.Idx → EReal) (ix2 0 q) = m ((c.tc : Thread nD τ).loc main_arg6) (ix1 q) := by
  unfold iblk; blk_simp; rw [emb7, V_v8]
theorem iblk8 (c : Dev nD) (t : Fin grid0.N) (q : Fin 2048) : (iblk m c 8 t : S1x2048.Idx → EReal) (ix2 0 q) = m ((c.tc : Thread nD τ).loc main_arg7) (ix1 q) := by
  unfold iblk; blk_simp; rw [emb8, V_v9]

/-- What the body stores at a grid point is the reference's row of that token. -/
theorem block (c : Dev nD) (t : Fin grid0.N) (r : Fin 512) (q : Fin 2048) :
    k0_pay1 (k0_pay6 (iblk m c 0 t) (iblk m c 1 t) (iblk m c 2 t) (iblk m c 3 t) (iblk m c 4 t) (iblk m c 5 t) (iblk m c 6 t) (iblk m c 7 t) (iblk m c 8 t))
      (k0_pay7 (iblk m c 0 t) (iblk m c 1 t) (iblk m c 2 t) (iblk m c 3 t) (iblk m c 4 t) (iblk m c 5 t) (iblk m c 6 t) (iblk m c 7 t) (iblk m c 8 t))
      (k0_pay8 (iblk m c 0 t) (iblk m c 1 t) (iblk m c 2 t) (iblk m c 3 t) (iblk m c 4 t) (iblk m c 5 t) (iblk m c 6 t) (iblk m c 7 t) (iblk m c 8 t))
      (iblk m c 0 t) (iblk m c 7 t) (iblk m c 8 t) (ix2 r q) = expect m c (ix2 (token t r) q) :=
  core _ _ _ _ _ _ _ _ _ _ _ _ _ _ _ _ _ r q (token t r) (iblk0 m c t r) (iblk1 m c t r) (iblk2 m c t r) (iblk3 m c t r) (iblk4 m c t r 0 0 rfl) (iblk4 m c t r 1 1 rfl)
    (iblk5 m c t) (iblk6 m c t) (iblk7 m c t) (iblk8 m c t)

theorem out9 (c : Dev nD) : (dats m 0 c).arrAt 9 grid0.N = expect m c := by
  refine (dats m 0 c).arrAt_eq_of_covers 9 _ (by decide +kernel) fun t hf y => ?_
  blk_simp
  rw [after0_9]
  frame_out
  obtain ⟨r, q, rfl⟩ : ∃ (r : Fin 512) (q : Fin 2048), y = ix2 r q := ⟨y 0, y 1, eq_ix2 y⟩
  rw [emb9]
  exact block m c t r q

theorem out10 (c : Dev nD) : (dats m 0 c).arrAt 10 grid0.N = expect m c := by
  refine (dats m 0 c).arrAt_eq_of_covers 10 _ (by decide +kernel) fun t hf y => ?_
  blk_simp
  rw [after0_10]
  frame_out
  obtain ⟨r, q, rfl⟩ : ∃ (r : Fin 512) (q : Fin 2048), y = ix2 r q := ⟨y 0, y 1, eq_ix2 y⟩
  rw [emb10]
  exact block m c t r q

end Cert.PleValue

end
-- ==== Proof.PleClaim.lean ====
module

public import proofs.«01_k».proof.Proof.PleVal
public import proofs.«01_k».proof.Proof.Gen.Ple
public import Idealize.ShloMosaic.Lib.Claim

@[expose] public section

set_option maxRecDepth 16384

noncomputable section

namespace Cert.PleClaim

open Idealize.ShloMosaic Idealize.ShloMosaic.TcCoe Idealize.SL.Sem

theorem body_eq : @Cert.Ple.cc0_ple_ln Bits _ _ = @Cert.PleIdeal.cc0_ple_ln Bits _ _ := rfl

/-- The two prints of the kernel run one body. -/
theorem defs₀_eq : @Cert.Ple.defs₀ Bits _ _ = @Cert.PleIdeal.defs₀ Bits _ _ := by
  unfold Cert.Ple.defs₀ Cert.PleIdeal.defs₀
  refine congrArg Defs.onTc ?_
  funext l x
  match l, x with
  | 0, (t, s) =>
    dsimp only
    rw [body_eq]
    rfl
  | ⟨_ + 1, h⟩, _ => exact absurd h (Nat.not_lt.2 (Nat.le_add_left _ _))

theorem defs_eq : @Cert.Ple.defs Bits _ _ = @Cert.PleIdeal.defs Bits _ _ := congrArg (Pipeline.defs Cert.PleIdeal.pcfgs) defs₀_eq

theorem frame_kernel : Cert.quiescent_Ple := fun m ρ _ => by
  have h := Cert.PleIdeal.Gen.frame (F := Bits) m ρ
  rw [← defs_eq] at h
  exact h

theorem frame_kernelIdeal : Cert.quiescent_PleIdeal := fun m ρ _ => Cert.PleIdeal.Gen.frame (F := Ideal) m ρ

/-- The reference's run leaves its arguments as they were and every counter at zero. -/
theorem frame_reference [Cert.PleReferenceIdeal.Facts] : Cert.quiescent_PleReferenceIdeal := fun m ρ _ =>
  (θ_run Cert.PleReferenceIdeal.defs _ _).mono (fun r h => ⟨fun c => (h c).2.2, sem_eq_zero_of_no_sems (by decide) r.2⟩)
    (Cert.PleReferenceIdeal.Value.run (F := Ideal) m ρ)

theorem algebraic : Cert.algebraic_PleIdeal_PleReferenceIdeal := by
  intro m g m' g' _ hm
  refine ⟨Cert.PleValue.expect m, Cert.PleValue.expect m, ?_, ?_⟩
  · run_from (Cert.PleIdeal.Gen.run_main (F := Ideal) m g)
    · exact Cert.PleValue.out9 m _
    · exact Cert.PleValue.out10 m _
  · refine (θ_run Cert.PleReferenceIdeal.defs _ _).mono (fun r h c => ?_) (Cert.PleReferenceIdeal.Value.run (F := Ideal) m' g')
    obtain ⟨a0, a1, a2, a3, a4, a5, a6, a7⟩ := hm c
    refine ⟨(h c).1.trans ?_, (h c).2.1.trans ?_, (h c).2.2⟩
    · rw [Cert.PleReferenceIdeal.Read.val_main_v53_eq, a0, a1, a2, a3, a4, a5, a6, a7]
    · rw [Cert.PleReferenceIdeal.Read.val_main_v54_eq, a0, a1, a2, a3, a4, a5, a6, a7]
      rfl

end Cert.PleClaim

end
-- ==== Proof.AttMath.lean ====
module

public import Idealize.ShloMosaic.PureOps
public import Idealize.ShloMosaic.Lib.Pointwise

@[expose] public section

noncomputable section

namespace Cert.AttMath

open Idealize.ShloMosaic

/-- The weights of the first N keys below the level μ: their sum. -/
def mass (σ : ℕ → ℝ) (μ : ℝ) (N : ℕ) : ℝ := ∑ k ∈ Finset.range N, Real.exp (σ k - μ)
/-- The values of the first N keys, weighted. -/
def moment (σ : ℕ → ℝ) (ν : ℕ → EReal) (μ : ℝ) (N : ℕ) : EReal := ∑ k ∈ Finset.range N, ν k * (Real.exp (σ k - μ) : EReal)

/-- What the running maximum, sum and accumulator hold after the first N keys: the sums below some real level. -/
def Rep (σ : ℕ → ℝ) (ν : ℕ → EReal) (N : ℕ) (M L A : EReal) : Prop :=
  (N = 0 ∧ M = ⊥ ∧ L = 0 ∧ A = 0) ∨ ∃ μ : ℝ, M = (μ : EReal) ∧ L = (mass σ μ N : EReal) ∧ A = moment σ ν μ N

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem scale_sum {ι : Type} (a : ℝ) (ha : 0 ≤ a) (S : Finset ι) (f : ι → EReal) : (a : EReal) * ∑ k ∈ S, f k = ∑ k ∈ S, (a : EReal) * f k := by
  classical
  induction S using Finset.induction_on with
  | empty => simp
  | insert k S hk ih =>
    rw [Finset.sum_insert hk, Finset.sum_insert hk, EReal.left_distrib_of_nonneg_of_ne_top (EReal.coe_nonneg.2 ha) (EReal.coe_ne_top _), ih]

theorem sum_masked {α : Type} [AddCommMonoid α] (n q : ℕ) (hq : q < n) (f : ℕ → α) :
    (∑ x : Fin n, if x.val ≤ q then f x.val else 0) = ∑ x ∈ Finset.range (q + 1), f x := by
  rw [Fin.sum_univ_eq_sum_range (fun x => if x ≤ q then f x else 0) n, ← Finset.sum_filter]
  refine Finset.sum_congr ?_ fun _ _ => rfl
  ext x
  simp only [Finset.mem_filter, Finset.mem_range]
  omega

/-- The maximum of some scores, one of them real and none of them infinite above, is real. -/
theorem max_real {n : ℕ} (q : ℕ) (hq : q < n) (σ : ℕ → ℝ) (N : ℕ) (s : Fin n → EReal) (hs : ∀ x : Fin n, s x = if x.val ≤ q then (σ (N + x.val) : EReal) else ⊥)
    (M : EReal) (hM : M ≠ ⊤) : ∃ μ : ℝ, max M (Finset.fold max ⊥ s Finset.univ) = (μ : EReal) := by
  have hlt : max M (Finset.fold max ⊥ s Finset.univ) ≠ ⊤ := by
    refine ne_of_lt (max_lt (lt_top_iff_ne_top.2 hM) ((Finset.fold_max_lt _).2 ⟨bot_lt_top, fun x _ => ?_⟩))
    rw [hs]
    split
    · exact EReal.coe_lt_top _
    · exact bot_lt_top
  have hgt : max M (Finset.fold max ⊥ s Finset.univ) ≠ ⊥ := by
    have h0 : (σ (N + 0) : EReal) ≤ Finset.fold max ⊥ s Finset.univ := by
      refine (Finset.le_fold_max _).2 (Or.inr ⟨⟨0, by omega⟩, Finset.mem_univ _, ?_⟩)
      rw [hs]
      simp
    exact ne_of_gt (lt_of_lt_of_le (EReal.bot_lt_coe _) (h0.trans (le_max_right _ _)))
  exact ⟨_, (EReal.coe_toReal hlt hgt).symm⟩

theorem exp_masked (q : ℕ) (a μ : ℝ) (x : ℕ) :
    Ideal.exp ((if x ≤ q then (a : EReal) else ⊥) - (μ : EReal)) = ((if x ≤ q then Real.exp (a - μ) else 0 : ℝ) : EReal) := by
  split
  · rw [← EReal.coe_sub, Ideal.exp_coe]
  · rw [EReal.bot_sub]
    simp

section Step

variable {n : ℕ} (N q : ℕ) (hq : q < n) (σ : ℕ → ℝ) (ν : ℕ → EReal) (s v : Fin n → EReal)
  (hs : ∀ x : Fin n, s x = if x.val ≤ q then (σ (N + x.val) : EReal) else ⊥) (hv : ∀ x : Fin n, v x = ν (N + x.val))
include hq hs

theorem sum_exp (μ : ℝ) : (∑ x, Ideal.exp (s x - (μ : EReal))) = ((∑ x ∈ Finset.range (q + 1), Real.exp (σ (N + x) - μ) : ℝ) : EReal) := by
  rw [← sum_masked n q hq (fun x => Real.exp (σ (N + x) - μ)), coe_sum]
  refine Finset.sum_congr rfl fun x _ => ?_
  rw [hs, exp_masked]

include hv

theorem sum_val_exp (μ : ℝ) : (∑ x, v x * Ideal.exp (s x - (μ : EReal))) = ∑ x ∈ Finset.range (q + 1), ν (N + x) * (Real.exp (σ (N + x) - μ) : EReal) := by
  rw [← sum_masked n q hq (fun x => ν (N + x) * (Real.exp (σ (N + x) - μ) : EReal))]
  refine Finset.sum_congr rfl fun x _ => ?_
  rw [hs, exp_masked, hv]
  split
  · rfl
  · rw [EReal.coe_zero, mul_zero]

/-- One step of the running maximum, sum and accumulator. -/
theorem step (M L A : EReal) (h : Rep σ ν N M L A) :
    Rep σ ν (N + (q + 1)) (max M (Finset.fold max ⊥ s Finset.univ))
      (Ideal.exp (M - max M (Finset.fold max ⊥ s Finset.univ)) * L + ∑ x, Ideal.exp (s x - max M (Finset.fold max ⊥ s Finset.univ)))
      (Ideal.exp (M - max M (Finset.fold max ⊥ s Finset.univ)) * A + ∑ x, v x * Ideal.exp (s x - max M (Finset.fold max ⊥ s Finset.univ))) := by
  have hM : M ≠ ⊤ := by
    rcases h with ⟨-, h, -⟩ | ⟨μ, h, -⟩ <;> rw [h]
    · exact bot_ne_top
    · exact EReal.coe_ne_top _
  obtain ⟨μ', hμ'⟩ := max_real q hq σ N s hs M hM
  rw [hμ', sum_exp N q hq σ s hs, sum_val_exp N q hq σ ν s v hs hv]
  refine Or.inr ⟨μ', rfl, ?_, ?_⟩
  · unfold mass
    rw [Finset.sum_range_add (fun k => Real.exp (σ k - μ')) N (q + 1), EReal.coe_add]
    congr 1
    rcases h with ⟨rfl, rfl, rfl, -⟩ | ⟨μ, rfl, rfl, -⟩
    · simp
    · rw [← EReal.coe_sub, Ideal.exp_coe, ← EReal.coe_mul, mass, Finset.mul_sum]
      congr 1
      refine Finset.sum_congr rfl fun k _ => ?_
      rw [← Real.exp_add]
      congr 1
      ring
  · unfold moment
    rw [Finset.sum_range_add (fun k => ν k * (Real.exp (σ k - μ') : EReal)) N (q + 1)]
    congr 1
    rcases h with ⟨rfl, rfl, -, rfl⟩ | ⟨μ, rfl, -, rfl⟩
    · simp
    · rw [← EReal.coe_sub, Ideal.exp_coe, moment, scale_sum _ (Real.exp_pos _).le]
      refine Finset.sum_congr rfl fun k _ => ?_
      rw [mul_left_comm, ← EReal.coe_mul, ← Real.exp_add]
      congr 3
      ring

end Step

theorem mass_pos (σ : ℕ → ℝ) (μ : ℝ) (N : ℕ) (hN : 0 < N) : 0 < mass σ μ N :=
  Finset.sum_pos (fun _ _ => Real.exp_pos _) ⟨0, Finset.mem_range.2 hN⟩

/-- The quotient of the weighted values and the weights. -/
def mean (σ : ℕ → ℝ) (ν : ℕ → EReal) (μ : ℝ) (N : ℕ) : EReal := moment σ ν μ N * ((1 / mass σ μ N : ℝ) : EReal)

/-- The quotient does not depend on the level. -/
theorem quotient (σ : ℕ → ℝ) (ν : ℕ → EReal) (μ : ℝ) (N : ℕ) : mean σ ν μ N = mean σ ν 0 N := by
  have e : ∀ k, Real.exp (σ k - μ) = Real.exp (-μ) * Real.exp (σ k - 0) := fun k => by rw [← Real.exp_add]; congr 1; ring
  have h1 : mass σ μ N = Real.exp (-μ) * mass σ 0 N := by
    unfold mass; rw [Finset.mul_sum]; exact Finset.sum_congr rfl fun k _ => e k
  have h2 : moment σ ν μ N = (Real.exp (-μ) : EReal) * moment σ ν 0 N := by
    unfold moment; rw [scale_sum _ (Real.exp_pos _).le]; refine Finset.sum_congr rfl fun k _ => ?_
    rw [e k, EReal.coe_mul, mul_left_comm]
  unfold mean
  rw [h1, h2, mul_comm (Real.exp (-μ) : EReal), mul_assoc, ← EReal.coe_mul, one_div, mul_inv, mul_inv_cancel_left₀ (Real.exp_pos _).ne', one_div]

section Softmax

variable {n : ℕ} (q : ℕ) (hq : q < n) (σ : ℕ → ℝ) (ν : ℕ → EReal) (s v : Fin n → EReal)
  (hs : ∀ x : Fin n, s x = if x.val ≤ q then (σ x.val : EReal) else ⊥) (hv : ∀ x : Fin n, v x = ν x.val)
include hq hs hv

/-- Softmax over the first q + 1 scores, applied to the values. -/
theorem softmax :
    (∑ x, v x * Ideal.div (Ideal.exp (s x - max ⊥ (Finset.fold max ⊥ s Finset.univ))) (∑ x, Ideal.exp (s x - max ⊥ (Finset.fold max ⊥ s Finset.univ))))
      = mean σ ν 0 (q + 1) := by
  have hs' : ∀ x : Fin n, s x = if x.val ≤ q then (σ (0 + x.val) : EReal) else ⊥ := fun x => by rw [hs, zero_add]
  obtain ⟨μ, hμ⟩ := max_real q hq σ 0 s hs' ⊥ bot_ne_top
  rw [hμ, sum_exp 0 q hq σ s hs']
  simp only [zero_add]
  change (∑ x, v x * Ideal.div (Ideal.exp (s x - (μ : EReal))) (mass σ μ (q + 1) : EReal)) = _
  have hp := mass_pos σ μ (q + 1) (Nat.succ_pos q)
  rw [← quotient σ ν μ (q + 1), mean, moment, mul_comm, scale_sum _ (one_div_pos.2 hp).le,
    ← sum_masked n q hq (fun k => ((1 / mass σ μ (q + 1) : ℝ) : EReal) * (ν k * (Real.exp (σ k - μ) : EReal)))]
  refine Finset.sum_congr rfl fun x _ => ?_
  rw [Ideal.div_coe hp.ne', hs, exp_masked, hv]
  split
  · rw [← mul_assoc, mul_comm]
  · rw [EReal.coe_zero, zero_mul, mul_zero]

end Softmax

theorem final (σ : ℕ → ℝ) (ν : ℕ → EReal) (N : ℕ) (hN : 0 < N) (M L A : EReal) (h : Rep σ ν N M L A) : Ideal.div A L = mean σ ν 0 N := by
  rcases h with ⟨rfl, -⟩ | ⟨μ, -, rfl, rfl⟩
  · exact absurd hN (lt_irrefl _)
  · rw [Ideal.div_coe (mass_pos σ μ N hN).ne', ← quotient σ ν μ N, mean]

end Cert.AttMath
end
-- ==== Proof.AttRef.lean ====
module

public import proofs.«01_k».proof.Defs
public import proofs.«01_k».proof.Proof.Gen.Attention
public import proofs.«01_k».proof.Proof.Gen.Pre_finite_rows
public import proofs.«01_k».proof.Proof.Gen.AttentionReferenceIdeal.Run
public import proofs.«01_k».proof.Proof.Gen.AttentionReferenceIdeal.Read
public import Idealize.ShloMosaic.Lib.Pipeline.ValueKit
public import Idealize.ShloMosaic.Lib.Pointwise
public import Idealize.ShloMosaic.Lib.ReduceAll
public import proofs.«01_k».proof.Proof.AttMath

@[expose] public section

set_option maxRecDepth 16384

noncomputable section

namespace Cert.AttRef

open Cert.AttentionReferenceIdeal
open Idealize.ShloMosaic Idealize.ShloMosaic.TcCoe Idealize.SL.Sem
open Cert.AttentionReferenceIdeal.Read

variable (P : S8192x6144.Idx → EReal) (G : S8192x128.Idx → EReal)

theorem sle_iff (x n : ℕ) (hx : x < 8192) (hn : n < 8192) : IntOp.cmpi .sle (BitVec.ofNat 32 x) (BitVec.ofNat 32 n) = if x ≤ n then 1#1 else 0#1 := by
  have e : (BitVec.ofNat 32 x).sle (BitVec.ofNat 32 n) = decide (x ≤ n) := by
    rw [BitVec.sle_eq_decide, BitVec.toInt_eq_toNat_of_lt, BitVec.toInt_eq_toNat_of_lt] <;> simp only [BitVec.toNat_ofNat]
    · rw [Nat.mod_eq_of_lt (by omega), Nat.mod_eq_of_lt (by omega)]
      simp
    all_goals omega
  show BitVec.ofBool ((BitVec.ofNat 32 x).sle (BitVec.ofNat 32 n)) = _
  rw [e]
  by_cases h : x ≤ n <;> simp [h]

theorem negInf : Ideal.ofBits .f32 4286578688#32 = ⊥ := by simp [Ideal.ofBits, Ideal.ieee]

/-- The column of the projections that a query's coordinate is, a key's, a value's; the column of the forget gates' sums that a head's is. -/
abbrev qCol (h : Fin 8) (j : Fin 128) : Fin 6144 := ⟨h.val * 128 + j.val, by omega⟩
abbrev kCol (h : Fin 8) (j : Fin 128) : Fin 6144 := ⟨1024 + (h.val * 128 + j.val), by omega⟩
abbrev vCol (h : Fin 8) (j : Fin 128) : Fin 6144 := ⟨2048 + (h.val * 128 + j.val), by omega⟩
abbrev fCol (h : Fin 8) : Fin 128 := ⟨16 + h.val, by omega⟩

theorem logits (h : Fin 8) (n x : Fin 8192) :
    val_main_v24 (F := Ideal) P G (ix3 h n x)
      = if x.val ≤ n.val then (∑ j : Fin 128, P (ix2 n (qCol h j)) * P (ix2 x (kCol h j))) + G (ix2 n (fCol h)) - G (ix2 x (fCol h)) else ⊥ := by
  pointwise [val_main_v0, val_main_v1, val_main_v2, val_main_v3, val_main_v4, val_main_v5, val_main_v9, val_main_v10, val_main_v11, val_main_v12, val_main_v13, val_main_v14, val_main_v15, val_main_v16, val_main_v17, val_main_v18, val_main_v19, val_main_v20, val_main_v21, val_main_v22, val_main_v23, val_main_v24, val_main_cst, val_main_call0_v0, val_main_call0_v1, val_main_call0_v2]
  rw [sle_iff _ _ x.isLt n.isLt]
  by_cases hx : x.val ≤ n.val
  · rw [if_pos hx, if_pos hx]; rfl
  · rw [if_neg hx, if_neg hx]; exact negInf

theorem reduce_max (v : S8x8192x8192.Idx → EReal) (c : S_.Idx → EReal) (h1 : S8x8192x8192.ReducesTo [2] S8x8192) (h2 : 0 < S_.numel) (h : Fin 8) (n : Fin 8192) :
    Host.reduce (FloatOps.maximumf (F := Ideal) (φ := .f32)) v c h1 h2 (ix2 h n)
      = Finset.fold max (c (Shape.Idx.first h2)) (fun x : Fin 8192 => v (ix3 h n x)) Finset.univ := by
  generalize hc : c (Shape.Idx.first h2) = c0
  rw [Host.reduce_eq_fold_single _ _ _ _ (by decide), hc]
  refine congrArg (fun g : Fin 8192 → EReal => Finset.fold max c0 g Finset.univ) (funext fun k => congrArg v (funext fun a => Fin.ext ?_))
  match a with
  | ⟨0, _⟩ => rfl
  | ⟨1, _⟩ => rfl
  | ⟨2, _⟩ => rfl

theorem level (h : Fin 8) (n : Fin 8192) :
    val_main_v27 (F := Ideal) P G (ix2 h n) = max ⊥ (Finset.fold max ⊥ (fun x : Fin 8192 => val_main_v24 (F := Ideal) P G (ix3 h n x)) Finset.univ) := by
  rw [val_main_v27_apply, val_main_v26_apply]
  show max (Ideal.ofBits .f32 4286578688#32) (val_main_v25 (F := Ideal) P G (ix2 h n)) = _
  rw [negInf]
  refine congrArg (max ⊥) ((reduce_max _ _ _ _ h n).trans ?_)
  generalize val_main_v24 (F := Ideal) P G = w
  show Finset.fold max (Ideal.ofBits .f32 4286578688#32) _ _ = _
  rw [negInf]

theorem expo (h : Fin 8) (n x : Fin 8192) :
    val_main_v31 (F := Ideal) P G (ix3 h n x) = Ideal.exp (val_main_v24 (F := Ideal) P G (ix3 h n x) - val_main_v27 (F := Ideal) P G (ix2 h n)) := by
  pointwise [val_main_v28, val_main_v29, val_main_v30, val_main_v31]

theorem total (h : Fin 8) (n : Fin 8192) :
    val_main_v32 (F := Ideal) P G (ix2 h n) = ∑ x : Fin 8192, val_main_v31 (F := Ideal) P G (ix3 h n x) := by
  pointwise [val_main_v32, val_main_cst_2]

theorem prob (h : Fin 8) (n x : Fin 8192) :
    val_main_v35 (F := Ideal) P G (ix3 h n x) = Ideal.div (val_main_v31 (F := Ideal) P G (ix3 h n x)) (val_main_v32 (F := Ideal) P G (ix2 h n)) := by
  pointwise [val_main_v33, val_main_v34, val_main_v35]

theorem value (x : Fin 8192) (h : Fin 8) (d : Fin 128) :
    val_main_v8 (F := Ideal) P (ix3 x h d) = P (ix2 x (⟨2048 + (h.val * 128 + d.val), by omega⟩ : Fin 6144)) := by
  pointwise [val_main_v6, val_main_v7, val_main_v8]

theorem result (n : Fin 8192) (h : Fin 8) (d : Fin 128) (p : Fin 1024) (hp : p.val = h.val * 128 + d.val) :
    val_main_v39 (F := Ideal) P G (ix2 n p) = ∑ x : Fin 8192, val_main_v8 (F := Ideal) P (ix3 x h d) * val_main_v35 (F := Ideal) P G (ix3 h n x) := by
  pointwise [val_main_v36, val_main_v37, val_main_v38, val_main_v39]
  have e1 : (⟨p.val / 128, by omega⟩ : Fin 8) = h := Fin.ext (by show p.val / 128 = h.val; omega)
  have e2 : (⟨p.val % 128, by omega⟩ : Fin 128) = d := Fin.ext (by show p.val % 128 = d.val; omega)
  simp only [e1, e2]

/-! ## Real rows -/

/-- Query n's score against key k of head h; no key past the last. -/
def score (h : Fin 8) (n : Fin 8192) (k : ℕ) : ℝ :=
  if hk : k < 8192 then (∑ j : Fin 128, (P (ix2 n (qCol h j))).toReal * (P (ix2 (⟨k, hk⟩ : Fin 8192) (kCol h j))).toReal)
    + (G (ix2 n (fCol h))).toReal - (G (ix2 (⟨k, hk⟩ : Fin 8192) (fCol h))).toReal else 0
/-- Column d of head h's values, at key k. -/
def column (h : Fin 8) (d : Fin 128) (k : ℕ) : EReal :=
  if hk : k < 8192 then P (ix2 (⟨k, hk⟩ : Fin 8192) (vCol h d)) else 0

/-- The queries, the keys and the forget gates' sums are real. -/
structure RealRows : Prop where
  proj : ∀ (n : Fin 8192) (e : Fin 6144), e.val < 2048 → P (ix2 n e) = ((P (ix2 n e)).toReal : EReal)
  gate : ∀ (n : Fin 8192) (h : Fin 8), G (ix2 n (fCol h)) = ((G (ix2 n (fCol h))).toReal : EReal)

/-- What the reference says of real rows: the quotient of the weighted values and the weights. -/
theorem reference (hr : RealRows P G) (n : Fin 8192) (h : Fin 8) (d : Fin 128) (p : Fin 1024) (hp : p.val = h.val * 128 + d.val) :
    val_main_v39 (F := Ideal) P G (ix2 n p) = AttMath.mean (score P G h n) (column P h d) 0 (n.val + 1) := by
  rw [result P G n h d p hp]
  simp only [prob, total, expo, level]
  refine AttMath.softmax n.val n.isLt (score P G h n) (column P h d) (fun x => val_main_v24 (F := Ideal) P G (ix3 h n x)) (fun x => val_main_v8 (F := Ideal) P (ix3 x h d)) (fun x => ?_) (fun x => ?_)
  · show val_main_v24 (F := Ideal) P G (ix3 h n x) = _
    rw [logits, score, dif_pos x.isLt, EReal.coe_sub, EReal.coe_add, AttMath.coe_sum, ← hr.gate, ← hr.gate]
    refine if_congr Iff.rfl ?_ rfl
    congr 2
    refine Finset.sum_congr rfl fun j _ => ?_
    rw [EReal.coe_mul, ← hr.proj _ _ (by show h.val * 128 + j.val < 2048; omega), ← hr.proj _ _ (by show 1024 + (h.val * 128 + j.val) < 2048; omega)]
  · show val_main_v8 (F := Ideal) P (ix3 x h d) = _
    rw [value, column, dif_pos x.isLt]

theorem posInf : Ideal.ofBits .bf16 0x7F80#16 = ⊤ := by simp [Ideal.ofBits, Ideal.ieee]
theorem posInf' : Ideal.ofBits .f32 0x7F800000#32 = ⊤ := by simp [Ideal.ofBits, Ideal.ieee]

theorem real_of_lt (x : EReal) (h : Ideal.cmp .olt (max x (-x)) ⊤ = 1#1) : x = (x.toReal : EReal) := by
  have h' : max x (-x) < (⊤ : EReal) := by
    by_contra hc
    have e : Ideal.cmp .olt (max x (-x)) ⊤ = BitVec.ofBool (decide (max x (-x) < (⊤ : EReal))) := rfl
    rw [decide_eq_false hc] at e
    exact absurd (e.symm.trans h) (by decide)
  rw [max_lt_iff] at h'
  refine (EReal.coe_toReal h'.1.ne ?_).symm
  rintro rfl
  exact absurd h'.2 (by simp)

/-- The precondition: the queries, the keys and the forget gates' sums are real. -/
theorem real_of_pre (h : Cert.Pre_finite_rows.fn (F := Ideal) P G = fun _ => 1#1) : RealRows P G := by
  have both : ∀ p q : BitVec 1, IntOp.andi p q = 1#1 → p = 1#1 ∧ q = 1#1 := by decide
  have e := congrFun h (fun a => a.elim0)
  unfold Cert.Pre_finite_rows.fn at e
  obtain ⟨e1, e2⟩ := both _ _ e
  refine ⟨fun n c hc => real_of_lt _ ?_, fun n c => real_of_lt _ ?_⟩
  · have e3 := Host.reduce_andi_all _ _ _ _ _ e1 (ix2 n (⟨c.val, hc⟩ : Fin 2048))
    rw [← posInf]
    refine Eq.trans (congrArg (fun y => Ideal.cmp .olt (max y (-y)) (Ideal.ofBits .bf16 0x7F80#16)) (congrArg P ?_)) e3
    funext a
    apply Fin.ext
    match a with
    | ⟨0, _⟩ => exact (Nat.zero_add _).symm
    | ⟨1, _⟩ => exact (Nat.zero_add _).symm
  · have e3 := Host.reduce_andi_all _ _ _ _ _ e2 (ix2 n c)
    rw [← posInf']
    refine Eq.trans (congrArg (fun y => Ideal.cmp .olt (max y (-y)) (Ideal.ofBits .f32 0x7F800000#32)) (congrArg G ?_)) e3
    funext a
    apply Fin.ext
    match a with
    | ⟨0, _⟩ => exact (Nat.zero_add _).symm
    | ⟨1, _⟩ => rfl

end Cert.AttRef
end
-- ==== Proof.OutVal.lean ====
module

public import proofs.«01_k».proof.Defs
public import proofs.«01_k».proof.Proof.AttRef
public import proofs.«01_k».proof.Proof.Gen.OutProj
public import proofs.«01_k».proof.Proof.Gen.OutProjIdeal.Frame
public import proofs.«01_k».proof.Proof.Gen.OutProjReferenceIdeal.Run
public import proofs.«01_k».proof.Proof.Gen.OutProjReferenceIdeal.Read
public import proofs.«01_k».proof.Proof.Gen.Pre_finite_out_proj
public import Idealize.ShloMosaic.Lib.Pipeline.ValueKit
public import Idealize.ShloMosaic.Lib.Pointwise
public import Idealize.ShloMosaic.Lib.Routing.OpsSet

@[expose] public section

set_option maxRecDepth 16384

noncomputable section

namespace Cert.OutValue

open Cert.OutProjIdeal Cert.OutProjIdeal.Gen
open Idealize.ShloMosaic Idealize.ShloMosaic.TcCoe Idealize.SL.Sem
open Cert.OutProjReferenceIdeal.Read

variable (A0 A1 : S8192x1024.Idx → EReal) (A2 : S8192x2048.Idx → EReal) (A3 : S2048x2048.Idx → EReal) (A4 A5 : S2048.Idx → EReal) (A6 : S2048x16.Idx → EReal)

/-- The product with the two halves side by side is the two halves' products added. -/
theorem mixed (n : Fin 8192) (q : Fin 2048) :
    val_main_v4 (F := Ideal) A0 A1 A3 (ix2 n q)
      = (∑ k : Fin 1024, A0 (ix2 n k) * A3 (ix2 (⟨k.val, by omega⟩ : Fin 2048) q))
        + ∑ k : Fin 1024, A1 (ix2 n k) * A3 (ix2 (⟨1024 + k.val, by omega⟩ : Fin 2048) q) := by
  pointwise [val_main_v4, val_main_v1, val_main_v0]

theorem core (X0 : Vec Ideal S512x1024 .bf16) (X1 : Vec Ideal S512x1024 .bf16) (X2 : Vec Ideal S512x2048 .f32) (X3 X4 : Vec Ideal S1024x2048 .bf16) (X5 X6 : Vec Ideal S1x2048 .f32)
    (r : Fin 512) (q : Fin 2048) (n : Fin 8192)
    (h0 : ∀ k, X0 (ix2 r k) = A0 (ix2 n k)) (h1 : ∀ k, X1 (ix2 r k) = A1 (ix2 n k)) (h2 : ∀ k, X2 (ix2 r k) = A2 (ix2 n k))
    (h3 : ∀ (k : Fin 1024) q, X3 (ix2 k q) = A3 (ix2 (⟨k.val, by omega⟩ : Fin 2048) q)) (h4 : ∀ (k : Fin 1024) q, X4 (ix2 k q) = A3 (ix2 (⟨1024 + k.val, by omega⟩ : Fin 2048) q))
    (h5 : ∀ q, X5 (ix2 0 q) = A4 (ix1 q)) (h6 : ∀ q, X6 (ix2 0 q) = A5 (ix1 q)) :
    k0_pay4 X0 X3 X1 X4 X2 X5 X6 (ix2 r q) = val_main_v29 (F := Ideal) A0 A1 A2 A3 A4 A5 (ix2 n q) := by
  pointwise [k0_pay4, val_main_v2, val_main_v3, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4]
  simp only [mixed, h0, h1, h2, h3, h4, h5, h6]

/-! ## The sums of real rows are real -/

/-- Neither infinite: a real. -/
abbrev Is (x : EReal) : Prop := ∃ r : ℝ, x = (r : EReal)

theorem width : Ideal.ofBits .f32 0x45000000#32 = ((2048 : ℝ) : EReal) := by
  simp [Ideal.ofBits, Ideal.ieee]
  rw [← EReal.coe_mul]
  norm_num
theorem alpha : Is (Ideal.ofBits .f32 0x3FB504F3#32) := ⟨11863283 * (2 : ℝ) ^ (-23 : ℤ), by simp [Ideal.ofBits, Ideal.ieee]⟩
theorem eps : Ideal.ofBits .f32 0x3727C5AC#32 = ((10995116 * (2 : ℝ) ^ (-40 : ℤ) : ℝ) : EReal) := by
  simp [Ideal.ofBits, Ideal.ieee]

theorem Is.add {x y : EReal} : Is x → Is y → Is (x + y) := fun ⟨a, p⟩ ⟨b, q⟩ => ⟨a + b, by rw [p, q, EReal.coe_add]⟩
theorem Is.mul {x y : EReal} : Is x → Is y → Is (x * y) := fun ⟨a, p⟩ ⟨b, q⟩ => ⟨a * b, by rw [p, q, EReal.coe_mul]⟩
theorem Is.sum {n : ℕ} {f : Fin n → EReal} (h : ∀ k, Is (f k)) : Is (∑ k, f k) := by
  choose g hg using h
  exact ⟨∑ k, g k, by rw [AttMath.coe_sum]; exact Finset.sum_congr rfl fun k _ => hg k⟩

/-- A row less its mean, over the root of its variance, scaled and shifted. -/
def normOf (y : Fin 2048 → EReal) (q : Fin 2048) (g b : EReal) : EReal :=
  (y q - Ideal.div (∑ k, y k) (Ideal.ofBits .f32 0x45000000#32))
      * Ideal.rsqrt (Ideal.div (∑ k, (y k - Ideal.div (∑ k, y k) (Ideal.ofBits .f32 0x45000000#32)) * (y k - Ideal.div (∑ k, y k) (Ideal.ofBits .f32 0x45000000#32)))
          (Ideal.ofBits .f32 0x45000000#32) + Ideal.ofBits .f32 0x3727C5AC#32) * g + b

/-- The normalised row of a real row is real. -/
theorem Is.norm (y : Fin 2048 → EReal) (hy : ∀ k, Is (y k)) (q : Fin 2048) (g b : EReal) (hg : Is g) (hb : Is b) : Is (normOf y q g b) := by
  choose f hf using hy
  have e : Ideal.div (∑ k, y k) (Ideal.ofBits .f32 0x45000000#32) = (((∑ k, f k) * (1 / 2048) : ℝ) : EReal) := by
    rw [Finset.sum_congr rfl fun k _ => hf k, ← AttMath.coe_sum, width, Ideal.div_coe (by norm_num), ← EReal.coe_mul]
  unfold normOf
  rw [e]
  refine Is.add (Is.mul (Is.mul ?_ ?_) hg) hb
  · rw [hf, ← EReal.coe_sub]
    exact ⟨_, rfl⟩
  · generalize (∑ k, f k) * (1 / 2048) = μ
    simp only [hf, ← EReal.coe_sub, ← EReal.coe_mul]
    rw [← AttMath.coe_sum, width, Ideal.div_coe (by norm_num), eps, ← EReal.coe_mul, ← EReal.coe_add, Ideal.rsqrt_coe]
    have hs : 0 ≤ ∑ k, (f k - μ) * (f k - μ) := Finset.sum_nonneg fun k _ => mul_self_nonneg _
    have hp : 0 < (∑ k, (f k - μ) * (f k - μ)) * (1 / 2048) + 10995116 * (2 : ℝ) ^ (-40 : ℤ) := by positivity
    rw [if_neg (not_lt.2 hp.le), if_neg hp.ne']
    exact ⟨_, rfl⟩

theorem ref29 (n : Fin 8192) (q : Fin 2048) :
    val_main_v29 (F := Ideal) A0 A1 A2 A3 A4 A5 (ix2 n q)
      = normOf (fun k => Ideal.ofBits .f32 0x3FB504F3#32 * A2 (ix2 n k) + val_main_v4 (F := Ideal) A0 A1 A3 (ix2 n k)) q (A4 (ix1 q)) (A5 (ix1 q)) := by
  pointwise [normOf, val_main_v2, val_main_v3, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2, val_main_cst_3, val_main_cst_4]

/-- The arrays are real. -/
structure Reals : Prop where
  att : ∀ n k, Is (A0 (ix2 n k))
  ssd : ∀ n k, Is (A1 (ix2 n k))
  hid : ∀ n k, Is (A2 (ix2 n k))
  out : ∀ k q, Is (A3 (ix2 k q))
  gain : ∀ q, Is (A4 (ix1 q))
  bias : ∀ q, Is (A5 (ix1 q))
  router : ∀ k e, Is (A6 (ix2 k e))

theorem normed (hr : Reals A0 A1 A2 A3 A4 A5 A6) (n : Fin 8192) (q : Fin 2048) : Is (val_main_v29 (F := Ideal) A0 A1 A2 A3 A4 A5 (ix2 n q)) := by
  rw [ref29]
  refine Is.norm (fun k => Ideal.ofBits .f32 0x3FB504F3#32 * A2 (ix2 n k) + val_main_v4 (F := Ideal) A0 A1 A3 (ix2 n k)) (fun k => ?_) q _ _ (hr.gain q) (hr.bias q)
  rw [mixed]
  exact Is.add (Is.mul alpha (hr.hid n k)) (Is.add (Is.sum fun j => Is.mul (hr.att n j) (hr.out _ k)) (Is.sum fun j => Is.mul (hr.ssd n j) (hr.out _ k)))

theorem Is.sub_self {x : EReal} : Is x → x - x = 0 := fun ⟨r, p⟩ => by rw [p, ← EReal.coe_sub, _root_.sub_self, EReal.coe_zero]

/-- The precondition: the arrays are real. -/
theorem real_of_pre (h : Cert.Pre_finite_out_proj.fn (F := Ideal) A0 A1 A2 A3 A4 A5 A6 = fun _ => 1#1) : Reals A0 A1 A2 A3 A4 A5 A6 := by
  have both : ∀ p q : BitVec 1, IntOp.andi p q = 1#1 → p = 1#1 ∧ q = 1#1 := by decide
  have e := congrFun h (fun a => a.elim0)
  unfold Cert.Pre_finite_out_proj.fn Cert.Pre_finite_out_proj.fn_part1 at e
  obtain ⟨e, e6⟩ := both _ _ e
  obtain ⟨e, e5⟩ := both _ _ e
  obtain ⟨e, e4⟩ := both _ _ e
  obtain ⟨e, e3⟩ := both _ _ e
  obtain ⟨e, e2⟩ := both _ _ e
  obtain ⟨e0, e1⟩ := both _ _ e
  refine ⟨fun n k => ⟨_, Cert.AttRef.real_of_lt _ ?_⟩, fun n k => ⟨_, Cert.AttRef.real_of_lt _ ?_⟩, fun n k => ⟨_, Cert.AttRef.real_of_lt _ ?_⟩,
    fun n k => ⟨_, Cert.AttRef.real_of_lt _ ?_⟩, fun n => ⟨_, Cert.AttRef.real_of_lt _ ?_⟩, fun n => ⟨_, Cert.AttRef.real_of_lt _ ?_⟩, fun n k => ⟨_, Cert.AttRef.real_of_lt _ ?_⟩⟩
  · rw [← Cert.AttRef.posInf]; exact Host.reduce_andi_all _ _ _ _ _ e0 (ix2 n k)
  · rw [← Cert.AttRef.posInf]; exact Host.reduce_andi_all _ _ _ _ _ e1 (ix2 n k)
  · rw [← Cert.AttRef.posInf']; exact Host.reduce_andi_all _ _ _ _ _ e2 (ix2 n k)
  · rw [← Cert.AttRef.posInf']; exact Host.reduce_andi_all _ _ _ _ _ e3 (ix2 n k)
  · rw [← Cert.AttRef.posInf']; exact Host.reduce_andi_all _ _ _ _ _ e4 (ix1 n)
  · rw [← Cert.AttRef.posInf']; exact Host.reduce_andi_all _ _ _ _ _ e5 (ix1 n)
  · rw [← Cert.AttRef.posInf']; exact Host.reduce_andi_all _ _ _ _ _ e6 (ix2 n k)

/-! ## The bodies' stores -/

/-- The router's column below the padding. -/
def column (k : Fin 2048) (e : Fin 128) : EReal := if h : e.val < 16 then A6 (ix2 k (⟨e.val, h⟩ : Fin 16)) else 0

/-- The three products of a real row: the second and third are zero. -/
theorem core3 (hr : Reals A0 A1 A2 A3 A4 A5 A6) (H : FVec Ideal S512x2048 .f32) (X7 X8 : Vec Ideal S2048x128 .bf16) (r : Fin 512) (e : Fin 128) (n : Fin 8192)
    (hH : ∀ q, H (ix2 r q) = val_main_v29 (F := Ideal) A0 A1 A2 A3 A4 A5 (ix2 n q))
    (h7 : ∀ k e, X7 (ix2 k e) = column A6 k e) (h8 : ∀ k e, X8 (ix2 k e) = column A6 k e - column A6 k e) :
    k0_pay3 H X7 X7 X8 (ix2 r e)
      = if h : e.val < 16 then ∑ k : Fin 2048, val_main_v29 (F := Ideal) A0 A1 A2 A3 A4 A5 (ix2 n k) * A6 (ix2 k (⟨e.val, h⟩ : Fin 16)) else 0 := by
  have z : ∀ k e, column A6 k e - column A6 k e = 0 := by
    intro k e
    unfold column
    split
    · exact (hr.router _ _).sub_self
    · exact sub_zero 0
  pointwise [k0_pay3, k0_pay1]
  simp only [hH, h7, h8, z, (normed A0 A1 A2 A3 A4 A5 A6 hr n _).sub_self, zero_mul, mul_zero, Finset.sum_const_zero, add_zero]
  unfold column
  by_cases he : e.val < 16
  · simp only [dif_pos he]
  · simp only [dif_neg he, mul_zero, Finset.sum_const_zero]

theorem core2 (H : FVec Ideal S512x2048 .f32) (r : Fin 512) (b : Fin 16) (l : Fin 128) :
    k0_pay2 H (ix3 r b l) = H (ix2 r (⟨b.val * 128 + l.val, by omega⟩ : Fin 2048)) := by
  pointwise [k0_pay2, k0_pay1]

theorem ref34 (n : Fin 8192) (b : Fin 16) (l : Fin 128) :
    val_main_v34 (F := Ideal) A0 A1 A2 A3 A4 A5 (ix3 n b l) = val_main_v29 (F := Ideal) A0 A1 A2 A3 A4 A5 (ix2 n (⟨b.val * 128 + l.val, by omega⟩ : Fin 2048)) := by
  pointwise [val_main_v34, val_main_v30]

theorem ref33 (n : Fin 8192) (e : Fin 128) :
    val_main_v33 (F := Ideal) A0 A1 A2 A3 A4 A5 A6 (ix2 n e) = if h : e.val < 16 then ∑ k : Fin 2048, val_main_v29 (F := Ideal) A0 A1 A2 A3 A4 A5 (ix2 n k) * A6 (ix2 k (⟨e.val, h⟩ : Fin 16)) else 0 := by
  pointwise [val_main_v33, val_main_v32, val_main_v31, val_main_cst_5]

end Cert.OutValue

end
-- ==== Proof.OutKern.lean ====
module

public import proofs.«01_k».proof.Proof.OutVal

@[expose] public section

set_option maxRecDepth 16384

noncomputable section

namespace Cert.OutValue

open Cert.OutProjIdeal Cert.OutProjIdeal.Gen
open Idealize.ShloMosaic Idealize.ShloMosaic.TcCoe Idealize.SL.Sem
open Cert.OutProjReferenceIdeal.Read

variable (A0 A1 : S8192x1024.Idx → EReal) (A2 : S8192x2048.Idx → EReal) (A3 : S2048x2048.Idx → EReal) (A4 A5 : S2048.Idx → EReal) (A6 : S2048x16.Idx → EReal)

/-! ## The router's weights, set in a table of zeros -/

abbrev setDims := scatter_S2048x128_S1_S2048x16_01_n_1_0

/-- Every entry of the router's weights lands at its own row and column. -/
theorem lands (idx : S1.Idx → BitVec 32) (hidx : ∀ i, idx i = 0#32) (j : S2048x16.Idx) :
    setDims.resultIdx? j idx = some (ix2 (j 0 : Fin 2048) (⟨(j 1).val, by have : (j 1).val < 16 := (j 1).isLt; omega⟩ : Fin 128)) := by
  have st : ∀ a, setDims.start j idx a = 0 := by
    intro a
    unfold ScatterDims.start
    split
    · rw [hidx]; rfl
    · rfl
  have wi : ∀ a : Fin 2, setDims.window j a = (j a).val := by
    intro a
    unfold ScatterDims.window
    have hk : setDims.sKept = [0, 1] := rfl
    rw [dif_pos (by rw [hk]; match a with | ⟨0, _⟩ => exact List.mem_cons_self | ⟨1, _⟩ => exact List.mem_cons_of_mem _ List.mem_cons_self)]
    match a with
    | ⟨0, _⟩ => rfl
    | ⟨1, _⟩ => rfl
  have h0 : (j 0).val < 2048 := (j 0).isLt
  have h1 : (j 1).val < 16 := (j 1).isLt
  unfold ScatterDims.resultIdx?
  rw [dif_pos (by
    intro a
    rw [st, wi]
    match a with
    | ⟨0, _⟩ => exact ⟨by show (0 : Int) ≤ 0 + ((j 0).val : Int); omega, by show (0 : Int) + ((j 0).val : Int) < 2048; omega⟩
    | ⟨1, _⟩ => exact ⟨by show (0 : Int) ≤ 0 + ((j 1).val : Int); omega, by show (0 : Int) + ((j 1).val : Int) < 128; omega⟩)]
  refine congrArg some (funext fun a => Fin.ext ?_)
  show (setDims.start j idx a + setDims.window j a).toNat = _
  rw [st, wi]
  match a with
  | ⟨0, _⟩ => show ((0 : Int) + ((j 0).val : Int)).toNat = (j 0).val; omega
  | ⟨1, _⟩ => show ((0 : Int) + ((j 1).val : Int)).toNat = (j 1).val; omega

theorem set_apply (x : S2048x128.Idx → EReal) (idx : S1.Idx → BitVec 32) (hidx : ∀ i, idx i = 0#32) (u : S2048x16.Idx → EReal) (n : Fin 2048) (e : Fin 16) (e' : Fin 128)
    (he : e'.val = e.val) : Host.scatter setDims (fun _ b => b) x idx u (ix2 n e') = u (ix2 n e) := by
  refine Routing.scatter_set_hit _ _ _ _ _ _ (fun k hk => ?_) (ix2 n e) ?_
  · rw [lands idx hidx] at hk
    have q := Option.some.inj hk
    obtain ⟨a, b, rfl⟩ : ∃ (a : Fin 2048) (b : Fin 16), k = ix2 a b := ⟨k 0, k 1, eq_ix2 k⟩
    have q0 := congrArg Fin.val (congrFun q 0)
    have q1 := congrArg Fin.val (congrFun q 1)
    congr 1
    have r0 : a = n := Fin.ext q0
    have r1 : b = e := Fin.ext (q1.trans he)
    rw [r0, r1]
  · rw [lands idx hidx]
    refine congrArg some (funext fun a => Fin.ext ?_)
    match a with
    | ⟨0, _⟩ => rfl
    | ⟨1, _⟩ => exact he.symm

theorem miss_apply (x : S2048x128.Idx → EReal) (idx : S1.Idx → BitVec 32) (hidx : ∀ i, idx i = 0#32) (u : S2048x16.Idx → EReal) (n : Fin 2048) (e' : Fin 128)
    (he : ¬ e'.val < 16) : Host.scatter setDims (fun _ b => b) x idx u (ix2 n e') = x (ix2 n e') := by
  refine Routing.scatter_set_miss _ _ _ _ _ fun k hk => ?_
  rw [lands idx hidx] at hk
  have q1 : (k 1).val = e'.val := congrArg Fin.val (congrFun (Option.some.inj hk) 1)
  have : (k 1).val < 16 := (k 1).isLt
  omega

theorem table (idx : S1.Idx → BitVec 32) (hidx : ∀ i, idx i = 0#32) (x : S2048x128.Idx → EReal) (hx : ∀ i, x i = 0) (k : Fin 2048) (e : Fin 128) :
    Host.scatter setDims (fun _ b => b) x idx A6 (ix2 k e) = column A6 k e := by
  unfold column
  by_cases he : e.val < 16
  · rw [dif_pos he]
    exact set_apply x idx hidx A6 k (⟨e.val, he⟩ : Fin 16) e rfl
  · rw [dif_neg he, miss_apply x idx hidx A6 k e he, hx]

variable (m : (ℓ : Loc nD τ sig) → Buf (Elt Ideal) ℓ)

abbrev arg0 (c : Dev nD) : S8192x1024.Idx → EReal := m ((c.tc : Thread nD τ).loc main_arg0)
abbrev arg1 (c : Dev nD) : S8192x1024.Idx → EReal := m ((c.tc : Thread nD τ).loc main_arg1)
abbrev arg2 (c : Dev nD) : S8192x2048.Idx → EReal := m ((c.tc : Thread nD τ).loc main_arg2)
abbrev arg3 (c : Dev nD) : S2048x2048.Idx → EReal := m ((c.tc : Thread nD τ).loc main_arg3)
abbrev arg4 (c : Dev nD) : S2048.Idx → EReal := m ((c.tc : Thread nD τ).loc main_arg4)
abbrev arg5 (c : Dev nD) : S2048.Idx → EReal := m ((c.tc : Thread nD τ).loc main_arg5)
abbrev arg6 (c : Dev nD) : S2048x16.Idx → EReal := m ((c.tc : Thread nD τ).loc main_arg6)

/-- The host's table of the router's weights. -/
abbrev tab (c : Dev nD) : S2048x128.Idx → EReal := V m c main_v2

theorem zeros (i : S2048x128.Idx) : (broadcastInDim S2048x128 ![] bcast_S_S2048x128 (constant (F := Ideal) S_ .f32 0x00000000#32) : S2048x128.Idx → EReal) i = 0 := by
  pointwise
theorem V_v2 (c : Dev nD) (k : Fin 2048) (e : Fin 128) : tab m c (ix2 k e) = column (arg6 m c) k e := by
  have h : tab m c = Host.scatter setDims (fun _ b => b) (broadcastInDim S2048x128 ![] bcast_S_S2048x128 (constant (F := Ideal) S_ .f32 0x00000000#32))
      (broadcastInDim S1 ![] bcast_S_S1 (constantI S_ 32 0#32)) (arg6 m c) := by
    dsimp only [tab, V, hostOps0]
    after_results_simp
  rw [h]
  exact table (arg6 m c) _ (fun _ => rfl) _ zeros k e
theorem V_v3_eq (c : Dev nD) : (V m c main_v3 : S2048x128.Idx → EReal) = truncf (F := Ideal) .bf16 (tab m c) bitsLt_bf16_f32 := by
  dsimp only [tab, V, hostOps0]
  after_results_simp
theorem V_v6_eq (c : Dev nD) : (V m c main_v6 : S2048x128.Idx → EReal) = truncf (F := Ideal) .bf16 (subf (F := Ideal) (tab m c) (extf (F := Ideal) .f32 (truncf (F := Ideal) .bf16 (tab m c) bitsLt_bf16_f32) bitsLt_bf16_f32)) bitsLt_bf16_f32 := by
  dsimp only [tab, V, hostOps0]
  after_results_simp
theorem V_v3 (c : Dev nD) (k : Fin 2048) (e : Fin 128) : (V m c main_v3 : S2048x128.Idx → EReal) (ix2 k e) = column (arg6 m c) k e := by
  rw [V_v3_eq, ← V_v2 m c k e]
  generalize tab m c = x
  rfl
theorem V_v6 (c : Dev nD) (k : Fin 2048) (e : Fin 128) : (V m c main_v6 : S2048x128.Idx → EReal) (ix2 k e) = column (arg6 m c) k e - column (arg6 m c) k e := by
  rw [V_v6_eq, ← V_v2 m c k e]
  generalize tab m c = x
  rfl
theorem V_v8 (c : Dev nD) (k : Fin 1024) (q : Fin 2048) : (V m c main_v8 : S1024x2048.Idx → EReal) (ix2 k q) = arg3 m c (ix2 (⟨k.val, by omega⟩ : Fin 2048) q) := by
  dsimp only [V, hostOps0]
  after_results_simp
  pointwise
theorem V_v9 (c : Dev nD) (k : Fin 1024) (q : Fin 2048) : (V m c main_v9 : S1024x2048.Idx → EReal) (ix2 k q) = arg3 m c (ix2 (⟨1024 + k.val, by omega⟩ : Fin 2048) q) := by
  dsimp only [V, hostOps0]
  after_results_simp
  pointwise
theorem V_v10 (c : Dev nD) (q : Fin 2048) : V m c main_v10 (ix2 0 q) = arg4 m c (ix1 q) := by
  dsimp only [V, hostOps0]
  after_results_simp
  pointwise
theorem V_v11 (c : Dev nD) (q : Fin 2048) : V m c main_v11 (ix2 0 q) = arg5 m c (ix1 q) := by
  dsimp only [V, hostOps0]
  after_results_simp
  pointwise

/-! ## Where the blocks lie -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![t.val, 0] := by decide +kernel
theorem index10 : ∀ t : Fin grid0.N, win0_10.index t = ![t.val, 0] := by decide +kernel
theorem index11 : ∀ t : Fin grid0.N, win0_11.index t = ![t.val, 0, 0] := by decide +kernel
theorem index12 : ∀ t : Fin grid0.N, win0_12.index t = ![t.val, 0] := by decide +kernel

/-- The token that row r of grid point t's block is. -/
def token (t : Fin grid0.N) (r : Fin 512) : Fin 8192 :=
  ⟨t.val * 512 + r.val, by have h : t.val < 16 := t.isLt; have := r.isLt; omega⟩

theorem emb0 (t : Fin grid0.N) (r : Fin 512) (q : Fin 1024) : (win0_0.blk t).view.emb (ix2 r q) = ix2 (token t r) q := by
  funext a
  apply Fin.ext
  blk_simp [index0]
  match a with
  | ⟨0, _⟩ => simp [token]
  | ⟨1, _⟩ => simp [token]

theorem emb1 (t : Fin grid0.N) (r : Fin 512) (q : Fin 1024) : (win0_1.blk t).view.emb (ix2 r q) = ix2 (token t r) q := by
  funext a
  apply Fin.ext
  blk_simp [index1]
  match a with
  | ⟨0, _⟩ => simp [token]
  | ⟨1, _⟩ => simp [token]

theorem emb2 (t : Fin grid0.N) (r : Fin 512) (q : Fin 2048) : (win0_2.blk t).view.emb (ix2 r q) = ix2 (token t r) q := by
  funext a
  apply Fin.ext
  blk_simp [index2]
  match a with
  | ⟨0, _⟩ => simp [token]
  | ⟨1, _⟩ => simp [token]

theorem emb3 (t : Fin grid0.N) (r : Fin 1024) (q : Fin 2048) : (win0_3.blk t).view.emb (ix2 r q) = ix2 r q := by
  funext a
  apply Fin.ext
  blk_simp [index3]
  match a with
  | ⟨0, _⟩ => simp [token]
  | ⟨1, _⟩ => simp [token]

theorem emb4 (t : Fin grid0.N) (r : Fin 1024) (q : Fin 2048) : (win0_4.blk t).view.emb (ix2 r q) = ix2 r q := by
  funext a
  apply Fin.ext
  blk_simp [index4]
  match a with
  | ⟨0, _⟩ => simp [token]
  | ⟨1, _⟩ => simp [token]

theorem emb5 (t : Fin grid0.N) (r : Fin 1) (q : Fin 2048) : (win0_5.blk t).view.emb (ix2 r q) = ix2 r q := by
  funext a
  apply Fin.ext
  blk_simp [index5]
  match a with
  | ⟨0, _⟩ => simp [token]
  | ⟨1, _⟩ => simp [token]

theorem emb6 (t : Fin grid0.N) (r : Fin 1) (q : Fin 2048) : (win0_6.blk t).view.emb (ix2 r q) = ix2 r q := by
  funext a
  apply Fin.ext
  blk_simp [index6]
  match a with
  | ⟨0, _⟩ => simp [token]
  | ⟨1, _⟩ => simp [token]

theorem emb7 (t : Fin grid0.N) (r : Fin 2048) (q : Fin 128) : (win0_7.blk t).view.emb (ix2 r q) = ix2 r q := by
  funext a
  apply Fin.ext
  blk_simp [index7]
  match a with
  | ⟨0, _⟩ => simp [token]
  | ⟨1, _⟩ => simp [token]

theorem emb8 (t : Fin grid0.N) (r : Fin 2048) (q : Fin 128) : (win0_8.blk t).view.emb (ix2 r q) = ix2 r q := by
  funext a
  apply Fin.ext
  blk_simp [index8]
  match a with
  | ⟨0, _⟩ => simp [token]
  | ⟨1, _⟩ => simp [token]

theorem emb9 (t : Fin grid0.N) (r : Fin 512) (q : Fin 2048) : ((View.whole main_v12_0).slice (win0_9.rect t)).emb (ix2 r q) = ix2 (token t r) q := by
  funext a
  apply Fin.ext
  blk_simp [index9]
  match a with
  | ⟨0, _⟩ => simp [token]
  | ⟨1, _⟩ => simp

theorem emb10 (t : Fin grid0.N) (r : Fin 512) (q : Fin 2048) : ((View.whole main_v12_1).slice (win0_10.rect t)).emb (ix2 r q) = ix2 (token t r) q := by
  funext a
  apply Fin.ext
  blk_simp [index10]
  match a with
  | ⟨0, _⟩ => simp [token]
  | ⟨1, _⟩ => simp

theorem emb12 (t : Fin grid0.N) (r : Fin 512) (q : Fin 128) : ((View.whole main_v12_3).slice (win0_12.rect t)).emb (ix2 r q) = ix2 (token t r) q := by
  funext a
  apply Fin.ext
  blk_simp [index12]
  match a with
  | ⟨0, _⟩ => simp [token]
  | ⟨1, _⟩ => simp

theorem emb11 (t : Fin grid0.N) (r : Fin 512) (b : Fin 16) (l : Fin 128) : ((View.whole main_v12_2).slice (win0_11.rect t)).emb (ix3 r b l) = ix3 (token t r) b l := by
  funext a
  apply Fin.ext
  blk_simp [index11]
  match a with
  | ⟨0, _⟩ => simp [token]
  | ⟨1, _⟩ => simp
  | ⟨2, _⟩ => simp

/-! ## The staged blocks -/

theorem blk0 (c : Dev nD) (t : Fin grid0.N) (r : Fin 512) (q : Fin 1024) : (iblk m c 0 t : S512x1024.Idx → EReal) (ix2 r q) = arg0 m c (ix2 (token t r) q) := by
  unfold iblk; blk_simp; rw [V_main_arg0, emb0]
theorem blk1 (c : Dev nD) (t : Fin grid0.N) (r : Fin 512) (q : Fin 1024) : (iblk m c 1 t : S512x1024.Idx → EReal) (ix2 r q) = arg1 m c (ix2 (token t r) q) := by
  unfold iblk; blk_simp; rw [V_main_arg1, emb1]
theorem blk2 (c : Dev nD) (t : Fin grid0.N) (r : Fin 512) (q : Fin 2048) : (iblk m c 2 t : S512x2048.Idx → EReal) (ix2 r q) = arg2 m c (ix2 (token t r) q) := by
  unfold iblk; blk_simp; rw [V_main_arg2, emb2]
theorem blk3 (c : Dev nD) (t : Fin grid0.N) (r : Fin 1024) (q : Fin 2048) : (iblk m c 3 t : S1024x2048.Idx → EReal) (ix2 r q) = arg3 m c (ix2 (⟨r.val, by omega⟩ : Fin 2048) q) := by
  unfold iblk; blk_simp; rw [emb3, V_v8]
theorem blk4 (c : Dev nD) (t : Fin grid0.N) (r : Fin 1024) (q : Fin 2048) : (iblk m c 4 t : S1024x2048.Idx → EReal) (ix2 r q) = arg3 m c (ix2 (⟨1024 + r.val, by omega⟩ : Fin 2048) q) := by
  unfold iblk; blk_simp; rw [emb4, V_v9]
theorem blk7 (c : Dev nD) (t : Fin grid0.N) (r : Fin 2048) (q : Fin 128) : (iblk m c 7 t : S2048x128.Idx → EReal) (ix2 r q) = column (arg6 m c) r q := by
  unfold iblk; blk_simp; rw [emb7, V_v3]
theorem blk8 (c : Dev nD) (t : Fin grid0.N) (r : Fin 2048) (q : Fin 128) : (iblk m c 8 t : S2048x128.Idx → EReal) (ix2 r q) = column (arg6 m c) r q - column (arg6 m c) r q := by
  unfold iblk; blk_simp; rw [emb8, V_v6]
theorem blk5 (c : Dev nD) (t : Fin grid0.N) (q : Fin 2048) : (iblk m c 5 t : S1x2048.Idx → EReal) (ix2 0 q) = arg4 m c (ix1 q) := by
  unfold iblk; blk_simp; rw [emb5, V_v10]
theorem blk6 (c : Dev nD) (t : Fin grid0.N) (q : Fin 2048) : (iblk m c 6 t : S1x2048.Idx → EReal) (ix2 0 q) = arg5 m c (ix1 q) := by
  unfold iblk; blk_simp; rw [emb6, V_v11]

/-- The reference's normalised rows at the kernel's own arguments. -/
abbrev rows (c : Dev nD) := val_main_v29 (F := Ideal) (arg0 m c) (arg1 m c) (arg2 m c) (arg3 m c) (arg4 m c) (arg5 m c)
abbrev planes (c : Dev nD) := val_main_v34 (F := Ideal) (arg0 m c) (arg1 m c) (arg2 m c) (arg3 m c) (arg4 m c) (arg5 m c)
abbrev logits (c : Dev nD) := val_main_v33 (F := Ideal) (arg0 m c) (arg1 m c) (arg2 m c) (arg3 m c) (arg4 m c) (arg5 m c) (arg6 m c)

/-- What the body makes of a grid point's rows is the reference's rows of those tokens. -/
theorem block (c : Dev nD) (t : Fin grid0.N) (r : Fin 512) (q : Fin 2048) :
    k0_pay4 (iblk m c 0 t) (iblk m c 3 t) (iblk m c 1 t) (iblk m c 4 t) (iblk m c 2 t) (iblk m c 5 t) (iblk m c 6 t) (ix2 r q) = rows m c (ix2 (token t r) q) :=
  core _ _ _ _ _ _ _ _ _ _ _ _ _ r q (token t r) (blk0 m c t r) (blk1 m c t r) (blk2 m c t r) (blk3 m c t) (blk4 m c t) (blk5 m c t) (blk6 m c t)

/-- The value the four stores share, from whole blocks. -/
theorem pay5 (x0 x1 : Vec Ideal S512x1024 .bf16) (x2 : Vec Ideal S512x2048 .f32) (x3 x4 : Vec Ideal S1024x2048 .bf16) (x5 x6 : Vec Ideal S1x2048 .f32) (x7 x8 : Vec Ideal S2048x128 .bf16) :
    k0_pay5 x0 x1 x2 x3 x4 x5 x6 x7 x8 = k0_pay4 x0 x3 x1 x4 x2 x5 x6 := by
  have l0 : ∀ x : Vec Ideal S512x1024 .bf16, View.ld x r0_0 = x := fun x => View.ld_unit_lit' _ x (by decide)
  have l1 : ∀ x : Vec Ideal S1024x2048 .bf16, View.ld x r0_1 = x := fun x => View.ld_unit_lit' _ x (by decide)
  have l2 : ∀ x : Vec Ideal S512x2048 .f32, View.ld x r0_2 = x := fun x => View.ld_unit_lit' _ x (by decide)
  have l3 : ∀ x : Vec Ideal S1x2048 .f32, View.ld x r0_3 = x := fun x => View.ld_unit_lit' _ x (by decide)
  unfold k0_pay5
  rw [l0 x0, l0 x1, l1 x3, l1 x4, l2 x2, l3 x5, l3 x6]

/-- Narrowing changes nothing in the reals. -/
theorem pay1 (H : S512x2048.Idx → EReal) : (k0_pay1 (F := Ideal) H : S512x2048.Idx → EReal) = H := rfl

theorem block5 (c : Dev nD) (t : Fin grid0.N) (r : Fin 512) (q : Fin 2048) :
    k0_pay5 (iblk m c 0 t) (iblk m c 1 t) (iblk m c 2 t) (iblk m c 3 t) (iblk m c 4 t) (iblk m c 5 t) (iblk m c 6 t) (iblk m c 7 t) (iblk m c 8 t) (ix2 r q) = rows m c (ix2 (token t r) q) := by
  rw [pay5]
  exact block m c t r q

theorem out9 (c : Dev nD) : (dats m 0 c).arrAt 9 grid0.N = rows m c := by
  refine (dats m 0 c).arrAt_eq_of_covers 9 _ (by decide +kernel) fun t hf y => ?_
  blk_simp
  rw [after0_9]
  frame_out
  obtain ⟨r, q, rfl⟩ : ∃ (r : Fin 512) (q : Fin 2048), y = ix2 r q := ⟨y 0, y 1, eq_ix2 y⟩
  rw [emb9]
  exact block5 m c t r q

theorem out10 (c : Dev nD) : (dats m 0 c).arrAt 10 grid0.N = rows m c := by
  refine (dats m 0 c).arrAt_eq_of_covers 10 _ (by decide +kernel) fun t hf y => ?_
  blk_simp
  rw [after0_10]
  frame_out
  obtain ⟨r, q, rfl⟩ : ∃ (r : Fin 512) (q : Fin 2048), y = ix2 r q := ⟨y 0, y 1, eq_ix2 y⟩
  rw [emb10]
  exact (congrFun (pay1 _) _).trans (block5 m c t r q)

theorem out11 (c : Dev nD) : (dats m 0 c).arrAt 11 grid0.N = planes m c := by
  refine (dats m 0 c).arrAt_eq_of_covers 11 _ (by decide +kernel) fun t hf y => ?_
  blk_simp
  rw [after0_11]
  frame_out
  obtain ⟨r, b, l, rfl⟩ : ∃ (r : Fin 512) (b : Fin 16) (l : Fin 128), y = ix3 r b l := ⟨y 0, y 1, y 2, eq_ix3 y⟩
  rw [emb11]
  exact (core2 _ r b l).trans ((block5 m c t r _).trans (ref34 _ _ _ _ _ _ (token t r) b l).symm)

theorem out12 (c : Dev nD) (hr : Reals (arg0 m c) (arg1 m c) (arg2 m c) (arg3 m c) (arg4 m c) (arg5 m c) (arg6 m c)) :
    (dats m 0 c).arrAt 12 grid0.N = logits m c := by
  refine (dats m 0 c).arrAt_eq_of_covers 12 _ (by decide +kernel) fun t hf y => ?_
  blk_simp
  rw [after0_12]
  frame_out
  obtain ⟨r, e, rfl⟩ : ∃ (r : Fin 512) (e : Fin 128), y = ix2 r e := ⟨y 0, y 1, eq_ix2 y⟩
  rw [emb12]
  exact (core3 _ _ _ _ _ _ _ hr _ _ _ r e (token t r) (block5 m c t r) (blk7 m c t) (blk8 m c t)).trans (ref33 _ _ _ _ _ _ _ (token t r) e).symm

end Cert.OutValue

end
-- ==== Proof.OutClaim.lean ====
module

public import proofs.«01_k».proof.Proof.OutKern
public import proofs.«01_k».proof.Proof.Gen.OutProj
public import Idealize.ShloMosaic.Lib.Claim

@[expose] public section

set_option maxRecDepth 16384

noncomputable section

namespace Cert.OutClaim

open Idealize.ShloMosaic Idealize.ShloMosaic.TcCoe Idealize.SL.Sem

theorem body_eq : @Cert.OutProj.cc0_outproj_ln Bits _ _ = @Cert.OutProjIdeal.cc0_outproj_ln Bits _ _ := rfl

set_option maxHeartbeats 8000000 in
/-- The two prints of the kernel run one body. -/
theorem defs₀_eq : @Cert.OutProj.defs₀ Bits _ _ = @Cert.OutProjIdeal.defs₀ Bits _ _ := by
  unfold Cert.OutProj.defs₀ Cert.OutProjIdeal.defs₀
  refine congrArg Defs.onTc ?_
  funext l x
  match l, x with
  | 0, (t, s) =>
    dsimp only
    rw [body_eq]
    rfl
  | ⟨_ + 1, h⟩, _ => exact absurd h (Nat.not_lt.2 (Nat.le_add_left _ _))

theorem defs_eq : @Cert.OutProj.defs Bits _ _ = @Cert.OutProjIdeal.defs Bits _ _ := congrArg (Pipeline.defs Cert.OutProjIdeal.pcfgs) defs₀_eq

set_option maxHeartbeats 8000000 in
theorem frame_kernel : Cert.quiescent_OutProj := fun m ρ _ => by
  have h := Cert.OutProjIdeal.Gen.frame (F := Bits) m ρ
  rw [← defs_eq] at h
  exact h

theorem frame_kernelIdeal : Cert.quiescent_OutProjIdeal := fun m ρ _ => Cert.OutProjIdeal.Gen.frame (F := Ideal) m ρ

/-- The reference's run leaves its arguments as they were and every counter at zero. -/
theorem frame_reference [Cert.OutProjReferenceIdeal.Facts] : Cert.quiescent_OutProjReferenceIdeal := fun m ρ _ =>
  (θ_run Cert.OutProjReferenceIdeal.defs _ _).mono (fun r h => ⟨fun c => (h c).2.2.2.2, sem_eq_zero_of_no_sems (by decide) r.2⟩)
    (Cert.OutProjReferenceIdeal.Value.run (F := Ideal) m ρ)

set_option maxHeartbeats 4000000 in
theorem algebraic : Cert.algebraic_OutProjIdeal_OutProjReferenceIdeal_pre_finite_out_proj := by
  intro m g m' g' hp hm
  refine ⟨Cert.OutValue.rows m, Cert.OutValue.rows m, Cert.OutValue.planes m, Cert.OutValue.logits m, ?_, ?_⟩
  · run_from (Cert.OutProjIdeal.Gen.run_main (F := Ideal) m g)
    · exact Cert.OutValue.out9 m _
    · exact Cert.OutValue.out10 m _
    · exact Cert.OutValue.out11 m _
    · exact Cert.OutValue.out12 m _ (Cert.OutValue.real_of_pre _ _ _ _ _ _ _ (hp _))
  · refine (θ_run Cert.OutProjReferenceIdeal.defs _ _).mono (fun r h c => ?_) (Cert.OutProjReferenceIdeal.Value.run (F := Ideal) m' g')
    obtain ⟨a0, a1, a2, a3, a4, a5, a6⟩ := hm c
    refine ⟨(h c).1.trans ?_, (h c).2.1.trans ?_, (h c).2.2.1.trans ?_, (h c).2.2.2.1.trans ?_, (h c).2.2.2.2⟩
    · rw [Cert.OutProjReferenceIdeal.Read.val_main_v29_eq, a0, a1, a2, a3, a4, a5]
    · rw [Cert.OutProjReferenceIdeal.Read.val_main_v30_eq, a0, a1, a2, a3, a4, a5]
      rfl
    · rw [Cert.OutProjReferenceIdeal.Read.val_main_v34_eq, a0, a1, a2, a3, a4, a5]
    · rw [Cert.OutProjReferenceIdeal.Read.val_main_v33_eq, a0, a1, a2, a3, a4, a5, a6]

end Cert.OutClaim

end
-- ==== Proof.ExpertsBody.lean ====
/-
  The experts' kernel, one point of the grid: what its body leaves in the accumulator and in the result's block, as a
  function of what it finds there. Over any number instance `F`.
-/
module

public import proofs.«01_k».proof.Proof.Run
public import proofs.«01_k».proof.Proof.Gen.ExpertsIdeal.Skeleton
public import proofs.«01_k».proof.Proof.Gen.ExpertsIdeal.Launch

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Loads and stores of a buffer held by what it reads -/

section Owned

variable (c : Dev nD) (𝒱 : Variants) {sp : CoreSpace} {sh : Shape} {e : EltTy} {α : Type}
  {defs : Defs nD τ sig (Elt F) Λ₀}

theorem wp_load_owned {mr : Memref sig .tc sp sh e} {r : Rect sh} {hl : mr.view.LoadsAt r}
    {k : (r.shape.Idx → Elt F e) → Prog (TpuEff nD τ sig (Elt F) Λ₀ .tc) α} {q : PosShare TreeShare}
    {X : sh.Idx → Elt F e} {Q : α → sProp 𝕄} :
    (owns (c : Thread nD τ) mr q X : sProp 𝕄)
      ⊢ iprop((owns (c : Thread nD τ) mr q X -∗ wp frame (wpE defs 𝒱 c none) Set.univ (k fun i => X (r.emb i)) Q)
        -∗ wp frame (wpE defs 𝒱 c none) Set.univ (.op (.load mr r hl) k) Q) := by
  unfold owns
  iintro ⟨%f, %hf, H⟩ Hk
  iapply (wp_load_rect (defs := defs) 𝒱 (c : Thread nD τ) none Set.univ (m := mr) (r := r) (hl := hl) (f := f) (mr.view.set_slice_subset r)) $$ H
  iintro H
  have h : (mr.access r).read (Elt F) f = fun i => X (r.emb i) := by rw [← hf]; rfl
  rw [h]
  iapply Hk
  iexists f
  isplitr; · ipureintro; exact hf
  iexact H

theorem wp_store_owned {mr : Memref sig .tc sp sh e} {r : Rect sh} {w : r.shape.Idx → Elt F e}
    {hx : (mr.access r).Stores Finset.univ} {hm : (Finset.univ : Finset r.shape.Idx) = Finset.univ ∨ ∀ a, r.stride a = 1}
    {k : PUnit → Prog (TpuEff nD τ sig (Elt F) Λ₀ .tc) α}
    {X : sh.Idx → Elt F e} {Q : α → sProp 𝕄} :
    (owns (c : Thread nD τ) mr fullShare X : sProp 𝕄)
      ⊢ iprop((owns (c : Thread nD τ) mr fullShare (r.overlay X w) -∗ wp frame (wpE defs 𝒱 c none) Set.univ (k ⟨⟩) Q)
        -∗ wp frame (wpE defs 𝒱 c none) Set.univ (.op (.store mr r w Finset.univ hx hm) k) Q) := by
  unfold owns
  iintro ⟨%f, %hf, H⟩ Hk
  iapply (wp_store (defs := defs) 𝒱 (c : Thread nD τ) none Set.univ (m := mr) (r := r) (w := w) (Mk := Finset.univ) (hx := hx) (hm := hm) (f := f)
    ((mr.view.slice r).setOn_subset_set _ |>.trans (mr.view.set_slice_subset r))) $$ H
  iintro H
  iapply Hk
  iexists ((mr.access r).write (Elt F) f w Finset.univ)
  isplitr
  · ipureintro
    funext x
    by_cases hx : x ∈ r.set
    · rw [← Rect.map_emb_univ] at hx
      obtain ⟨j, -, rfl⟩ := Finset.mem_map.mp hx
      rw [Rect.overlay_emb]
      exact View.read_slice_write_emb r f w (Finset.mem_univ j)
    · rw [Rect.overlay_of_not_mem _ _ _ hx, ← hf]
      exact View.read_slice_write_of_not_mem r f w _ (by rw [Rect.map_emb_univ]; exact hx)
  iexact H

end Owned

/-! ## One block of 256 rows -/

/-- The rows of block `j` (at row `o`) of the operand and of the result, and of the accumulator. -/
abbrev r3 (o : ℕ) (h : ∀ a, (![o, 0, 0] : Fin 3 → ℕ) a + S256x16x128.size a ≤ S1024x16x128.size a) : Rect S1024x16x128 :=
  Rect.unit (s := S1024x16x128) ![o, 0, 0] S256x16x128.size h
abbrev r2 (o : ℕ) (h : ∀ a, (![o, 0] : Fin 2 → ℕ) a + S256x2048.size a ≤ S1024x2048.size a) : Rect S1024x2048 :=
  Rect.unit (s := S1024x2048) ![o, 0] S256x2048.size h

/-- The accumulator after a block's live part: the first chunk's product, or what it held and the chunk's product. -/
def accStep (i : grid0.Coords) (o : ℕ) (h : ∀ a, (![o, 0] : Fin 2 → ℕ) a + S256x2048.size a ≤ S1024x2048.size a)
    (p : FVec F S256x2048 .f32) (A : S1024x2048.Idx → F .f32) : S1024x2048.Idx → F .f32 :=
  (r2 o h).overlay A (if (i 1).val = 0 then p else addf (fun x => A ((r2 o h).emb x)) p)

/-- The result's block after a block's live part. -/
def outStep (i : grid0.Coords) (o : ℕ) (h : ∀ a, (![o, 0] : Fin 2 → ℕ) a + S256x2048.size a ≤ S1024x2048.size a)
    (h' : ∀ a, (![o, 0, 0] : Fin 3 → ℕ) a + S256x16x128.size a ≤ S1024x16x128.size a)
    (A : S1024x2048.Idx → F .f32) (O : S1024x16x128.Idx → F .bf16) : S1024x16x128.Idx → F .bf16 :=
  if (i 1).val = 3 then (r3 o h').overlay O (k0_pay5 fun x => A ((r2 o h).emb x)) else O

section Block

variable {α : Type} (i : grid0.Coords) (arg5 : Memref sig .tc .vmem S1024x16x128 .bf16) (arg9 : Memref sig .tc .vmem S1024x16x128 .bf16)
  (arg10 : Memref sig .tc .vmem S1024x2048 .f32) (o : ℕ)
  (h3 : ∀ a, (![o, 0, 0] : Fin 3 → ℕ) a + S256x16x128.size a ≤ S1024x16x128.size a)
  (h2 : ∀ a, (![o, 0] : Fin 2 → ℕ) a + S256x2048.size a ≤ S1024x2048.size a)
  (l5 : arg5.view.LoadsAt (r3 o h3).toLoadRect) (l9 : arg9.view.LoadsAt (r3 o h3).toLoadRect)
  (l10 : arg10.view.LoadsAt (r2 o h2).toLoadRect)
  (s9 : (arg9.access (r3 o h3)).Stores Finset.univ) (s10 : (arg10.access (r2 o h2)).Stores Finset.univ)
  (m3 : (Finset.univ : Finset (r3 o h3).shape.Idx) = Finset.univ ∨ ∀ a, (r3 o h3).stride a = 1)
  (m2 : (Finset.univ : Finset (r2 o h2).shape.Idx) = Finset.univ ∨ ∀ a, (r2 o h2).stride a = 1)

/-- The live part of one block: the block's rows of the operand through the chunk of the expert, into the accumulator,
    and out of it at the last chunk; `K` is what the kernel does next. -/
def liveProg (pS : Vec F S256x16x128 .bf16 → FVec F S256x2048 .f32)
    (pA : Vec F S256x16x128 .bf16 → Vec F S256x2048 .f32 → FVec F S256x2048 .f32)
    (pO : Vec F S256x2048 .f32 → FVec F S256x16x128 .bf16)
    (cL cO : BitVec 1) (arg1 : BitVec 32) (K : Prog (TpuEff nD τ sig (Elt F) Λ₀ .tc) α) :
    Prog (TpuEff nD τ sig (Elt F) Λ₀ .tc) α :=
  if hL : cL = 1#1 then do
    let v43 ← Prog.lift (.load arg5 (r3 o h3).toLoadRect l5)
    have v58 : BitVec 1 := Scalar.cmpi CmpIPredicate.eq arg1 0#32
    have v59 : BitVec 32 := Scalar.extui v58
    have v60 : BitVec 1 := Scalar.cmpi CmpIPredicate.ne v59 0#32
    have __do_jp := fun (_ : Unit) =>
      have v61 := Scalar.cmpi CmpIPredicate.sgt arg1 0#32
      have v62 := Scalar.extui v61
      have v63 := Scalar.cmpi CmpIPredicate.ne v62 0#32
      have __do_jp := fun (_ : Unit) =>
        if h : cO = 1#1 then do
          let v67 ← Prog.lift (.load arg10 (r2 o h2).toLoadRect l10)
          let _ ← Prog.lift (.load arg9 (r3 o h3).toLoadRect l9)
          Prog.lift (.store arg9 (r3 o h3) (pO v67) Finset.univ s9 m3)
          K
        else K
      if h : v63 = 1#1 then do
        let v67 ← Prog.lift (.load arg10 (r2 o h2).toLoadRect l10)
        let _ ← Prog.lift (.load arg10 (r2 o h2).toLoadRect l10)
        Prog.lift (.store arg10 (r2 o h2) (pA v43 v67) Finset.univ s10 m2)
        __do_jp ()
      else __do_jp ()
    if h : v60 = 1#1 then do
      let _ ← Prog.lift (.load arg10 (r2 o h2).toLoadRect l10)
      Prog.lift (.store arg10 (r2 o h2) (pS v43) Finset.univ s10 m2)
      __do_jp ()
    else __do_jp ()
  else K

/-- The other part: a block with no live row writes zeros at the last chunk. -/
def zeroProg (pZ : FVec F S256x16x128 .bf16) (cZ : BitVec 1) (K : Prog (TpuEff nD τ sig (Elt F) Λ₀ .tc) α) :
    Prog (TpuEff nD τ sig (Elt F) Λ₀ .tc) α :=
  if hZ : cZ = 1#1 then do
    let _ ← Prog.lift (.load arg9 (r3 o h3).toLoadRect l9)
    Prog.lift (.store arg9 (r3 o h3) pZ Finset.univ s9 m3)
    K
  else K

/-- The chunk's number, as the kernel compares it. -/
theorem chunk_zero : (Scalar.cmpi CmpIPredicate.ne (Scalar.extui (Scalar.cmpi CmpIPredicate.eq (BitVec.ofNat 32 (i 1).val) 0#32) : BitVec 32) 0#32 = 1#1)
    ↔ (i 1).val = 0 := by
  have h : (i 1).val < 4 := (i 1).isLt
  generalize (i 1).val = n at h
  interval_cases n <;> decide

theorem chunk_pos : (Scalar.cmpi CmpIPredicate.ne (Scalar.extui (Scalar.cmpi CmpIPredicate.sgt (BitVec.ofNat 32 (i 1).val) 0#32) : BitVec 32) 0#32 = 1#1)
    ↔ (i 1).val ≠ 0 := by
  have h : (i 1).val < 4 := (i 1).isLt
  generalize (i 1).val = n at h
  interval_cases n <;> decide

theorem chunk_last : (Scalar.cmpi CmpIPredicate.ne (Scalar.extui (Scalar.cmpi CmpIPredicate.eq (BitVec.ofNat 32 (i 1).val) 3#32) : BitVec 32) 0#32 = 1#1)
    ↔ (i 1).val = 3 := by
  have h : (i 1).val < 4 := (i 1).isLt
  generalize (i 1).val = n at h
  interval_cases n <;> decide

/-- A block's live part, run. -/
theorem live_run (c : Dev nD) (𝒱 : Variants) {defs : Defs nD τ sig (Elt F) Λ₀} {Q : α → sProp 𝕄}
    (p : Vec F S256x16x128 .bf16 → FVec F S256x2048 .f32)
    (pA : Vec F S256x16x128 .bf16 → Vec F S256x2048 .f32 → FVec F S256x2048 .f32) (hpA : ∀ x a, pA x a = addf a (p x))
    (cL cO : BitVec 1) (hO : cO = 1#1 ↔ (i 1).val = 3) (K : Prog (TpuEff nD τ sig (Elt F) Λ₀ .tc) α)
    (X O : S1024x16x128.Idx → F .bf16) (A : S1024x2048.Idx → F .f32) :
    iprop((owns (c : Thread nD τ) arg5 fullShare X ∗ owns (c : Thread nD τ) arg9 fullShare O ∗ owns (c : Thread nD τ) arg10 fullShare A)
        ∗ (iprop(owns (c : Thread nD τ) arg5 fullShare X
            ∗ owns (c : Thread nD τ) arg9 fullShare (if cL = 1#1 then outStep i o h2 h3 (accStep i o h2 (p fun x => X ((r3 o h3).emb x)) A) O else O)
            ∗ owns (c : Thread nD τ) arg10 fullShare (if cL = 1#1 then accStep i o h2 (p fun x => X ((r3 o h3).emb x)) A else A))
          -∗ wp frame (wpE defs 𝒱 c none) Set.univ K Q))
      ⊢ wp frame (wpE defs 𝒱 c none) Set.univ
        (liveProg arg5 arg9 arg10 o h3 h2 l5 l9 l10 s9 s10 m3 m2 p pA k0_pay5 cL cO (BitVec.ofNat 32 (i 1).val) K) Q := by
  unfold liveProg
  by_cases hL : cL = 1#1
  · rw [dif_pos hL, if_pos hL, if_pos hL]
    dsimp only [Prog.lift, Bind.bind, Prog.bind]
    iintro ⟨⟨H5, H9, H10⟩, Hk⟩
    iapply (wp_load_owned (defs := defs) c 𝒱) $$ H5
    iintro H5
    dsimp only [Prog.bind]
    have tail : ∀ (A' : S1024x2048.Idx → F .f32), iprop((owns (c : Thread nD τ) arg5 fullShare X ∗ owns (c : Thread nD τ) arg9 fullShare O ∗ owns (c : Thread nD τ) arg10 fullShare A')
        ∗ (iprop(owns (c : Thread nD τ) arg5 fullShare X
            ∗ owns (c : Thread nD τ) arg9 fullShare (outStep i o h2 h3 A' O)
            ∗ owns (c : Thread nD τ) arg10 fullShare A')
          -∗ wp frame (wpE defs 𝒱 c none) Set.univ K Q))
      ⊢ wp frame (wpE defs 𝒱 c none) Set.univ
        (if h : cO = 1#1 then Prog.op (.load arg10 (r2 o h2).toLoadRect l10) fun v67 => Prog.op (.load arg9 (r3 o h3).toLoadRect l9) fun _ =>
          Prog.op (.store arg9 (r3 o h3) (k0_pay5 v67) Finset.univ s9 m3) fun _ => K else K) Q := by
      intro A'
      unfold outStep
      by_cases h : cO = 1#1
      · rw [dif_pos h, if_pos (hO.1 h)]
        iintro ⟨⟨H5, H9, H10⟩, Hk⟩
        iapply (wp_load_owned (defs := defs) c 𝒱) $$ H10
        iintro H10
        iapply (wp_load_owned (defs := defs) c 𝒱) $$ H9
        iintro H9
        iapply (wp_store_owned (defs := defs) c 𝒱) $$ H9
        iintro H9
        iapply Hk
        isplitl [H5]; · iexact H5
        isplitl [H9]; · iexact H9
        iexact H10
      · rw [dif_neg h, if_neg (fun h' => h (hO.2 h'))]
        iintro ⟨H, Hk⟩
        iapply Hk
        iexact H
    unfold accStep
    by_cases h0 : (i 1).val = 0
    · rw [dif_pos ((chunk_zero i).2 h0), dif_neg (fun h => (chunk_pos i).1 h h0), if_pos h0]
      iapply (wp_load_owned (defs := defs) c 𝒱) $$ H10
      iintro H10
      dsimp only [Prog.bind]
      iapply (wp_store_owned (defs := defs) c 𝒱) $$ H10
      iintro H10
      iapply (tail _)
      isplitl [H5 H9 H10]
      · isplitl [H5]; · iexact H5
        isplitl [H9]; · iexact H9
        iexact H10
      iexact Hk
    · rw [dif_neg (fun h => h0 ((chunk_zero i).1 h)), dif_pos ((chunk_pos i).2 h0), if_neg h0, ← hpA]
      iapply (wp_load_owned (defs := defs) c 𝒱) $$ H10
      iintro H10
      dsimp only [Prog.bind]
      iapply (wp_load_owned (defs := defs) c 𝒱) $$ H10
      iintro H10
      dsimp only [Prog.bind]
      iapply (wp_store_owned (defs := defs) c 𝒱) $$ H10
      iintro H10
      iapply (tail _)
      isplitl [H5 H9 H10]
      · isplitl [H5]; · iexact H5
        isplitl [H9]; · iexact H9
        iexact H10
      iexact Hk
  · rw [dif_neg hL, if_neg hL, if_neg hL]
    iintro ⟨H, Hk⟩
    iapply Hk
    iexact H

/-- A block's other part, run. -/
theorem zero_run (c : Dev nD) (𝒱 : Variants) {defs : Defs nD τ sig (Elt F) Λ₀} {Q : α → sProp 𝕄}
    (pZ : FVec F S256x16x128 .bf16) (cZ : BitVec 1) (K : Prog (TpuEff nD τ sig (Elt F) Λ₀ .tc) α)
    (O : S1024x16x128.Idx → F .bf16) :
    iprop(owns (c : Thread nD τ) arg9 fullShare O
        ∗ (owns (c : Thread nD τ) arg9 fullShare (if cZ = 1#1 then (r3 o h3).overlay O pZ else O)
          -∗ wp frame (wpE defs 𝒱 c none) Set.univ K Q))
      ⊢ wp frame (wpE defs 𝒱 c none) Set.univ (zeroProg arg9 o h3 l9 s9 m3 pZ cZ K) Q := by
  unfold zeroProg
  by_cases h : cZ = 1#1
  · rw [dif_pos h, if_pos h]
    dsimp only [Prog.lift, Bind.bind, Prog.bind]
    iintro ⟨H, Hk⟩
    iapply (wp_load_owned (defs := defs) c 𝒱) $$ H
    iintro H
    dsimp only [Prog.bind]
    iapply (wp_store_owned (defs := defs) c 𝒱) $$ H
    iintro H
    iapply Hk
    iexact H
  · rw [dif_neg h, if_neg h]
    iintro ⟨H, Hk⟩
    iapply Hk
    iexact H

end Block

/-! ## The whole body -/

/-- What one block of rows comes to at one chunk: the gated product through the chunk of the expert. -/
def part (W1 W2 : Vec F S1x2048x256 .f32) (W3 : Vec F S1x256x2048 .f32) (x : Vec F S256x16x128 .bf16) : FVec F S256x2048 .f32 :=
  k0_pay2 (k0_pay7 W1) (k0_pay8 W2) (k0_pay9 W3) x

/-- Whether the block at row `o` of a tile with `v` rows has a live row. -/
abbrev live (v : BitVec 32) (o : ℕ) : Prop := (o : ℤ) < v.toInt

open Classical in
/-- The accumulator after a block. -/
def blockA (i : grid0.Coords) (v : BitVec 32) (o : ℕ) (h : ∀ a, (![o, 0] : Fin 2 → ℕ) a + S256x2048.size a ≤ S1024x2048.size a)
    (p : FVec F S256x2048 .f32) (A : S1024x2048.Idx → F .f32) : S1024x2048.Idx → F .f32 :=
  if live v o then accStep i o h p A else A

open Classical in
/-- The result's block after a block, the accumulator then at `A`. -/
def blockO (i : grid0.Coords) (v : BitVec 32) (o : ℕ) (h : ∀ a, (![o, 0] : Fin 2 → ℕ) a + S256x2048.size a ≤ S1024x2048.size a)
    (h' : ∀ a, (![o, 0, 0] : Fin 3 → ℕ) a + S256x16x128.size a ≤ S1024x16x128.size a)
    (A : S1024x2048.Idx → F .f32) (O : S1024x16x128.Idx → F .bf16) : S1024x16x128.Idx → F .bf16 :=
  if (i 1).val = 3 then (r3 o h').overlay O (if live v o then k0_pay5 (fun x => A ((r2 o h).emb x)) else k0_pay1) else O

theorem blockO_eq (i : grid0.Coords) (v : BitVec 32) (o : ℕ) (h : ∀ a, (![o, 0] : Fin 2 → ℕ) a + S256x2048.size a ≤ S1024x2048.size a)
    (h' : ∀ a, (![o, 0, 0] : Fin 3 → ℕ) a + S256x16x128.size a ≤ S1024x16x128.size a)
    (p : FVec F S256x2048 .f32) (A : S1024x2048.Idx → F .f32) (O : S1024x16x128.Idx → F .bf16) (cL cZ : BitVec 1)
    (hL : cL = 1#1 ↔ live v o) (hZ : cZ = 1#1 ↔ ¬ live v o ∧ (i 1).val = 3) :
    (if cZ = 1#1 then (r3 o h').overlay (if cL = 1#1 then outStep i o h h' (accStep i o h p A) O else O) k0_pay1
      else (if cL = 1#1 then outStep i o h h' (accStep i o h p A) O else O)) = blockO i v o h h' (blockA i v o h p A) O := by
  unfold blockO blockA outStep
  by_cases hl : live v o
  · rw [if_neg (fun h => (hZ.1 h).1 hl), if_pos (hL.2 hl), if_pos hl, if_pos hl]
  · rw [if_neg (fun h => hl (hL.1 h))]
    by_cases h3 : (i 1).val = 3
    · rw [if_pos (hZ.2 ⟨hl, h3⟩), if_pos h3, if_neg hl]
    · rw [if_neg (fun h => h3 (hZ.1 h).2), if_neg h3]

theorem blockA_eq (i : grid0.Coords) (v : BitVec 32) (o : ℕ) (h : ∀ a, (![o, 0] : Fin 2 → ℕ) a + S256x2048.size a ≤ S1024x2048.size a)
    (p : FVec F S256x2048 .f32) (A : S1024x2048.Idx → F .f32) (cL : BitVec 1) (hL : cL = 1#1 ↔ live v o) :
    (if cL = 1#1 then accStep i o h p A else A) = blockA i v o h p A := by
  unfold blockA
  by_cases hl : live v o
  · rw [if_pos (hL.2 hl), if_pos hl]
  · rw [if_neg (fun h => hl (hL.1 h)), if_neg hl]

section BlockRun

variable {α : Type} (i : grid0.Coords) (arg5 : Memref sig .tc .vmem S1024x16x128 .bf16) (arg9 : Memref sig .tc .vmem S1024x16x128 .bf16)
  (arg10 : Memref sig .tc .vmem S1024x2048 .f32) (o : ℕ)
  (h3 : ∀ a, (![o, 0, 0] : Fin 3 → ℕ) a + S256x16x128.size a ≤ S1024x16x128.size a)
  (h2 : ∀ a, (![o, 0] : Fin 2 → ℕ) a + S256x2048.size a ≤ S1024x2048.size a)
  (l5 : arg5.view.LoadsAt (r3 o h3).toLoadRect) (l9 : arg9.view.LoadsAt (r3 o h3).toLoadRect)
  (l10 : arg10.view.LoadsAt (r2 o h2).toLoadRect)
  (s9 : (arg9.access (r3 o h3)).Stores Finset.univ) (s10 : (arg10.access (r2 o h2)).Stores Finset.univ)
  (m3 : (Finset.univ : Finset (r3 o h3).shape.Idx) = Finset.univ ∨ ∀ a, (r3 o h3).stride a = 1)
  (m2 : (Finset.univ : Finset (r2 o h2).shape.Idx) = Finset.univ ∨ ∀ a, (r2 o h2).stride a = 1)

/-- A whole block, run. -/
theorem block_run (c : Dev nD) (𝒱 : Variants) {defs : Defs nD τ sig (Elt F) Λ₀} {Q : α → sProp 𝕄}
    (v : BitVec 32) (p : Vec F S256x16x128 .bf16 → FVec F S256x2048 .f32)
    (pA : Vec F S256x16x128 .bf16 → Vec F S256x2048 .f32 → FVec F S256x2048 .f32) (hpA : ∀ x a, pA x a = addf a (p x))
    (cL cO cZ : BitVec 1) (hL : cL = 1#1 ↔ live v o) (hO : cO = 1#1 ↔ (i 1).val = 3) (hZ : cZ = 1#1 ↔ ¬ live v o ∧ (i 1).val = 3)
    (K : Prog (TpuEff nD τ sig (Elt F) Λ₀ .tc) α) (X O : S1024x16x128.Idx → F .bf16) (A : S1024x2048.Idx → F .f32) :
    iprop((owns (c : Thread nD τ) arg5 fullShare X ∗ owns (c : Thread nD τ) arg9 fullShare O ∗ owns (c : Thread nD τ) arg10 fullShare A)
        ∗ (iprop(owns (c : Thread nD τ) arg5 fullShare X
            ∗ owns (c : Thread nD τ) arg9 fullShare (blockO i v o h2 h3 (blockA i v o h2 (p fun x => X ((r3 o h3).emb x)) A) O)
            ∗ owns (c : Thread nD τ) arg10 fullShare (blockA i v o h2 (p fun x => X ((r3 o h3).emb x)) A))
          -∗ wp frame (wpE defs 𝒱 c none) Set.univ K Q))
      ⊢ wp frame (wpE defs 𝒱 c none) Set.univ
        (liveProg arg5 arg9 arg10 o h3 h2 l5 l9 l10 s9 s10 m3 m2 p pA k0_pay5 cL cO (BitVec.ofNat 32 (i 1).val)
          (zeroProg arg9 o h3 l9 s9 m3 k0_pay1 cZ K)) Q := by
  iintro ⟨H, Hk⟩
  iapply (live_run i arg5 arg9 arg10 o h3 h2 l5 l9 l10 s9 s10 m3 m2 c 𝒱 p pA hpA cL cO hO _ X O A)
  isplitl [H]; · iexact H
  iintro ⟨H5, H9, H10⟩
  iapply (zero_run arg9 o h3 l9 s9 m3 c 𝒱 k0_pay1 cZ K _)
  isplitl [H9]; · iexact H9
  iintro H9
  rw [blockO_eq i v o h2 h3 _ A O cL cZ hL hZ, blockA_eq i v o h2 _ A cL hL]
  iapply Hk
  isplitl [H5]; · iexact H5
  isplitl [H9]; · iexact H9
  iexact H10

end BlockRun

/-- The rows a tile has, as the kernel reads it from the second table. -/
def rowsOf (i : grid0.Coords) (T : S32.Idx → BitVec 32) : BitVec 32 :=
  T ((Rect.unit (s := S32) (k0_off1 i) S1.size (k0_off1_inb i)).emb (Shape.Idx.first (numel1_S1.symm ▸ Nat.one_pos)))

section Whole

variable (i : grid0.Coords) (v : BitVec 32) (W1 W2 : Vec F S1x2048x256 .f32) (W3 : Vec F S1x256x2048 .f32)
  (X : S1024x16x128.Idx → F .bf16)

/-- The chunk's product of the block at row `o`. -/
def partAt (o : ℕ) (h3 : ∀ a, (![o, 0, 0] : Fin 3 → ℕ) a + S256x16x128.size a ≤ S1024x16x128.size a) : FVec F S256x2048 .f32 :=
  part W1 W2 W3 fun x => X ((r3 o h3).emb x)

def acc1 (A : S1024x2048.Idx → F .f32) := blockA i v 0 inb_S1024x2048_S256x2048_0_0 (partAt W1 W2 W3 X 0 inb_S1024x16x128_S256x16x128_0_0_0) A
def acc2 (A : S1024x2048.Idx → F .f32) := blockA i v 256 inb_S1024x2048_S256x2048_256_0 (partAt W1 W2 W3 X 256 inb_S1024x16x128_S256x16x128_256_0_0) (acc1 i v W1 W2 W3 X A)
def acc3 (A : S1024x2048.Idx → F .f32) := blockA i v 512 inb_S1024x2048_S256x2048_512_0 (partAt W1 W2 W3 X 512 inb_S1024x16x128_S256x16x128_512_0_0) (acc2 i v W1 W2 W3 X A)
/-- The accumulator after a point. -/
def acc4 (A : S1024x2048.Idx → F .f32) := blockA i v 768 inb_S1024x2048_S256x2048_768_0 (partAt W1 W2 W3 X 768 inb_S1024x16x128_S256x16x128_768_0_0) (acc3 i v W1 W2 W3 X A)

def out1 (A : S1024x2048.Idx → F .f32) (O : S1024x16x128.Idx → F .bf16) :=
  blockO i v 0 inb_S1024x2048_S256x2048_0_0 inb_S1024x16x128_S256x16x128_0_0_0 (acc1 i v W1 W2 W3 X A) O
def out2 (A : S1024x2048.Idx → F .f32) (O : S1024x16x128.Idx → F .bf16) :=
  blockO i v 256 inb_S1024x2048_S256x2048_256_0 inb_S1024x16x128_S256x16x128_256_0_0 (acc2 i v W1 W2 W3 X A) (out1 i v W1 W2 W3 X A O)
def out3 (A : S1024x2048.Idx → F .f32) (O : S1024x16x128.Idx → F .bf16) :=
  blockO i v 512 inb_S1024x2048_S256x2048_512_0 inb_S1024x16x128_S256x16x128_512_0_0 (acc3 i v W1 W2 W3 X A) (out2 i v W1 W2 W3 X A O)
/-- The result's block after a point. -/
def out4 (A : S1024x2048.Idx → F .f32) (O : S1024x16x128.Idx → F .bf16) :=
  blockO i v 768 inb_S1024x2048_S256x2048_768_0 inb_S1024x16x128_S256x16x128_768_0_0 (acc4 i v W1 W2 W3 X A) (out3 i v W1 W2 W3 X A O)

end Whole

section Cond

variable (v : BitVec 32)

theorem sgt_iff (n : BitVec 32) : (Scalar.cmpi CmpIPredicate.ne (Scalar.extui (Scalar.cmpi CmpIPredicate.sgt v n) : BitVec 32) 0#32 = 1#1) ↔ n.toInt < v.toInt := by
  simp only [Scalar.cmpi, Scalar.extui, IntOp.cmpi]
  by_cases h : n.toInt < v.toInt <;> simp [BitVec.slt, h]

theorem sle_iff (n : BitVec 32) (k : BitVec 1) : (Scalar.cmpi CmpIPredicate.ne (Scalar.extui (Scalar.andi (Scalar.cmpi CmpIPredicate.sle v n) k) : BitVec 32) 0#32 = 1#1)
    ↔ ¬ n.toInt < v.toInt ∧ k = 1#1 := by
  have hk : k = 0#1 ∨ k = 1#1 := by revert k; decide
  by_cases h : n.toInt < v.toInt
  · have e : (Scalar.cmpi CmpIPredicate.sle v n) = 0#1 := by
      show BitVec.ofBool (decide (v.toInt ≤ n.toInt)) = 0#1
      rw [decide_eq_false (not_le.2 h)]; rfl
    rw [e]
    rcases hk with rfl | rfl
    · exact ⟨fun h' => absurd h' (by decide), fun h' => absurd h h'.1⟩
    · exact ⟨fun h' => absurd h' (by decide), fun h' => absurd h h'.1⟩
  · have e : (Scalar.cmpi CmpIPredicate.sle v n) = 1#1 := by
      show BitVec.ofBool (decide (v.toInt ≤ n.toInt)) = 1#1
      rw [decide_eq_true (not_lt.1 h)]; rfl
    rw [e]
    rcases hk with rfl | rfl
    · exact ⟨fun h' => absurd h' (by decide), fun h' => absurd h'.2 (by decide)⟩
    · exact ⟨fun _ => ⟨h, rfl⟩, fun _ => by decide⟩

theorem chunk_last' (i : grid0.Coords) : (Scalar.cmpi CmpIPredicate.eq (BitVec.ofNat 32 (i 1).val) 3#32 = 1#1) ↔ (i 1).val = 3 := by
  have h : (i 1).val < 4 := (i 1).isLt
  generalize (i 1).val = n at h
  interval_cases n <;> decide

theorem live0 : k0_cond1 v = 1#1 ↔ live v 0 := sgt_iff v 0#32
theorem last0 (i : grid0.Coords) : k0_cond4 i = 1#1 ↔ (i 1).val = 3 := chunk_last i
theorem dead0 (i : grid0.Coords) : k0_cond5 i v = 1#1 ↔ ¬ live v 0 ∧ (i 1).val = 3 :=
  (sle_iff v 0#32 _).trans (and_congr Iff.rfl (chunk_last' i))

theorem live1 : k0_cond6 v = 1#1 ↔ live v 256 := sgt_iff v 256#32
theorem last1 (i : grid0.Coords) : k0_cond9 i = 1#1 ↔ (i 1).val = 3 := chunk_last i
theorem dead1 (i : grid0.Coords) : k0_cond10 i v = 1#1 ↔ ¬ live v 256 ∧ (i 1).val = 3 :=
  (sle_iff v 256#32 _).trans (and_congr Iff.rfl (chunk_last' i))

theorem live2 : k0_cond11 v = 1#1 ↔ live v 512 := sgt_iff v 512#32
theorem last2 (i : grid0.Coords) : k0_cond14 i = 1#1 ↔ (i 1).val = 3 := chunk_last i
theorem dead2 (i : grid0.Coords) : k0_cond15 i v = 1#1 ↔ ¬ live v 512 ∧ (i 1).val = 3 :=
  (sle_iff v 512#32 _).trans (and_congr Iff.rfl (chunk_last' i))

theorem live3 : k0_cond16 v = 1#1 ↔ live v 768 := sgt_iff v 768#32
theorem last3 (i : grid0.Coords) : k0_cond19 i = 1#1 ↔ (i 1).val = 3 := chunk_last i
theorem dead3 (i : grid0.Coords) : k0_cond20 i v = 1#1 ↔ ¬ live v 768 ∧ (i 1).val = 3 :=
  (sle_iff v 768#32 _).trans (and_congr Iff.rfl (chunk_last' i))

end Cond

/-! ## The two windows of the printed body, as blocks in sequence -/

/-! The payloads of the four blocks are one function's. -/

theorem store0 (W1 W2 : Vec F S1x2048x256 .f32) (W3 : Vec F S1x256x2048 .f32) : k0_pay11 W1 W2 W3 = part W1 W2 W3 := funext fun _ => shapeCast_self _ _
theorem add0 (W1 W2 : Vec F S1x2048x256 .f32) (W3 : Vec F S1x256x2048 .f32) : k0_pay12 W1 W2 W3 = fun x a => addf a (part W1 W2 W3 x) := funext fun _ => funext fun _ => shapeCast_self _ _
theorem cast0 : k0_pay13 (F := F) = k0_pay5 := rfl
theorem fill0 : k0_pay14 (F := F) = k0_pay1 := rfl
theorem store1 (W1 W2 : Vec F S1x2048x256 .f32) (W3 : Vec F S1x256x2048 .f32) : k0_pay16 W1 W2 W3 = part W1 W2 W3 := funext fun _ => shapeCast_self _ _
theorem add1 (W1 W2 : Vec F S1x2048x256 .f32) (W3 : Vec F S1x256x2048 .f32) : k0_pay17 W1 W2 W3 = fun x a => addf a (part W1 W2 W3 x) := funext fun _ => funext fun _ => shapeCast_self _ _
theorem cast1 : k0_pay18 (F := F) = k0_pay5 := rfl
theorem fill1 : k0_pay19 (F := F) = k0_pay1 := rfl
theorem store2 (W1 W2 : Vec F S1x2048x256 .f32) (W3 : Vec F S1x256x2048 .f32) : k0_pay21 W1 W2 W3 = part W1 W2 W3 := funext fun _ => shapeCast_self _ _
theorem add2 (W1 W2 : Vec F S1x2048x256 .f32) (W3 : Vec F S1x256x2048 .f32) : k0_pay22 W1 W2 W3 = fun x a => addf a (part W1 W2 W3 x) := funext fun _ => funext fun _ => shapeCast_self _ _
theorem cast2 : k0_pay23 (F := F) = k0_pay5 := rfl
theorem store3 (W1 W2 : Vec F S1x2048x256 .f32) (W3 : Vec F S1x256x2048 .f32) : k0_pay3 (k0_pay7 W1) (k0_pay8 W2) (k0_pay9 W3) = part W1 W2 W3 := funext fun _ => shapeCast_self _ _
theorem add3 (W1 W2 : Vec F S1x2048x256 .f32) (W3 : Vec F S1x256x2048 .f32) : k0_pay4 (k0_pay7 W1) (k0_pay8 W2) (k0_pay9 W3) = fun x a => addf a (part W1 W2 W3 x) := funext fun _ => funext fun _ => shapeCast_self _ _
theorem fill3 : k0_pay6 (F := F) = k0_pay1 := rfl

section Run

variable (i : grid0.Coords) (arg2 : Memref sig .tc .smem S32 .i32) (harg2 : arg2.IsWhole) (arg3 : Memref sig .tc .smem S32 .i32) (harg3 : arg3.IsWhole) (arg4 : Memref sig .tc .smem S1 .i32) (harg4 : arg4.IsWhole) (arg5 : Memref sig .tc .vmem S1024x16x128 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x16x128 .bf16) (harg9 : arg9.IsWhole) (arg10 : Memref sig .tc .vmem S1024x2048 .f32) (harg10 : arg10.IsWhole)

/-- What the first window hands the second. -/
abbrev Handed (F : FTy → Type) : Type := Σ' (arg1 : BitVec 32) (v1 : Elt F .i32) (v4 : FVec F S2048x256 .bf16) (v7 : FVec F S2048x256 .bf16) (v10 : FVec F S256x2048 .bf16), BitVec 1

/-- Three of the blocks, at the rows and the chunk of the expert they read. -/
def blocks3 (arg1 : BitVec 32) (v1 : Elt F .i32) (v2 v5 : Vec F S1x2048x256 .f32) (v8 : Vec F S1x256x2048 .f32) : Prog (TpuEff nD τ sig (Elt F) Λ₀ .tc) (Handed F) :=
  liveProg arg5 arg9 arg10 0 inb_S1024x16x128_S256x16x128_0_0_0 inb_S1024x2048_S256x2048_0_0 (View.loadsAt_vmem h_S256x16x128) (View.loadsAt_vmem h_S256x16x128) (View.loadsAt_vmem h_S256x2048) (View.stores_vmem h_S256x16x128 (harg9.storeExact_slice rfl _ packedbf16_S1024x16x128_S256x16x128_0_0_0) (fun _ => rfl)) (View.stores_vmem_bits_univ h_S256x2048 rfl) (.inl rfl) (.inl rfl)
        (k0_pay11 v2 v5 v8) (k0_pay12 v2 v5 v8) k0_pay13 (k0_cond1 v1) (k0_cond4 i) arg1
  <| zeroProg arg9 0 inb_S1024x16x128_S256x16x128_0_0_0 (View.loadsAt_vmem h_S256x16x128) (View.stores_vmem h_S256x16x128 (harg9.storeExact_slice rfl _ packedbf16_S1024x16x128_S256x16x128_0_0_0) (fun _ => rfl)) (.inl rfl) (k0_pay14 (F := F)) (k0_cond5 i v1)
  <| liveProg arg5 arg9 arg10 256 inb_S1024x16x128_S256x16x128_256_0_0 inb_S1024x2048_S256x2048_256_0 (View.loadsAt_vmem h_S256x16x128) (View.loadsAt_vmem h_S256x16x128) (View.loadsAt_vmem h_S256x2048) (View.stores_vmem h_S256x16x128 (harg9.storeExact_slice rfl _ packedbf16_S1024x16x128_S256x16x128_256_0_0) (fun _ => rfl)) (View.stores_vmem_bits_univ h_S256x2048 rfl) (.inl rfl) (.inl rfl)
        (k0_pay16 v2 v5 v8) (k0_pay17 v2 v5 v8) k0_pay18 (k0_cond6 v1) (k0_cond9 i) arg1
  <| zeroProg arg9 256 inb_S1024x16x128_S256x16x128_256_0_0 (View.loadsAt_vmem h_S256x16x128) (View.stores_vmem h_S256x16x128 (harg9.storeExact_slice rfl _ packedbf16_S1024x16x128_S256x16x128_256_0_0) (fun _ => rfl)) (.inl rfl) (k0_pay19 (F := F)) (k0_cond10 i v1)
  <| liveProg arg5 arg9 arg10 512 inb_S1024x16x128_S256x16x128_512_0_0 inb_S1024x2048_S256x2048_512_0 (View.loadsAt_vmem h_S256x16x128) (View.loadsAt_vmem h_S256x16x128) (View.loadsAt_vmem h_S256x2048) (View.stores_vmem h_S256x16x128 (harg9.storeExact_slice rfl _ packedbf16_S1024x16x128_S256x16x128_512_0_0) (fun _ => rfl)) (View.stores_vmem_bits_univ h_S256x2048 rfl) (.inl rfl) (.inl rfl)
        (k0_pay21 v2 v5 v8) (k0_pay22 v2 v5 v8) k0_pay23 (k0_cond11 v1) (k0_cond14 i) arg1
  <| pure ⟨arg1, v1, k0_pay7 v2, k0_pay8 v5, k0_pay9 v8, Scalar.cmpi .sle v1 512#32⟩

theorem part1_eq : k0_part1 (F := F) i arg2 harg2 arg3 harg3 arg4 harg4 arg5 harg5 arg6 harg6 arg7 harg7 arg8 harg8 arg9 harg9 arg10 harg10
    = (do
      let v1 ← smemLoad arg3 (Rect.unit (s := S32) (k0_off1 i) S1.size (k0_off1_inb i)) numel1_S1 rfl
      let v2 ← Prog.lift (.load arg6 (Rect.unit (s := S1x2048x256) ![0, 0, 0] S1x2048x256.size inb_S1x2048x256_S1x2048x256_0_0_0).toLoadRect (View.loadsAt_vmem h_S1x2048x256))
      let v5 ← Prog.lift (.load arg7 (Rect.unit (s := S1x2048x256) ![0, 0, 0] S1x2048x256.size inb_S1x2048x256_S1x2048x256_0_0_0).toLoadRect (View.loadsAt_vmem h_S1x2048x256))
      let v8 ← Prog.lift (.load arg8 (Rect.unit (s := S1x256x2048) ![0, 0, 0] S1x256x2048.size inb_S1x256x2048_S1x256x2048_0_0_0).toLoadRect (View.loadsAt_vmem h_S1x256x2048))
      blocks3 i arg5 arg9 harg9 arg10 (BitVec.ofNat 32 (i 1).val) v1 v2 v5 v8) := by
  rw [k0_part1_eq_skeleton]
  rfl

/-- The rest: the third block's zeros and the fourth block. -/
def blocks1 (arg1 : BitVec 32) (v1 : Elt F .i32) (v4 v7 : FVec F S2048x256 .bf16) (v10 : FVec F S256x2048 .bf16) : Prog (TpuEff nD τ sig (Elt F) Λ₀ .tc) PUnit :=
  zeroProg arg9 512 inb_S1024x16x128_S256x16x128_512_0_0 (View.loadsAt_vmem h_S256x16x128) (View.stores_vmem h_S256x16x128 (harg9.storeExact_slice rfl _ packedbf16_S1024x16x128_S256x16x128_512_0_0) (fun _ => rfl)) (.inl rfl) (k0_pay1 (F := F)) (k0_cond15 i v1)
  <| liveProg arg5 arg9 arg10 768 inb_S1024x16x128_S256x16x128_768_0_0 inb_S1024x2048_S256x2048_768_0 (View.loadsAt_vmem h_S256x16x128) (View.loadsAt_vmem h_S256x16x128) (View.loadsAt_vmem h_S256x2048) (View.stores_vmem h_S256x16x128 (harg9.storeExact_slice rfl _ packedbf16_S1024x16x128_S256x16x128_768_0_0) (fun _ => rfl)) (View.stores_vmem_bits_univ h_S256x2048 rfl) (.inl rfl) (.inl rfl)
        (k0_pay3 v4 v7 v10) (k0_pay4 v4 v7 v10) k0_pay5 (k0_cond16 v1) (k0_cond19 i) arg1
  <| zeroProg arg9 768 inb_S1024x16x128_S256x16x128_768_0_0 (View.loadsAt_vmem h_S256x16x128) (View.stores_vmem h_S256x16x128 (harg9.storeExact_slice rfl _ packedbf16_S1024x16x128_S256x16x128_768_0_0) (fun _ => rfl)) (.inl rfl) (k0_pay6 (F := F)) (k0_cond20 i v1)
  <| pure PUnit.unit

theorem body_eq : cc0_expert_mlp (F := F) i arg2 harg2 arg3 harg3 arg4 harg4 arg5 harg5 arg6 harg6 arg7 harg7 arg8 harg8 arg9 harg9 arg10 harg10
    = (k0_part1 i arg2 harg2 arg3 harg3 arg4 harg4 arg5 harg5 arg6 harg6 arg7 harg7 arg8 harg8 arg9 harg9 arg10 harg10 >>= fun x =>
      blocks1 i arg5 arg9 harg9 arg10 x.1 x.2.1 x.2.2.1 x.2.2.2.1 x.2.2.2.2.1) := by
  rw [cc0_expert_mlp_eq_skeleton]
  rfl

theorem blocks3_run (c : Dev nD) (𝒱 : Variants) {defs : Defs nD τ sig (Elt F) Λ₀} (v : BitVec 32) (W1 W2 : Vec F S1x2048x256 .f32) (W3 : Vec F S1x256x2048 .f32)
    (X O : S1024x16x128.Idx → F .bf16) (A : S1024x2048.Idx → F .f32) {Q : Handed F → sProp 𝕄} :
    iprop((owns (c : Thread nD τ) arg5 fullShare X ∗ owns (c : Thread nD τ) arg9 fullShare O ∗ owns (c : Thread nD τ) arg10 fullShare A)
        ∗ (iprop(owns (c : Thread nD τ) arg5 fullShare X
            ∗ owns (c : Thread nD τ) arg9 fullShare (if k0_cond11 v = 1#1 then outStep i 512 inb_S1024x2048_S256x2048_512_0 inb_S1024x16x128_S256x16x128_512_0_0 (accStep i 512 inb_S1024x2048_S256x2048_512_0 (partAt W1 W2 W3 X 512 inb_S1024x16x128_S256x16x128_512_0_0) (acc2 i v W1 W2 W3 X A)) (out2 i v W1 W2 W3 X A O) else out2 i v W1 W2 W3 X A O)
            ∗ owns (c : Thread nD τ) arg10 fullShare (acc3 i v W1 W2 W3 X A))
          -∗ Q ⟨BitVec.ofNat 32 (i 1).val, v, k0_pay7 W1, k0_pay8 W2, k0_pay9 W3, Scalar.cmpi .sle v 512#32⟩))
      ⊢ wp frame (wpE defs 𝒱 c none) Set.univ
        (blocks3 i arg5 arg9 harg9 arg10 (BitVec.ofNat 32 (i 1).val) v W1 W2 W3) Q := by
  unfold blocks3
  rw [store0, add0, cast0, fill0, store1, add1, cast1, fill1, store2, add2, cast2]
  iintro ⟨H, Hk⟩
  iapply (block_run i arg5 arg9 arg10 0 _ _ _ _ _ _ _ _ _ c 𝒱 v (part W1 W2 W3) _ (fun _ _ => rfl) _ _ _ (live0 v) (last0 i) (dead0 v i) _ X O A)
  isplitl [H]; · iexact H
  iintro H
  iapply (block_run i arg5 arg9 arg10 256 _ _ _ _ _ _ _ _ _ c 𝒱 v (part W1 W2 W3) _ (fun _ _ => rfl) _ _ _ (live1 v) (last1 i) (dead1 v i) _ X (out1 i v W1 W2 W3 X A O) (acc1 i v W1 W2 W3 X A))
  isplitl [H]; · iexact H
  iintro H
  iapply (live_run i arg5 arg9 arg10 512 _ _ _ _ _ _ _ _ _ c 𝒱 (part W1 W2 W3) _ (fun _ _ => rfl) _ _ (last2 i) _ X (out2 i v W1 W2 W3 X A O) (acc2 i v W1 W2 W3 X A))
  isplitl [H]; · iexact H
  rw [blockA_eq i v 512 _ _ _ _ (live2 v)]
  iintro H
  dsimp only [Pure.pure]
  rw [wp_ret]
  imodintro
  iapply Hk
  iexact H

theorem blocks1_run (c : Dev nD) (𝒱 : Variants) {defs : Defs nD τ sig (Elt F) Λ₀} (v : BitVec 32) (W1 W2 : Vec F S1x2048x256 .f32) (W3 : Vec F S1x256x2048 .f32)
    (X O : S1024x16x128.Idx → F .bf16) (A : S1024x2048.Idx → F .f32) {Q : PUnit → sProp 𝕄} :
    iprop((owns (c : Thread nD τ) arg5 fullShare X
            ∗ owns (c : Thread nD τ) arg9 fullShare (if k0_cond11 v = 1#1 then outStep i 512 inb_S1024x2048_S256x2048_512_0 inb_S1024x16x128_S256x16x128_512_0_0 (accStep i 512 inb_S1024x2048_S256x2048_512_0 (partAt W1 W2 W3 X 512 inb_S1024x16x128_S256x16x128_512_0_0) (acc2 i v W1 W2 W3 X A)) (out2 i v W1 W2 W3 X A O) else out2 i v W1 W2 W3 X A O)
            ∗ owns (c : Thread nD τ) arg10 fullShare (acc3 i v W1 W2 W3 X A))
        ∗ (iprop(owns (c : Thread nD τ) arg5 fullShare X
            ∗ owns (c : Thread nD τ) arg9 fullShare (out4 i v W1 W2 W3 X A O)
            ∗ owns (c : Thread nD τ) arg10 fullShare (acc4 i v W1 W2 W3 X A))
          -∗ Q PUnit.unit))
      ⊢ wp frame (wpE defs 𝒱 c none) Set.univ
        (blocks1 i arg5 arg9 harg9 arg10 (BitVec.ofNat 32 (i 1).val) v (k0_pay7 W1) (k0_pay8 W2) (k0_pay9 W3)) Q := by
  unfold blocks1
  rw [store3, add3, fill3]
  iintro ⟨⟨H5, H9, H10⟩, Hk⟩
  iapply (zero_run arg9 512 _ _ _ _ c 𝒱 k0_pay1 _ _ _)
  isplitl [H9]; · iexact H9
  rw [blockO_eq i v 512 _ _ _ _ _ _ _ (live2 v) (dead2 v i)]
  iintro H9
  iapply (block_run i arg5 arg9 arg10 768 _ _ _ _ _ _ _ _ _ c 𝒱 v (part W1 W2 W3) _ (fun _ _ => rfl) _ _ _ (live3 v) (last3 i) (dead3 v i) _ X (out3 i v W1 W2 W3 X A O) (acc3 i v W1 W2 W3 X A))
  isplitl [H5 H9 H10]
  · isplitl [H5]; · iexact H5
    isplitl [H9]; · iexact H9
    iexact H10
  iintro H
  dsimp only [Pure.pure]
  rw [wp_ret]
  imodintro
  iapply Hk
  iexact H

/-- The whole body at a point: the tables and the operands as they were, the accumulator and the result's block at what
    the four blocks come to. -/
theorem body_run (c : Dev nD) (𝒱 : Variants) {defs : Defs nD τ sig (Elt F) Λ₀} (q3 : PosShare TreeShare) (T : S32.Idx → BitVec 32) (W1 W2 : Vec F S1x2048x256 .f32) (W3 : Vec F S1x256x2048 .f32)
    (X O : S1024x16x128.Idx → F .bf16) (A : S1024x2048.Idx → F .f32) {Q : PUnit → sProp 𝕄} :
    iprop((owns (c : Thread nD τ) arg3 q3 (T : S32.Idx → Elt F .i32) ∗ owns (c : Thread nD τ) arg6 fullShare W1 ∗ owns (c : Thread nD τ) arg7 fullShare W2
          ∗ owns (c : Thread nD τ) arg8 fullShare W3
          ∗ (owns (c : Thread nD τ) arg5 fullShare X ∗ owns (c : Thread nD τ) arg9 fullShare O ∗ owns (c : Thread nD τ) arg10 fullShare A))
        ∗ (iprop(owns (c : Thread nD τ) arg3 q3 (T : S32.Idx → Elt F .i32) ∗ owns (c : Thread nD τ) arg6 fullShare W1 ∗ owns (c : Thread nD τ) arg7 fullShare W2
          ∗ owns (c : Thread nD τ) arg8 fullShare W3
          ∗ (owns (c : Thread nD τ) arg5 fullShare X
            ∗ owns (c : Thread nD τ) arg9 fullShare (out4 i (rowsOf i T) W1 W2 W3 X A O)
            ∗ owns (c : Thread nD τ) arg10 fullShare (acc4 i (rowsOf i T) W1 W2 W3 X A)))
          -∗ Q PUnit.unit))
      ⊢ wp frame (wpE defs 𝒱 c none) Set.univ
        (cc0_expert_mlp (F := F) i arg2 harg2 arg3 harg3 arg4 harg4 arg5 harg5 arg6 harg6 arg7 harg7 arg8 harg8 arg9 harg9 arg10 harg10) Q := by
  have e1 : ∀ (W : S1x2048x256.Idx → F .f32), (fun x => W ((Rect.unit (s := S1x2048x256) ![0, 0, 0] S1x2048x256.size inb_S1x2048x256_S1x2048x256_0_0_0).emb x)) = W := fun W =>
    funext fun x => congrArg W (funext fun a => Fin.ext (by fin_cases a <;> simp [Rect.emb, Rect.unit]))
  have e2 : ∀ (W : S1x256x2048.Idx → F .f32), (fun x => W ((Rect.unit (s := S1x256x2048) ![0, 0, 0] S1x256x2048.size inb_S1x256x2048_S1x256x2048_0_0_0).emb x)) = W := fun W =>
    funext fun x => congrArg W (funext fun a => Fin.ext (by fin_cases a <;> simp [Rect.emb, Rect.unit]))
  rw [body_eq, part1_eq]
  iintro ⟨⟨H3, H6, H7, H8, H⟩, Hk⟩
  rw [wp_bind]
  dsimp only [smemLoad, smemLoadElt, Prog.lift, Bind.bind, Prog.bind]
  iapply (wp_load_owned (defs := defs) c 𝒱) $$ H3
  iintro H3
  dsimp only [Prog.bind]
  iapply (wp_load_owned (defs := defs) c 𝒱) $$ H6
  iintro H6
  dsimp only [Prog.bind]
  iapply (wp_load_owned (defs := defs) c 𝒱) $$ H7
  iintro H7
  dsimp only [Prog.bind]
  iapply (wp_load_owned (defs := defs) c 𝒱) $$ H8
  iintro H8
  dsimp only [Prog.bind]
  rw [e1 W1, e1 W2, e2 W3]
  iapply (blocks3_run i arg5 arg9 harg9 arg10 c 𝒱 (rowsOf i T) W1 W2 W3 X O A)
  isplitl [H]; · iexact H
  iintro H
  iapply (blocks1_run i arg5 arg9 harg9 arg10 c 𝒱 (rowsOf i T) W1 W2 W3 X O A)
  isplitl [H]; · iexact H
  iintro H
  iapply Hk
  isplitl [H3]; · iexact H3
  isplitl [H6]; · iexact H6
  isplitl [H7]; · iexact H7
  isplitl [H8]; · iexact H8
  iexact H

end Run

end Cert.ExpertsIdeal.Hand

end
-- ==== Proof.ExpertsRows.lean ====
/-
  The experts' kernel, the four blocks of rows of a tile: what a point leaves in each block of the accumulator and of the
  result. The blocks are apart, so each is read by itself. Over any number instance `F`.
-/
module

public import proofs.«01_k».proof.Proof.ExpertsBody
public import Idealize.ShloMosaic.Lib.Pipeline.ValueKit.Geometry

@[expose] public section

set_option maxRecDepth 16384

noncomputable section

namespace Cert.ExpertsIdeal.Hand

open Cert.ExpertsIdeal Cert.ExpertsIdeal.Gen
open Idealize.ShloMosaic Idealize.ShloMosaic.TcCoe

variable {F : FTy → Type} [FloatOps F]

/-- The first row of block `j`. -/
abbrev row (j : Fin 4) : ℕ := 256 * j.val

theorem hr2 (j : Fin 4) : ∀ a, (![row j, 0] : Fin 2 → ℕ) a + S256x2048.size a ≤ S1024x2048.size a := by
  revert j; decide
theorem hr3 (j : Fin 4) : ∀ a, (![row j, 0, 0] : Fin 3 → ℕ) a + S256x16x128.size a ≤ S1024x16x128.size a := by
  revert j; decide

/-- The rows of block `j` of the accumulator. -/
def rowsA (j : Fin 4) (A : S1024x2048.Idx → F .f32) : FVec F S256x2048 .f32 := fun y => A ((r2 (row j) (hr2 j)).emb y)
/-- The rows of block `j` of the result's block. -/
def rowsO (j : Fin 4) (O : S1024x16x128.Idx → F .bf16) : FVec F S256x16x128 .bf16 := fun y => O ((r3 (row j) (hr3 j)).emb y)

theorem apart2 (j k : Fin 4) (hjk : j ≠ k) (y : S256x2048.Idx) : (r2 (row j) (hr2 j)).emb y ∉ (r2 (row k) (hr2 k)).set := by
  rw [← Rect.map_emb_univ]
  intro hy
  obtain ⟨z, -, hz⟩ := Finset.mem_map.1 hy
  have h0 := congrArg (fun f : S1024x2048.Idx => (f 0).val) hz
  have hy0 : (y 0).val < 256 := (y 0).isLt
  have hz0 : (z 0).val < 256 := (z 0).isLt
  have e1 : ((r2 (row j) (hr2 j)).emb y 0).val = row j + (y 0).val := ValueKit.rect_emb_unit_val (s := S1024x2048) ![row j, 0] S256x2048.size (hr2 j) y 0
  have e2 : ((r2 (row k) (hr2 k)).emb z 0).val = row k + (z 0).val := ValueKit.rect_emb_unit_val _ _ _ z 0
  have h1 : ((r2 (row k) (hr2 k)).emb z 0).val = ((r2 (row j) (hr2 j)).emb y 0).val := h0
  have hne : j.val ≠ k.val := fun h => hjk (Fin.ext h)
  unfold row at *
  omega

theorem apart3 (j k : Fin 4) (hjk : j ≠ k) (y : S256x16x128.Idx) : (r3 (row j) (hr3 j)).emb y ∉ (r3 (row k) (hr3 k)).set := by
  rw [← Rect.map_emb_univ]
  intro hy
  obtain ⟨z, -, hz⟩ := Finset.mem_map.1 hy
  have h0 := congrArg (fun f : S1024x16x128.Idx => (f 0).val) hz
  have hy0 : (y 0).val < 256 := (y 0).isLt
  have hz0 : (z 0).val < 256 := (z 0).isLt
  have e1 : ((r3 (row j) (hr3 j)).emb y 0).val = row j + (y 0).val := ValueKit.rect_emb_unit_val (s := S1024x16x128) ![row j, 0, 0] S256x16x128.size (hr3 j) y 0
  have e2 : ((r3 (row k) (hr3 k)).emb z 0).val = row k + (z 0).val := ValueKit.rect_emb_unit_val _ _ _ z 0
  have h1 : ((r3 (row k) (hr3 k)).emb z 0).val = ((r3 (row j) (hr3 j)).emb y 0).val := h0
  have hne : j.val ≠ k.val := fun h => hjk (Fin.ext h)
  unfold row at *
  omega

open Classical in
/-- What a point makes of the rows `R` of a block with the chunk's product `p`. -/
def stepR (i : grid0.Coords) (v : BitVec 32) (j : Fin 4) (p R : FVec F S256x2048 .f32) : FVec F S256x2048 .f32 :=
  if live v (row j) then (if (i 1).val = 0 then p else addf R p) else R

theorem blockA_same (i : grid0.Coords) (v : BitVec 32) (j : Fin 4) (p : FVec F S256x2048 .f32) (A : S1024x2048.Idx → F .f32) :
    rowsA j (blockA i v (row j) (hr2 j) p A) = stepR i v j p (rowsA j A) := by
  funext y
  unfold rowsA blockA stepR
  by_cases hl : live v (row j)
  · rw [if_pos hl, if_pos hl]; unfold accStep; rw [Rect.overlay_emb]; rfl
  · rw [if_neg hl, if_neg hl]

theorem blockA_other (i : grid0.Coords) (v : BitVec 32) (j k : Fin 4) (hjk : j ≠ k) (p : FVec F S256x2048 .f32) (A : S1024x2048.Idx → F .f32) :
    rowsA j (blockA i v (row k) (hr2 k) p A) = rowsA j A := by
  funext y
  unfold rowsA blockA
  by_cases hl : live v (row k)
  · rw [if_pos hl]; unfold accStep; rw [Rect.overlay_of_not_mem _ _ _ (apart2 j k hjk y)]
  · rw [if_neg hl]

open Classical in
/-- What the last chunk's point stores in a block's rows of the result, the accumulator's being `R`. -/
def lastR (v : BitVec 32) (j : Fin 4) (R : FVec F S256x2048 .f32) : FVec F S256x16x128 .bf16 :=
  if live v (row j) then k0_pay5 R else k0_pay1

theorem blockO_same (i : grid0.Coords) (h3 : (i 1).val = 3) (v : BitVec 32) (j : Fin 4) (A : S1024x2048.Idx → F .f32) (O : S1024x16x128.Idx → F .bf16) :
    rowsO j (blockO i v (row j) (hr2 j) (hr3 j) A O) = lastR v j (rowsA j A) := by
  funext y
  unfold rowsO blockO lastR
  rw [if_pos h3, Rect.overlay_emb]
  rfl

theorem blockO_other (i : grid0.Coords) (v : BitVec 32) (j k : Fin 4) (hjk : j ≠ k) (A : S1024x2048.Idx → F .f32) (O : S1024x16x128.Idx → F .bf16) :
    rowsO j (blockO i v (row k) (hr2 k) (hr3 k) A O) = rowsO j O := by
  funext y
  unfold rowsO blockO
  by_cases h3 : (i 1).val = 3
  · rw [if_pos h3, Rect.overlay_of_not_mem _ _ _ (apart3 j k hjk y)]
  · rw [if_neg h3]

section Whole

variable (i : grid0.Coords) (v : BitVec 32) (W1 W2 : Vec F S1x2048x256 .f32) (W3 : Vec F S1x256x2048 .f32)
  (X : S1024x16x128.Idx → F .bf16) (A : S1024x2048.Idx → F .f32) (O : S1024x16x128.Idx → F .bf16)

theorem acc1_eq : acc1 i v W1 W2 W3 X A = blockA i v (row 0) (hr2 0) (partAt W1 W2 W3 X (row 0) (hr3 0)) A := rfl
theorem acc2_eq : acc2 i v W1 W2 W3 X A = blockA i v (row 1) (hr2 1) (partAt W1 W2 W3 X (row 1) (hr3 1)) (acc1 i v W1 W2 W3 X A) := rfl
theorem acc3_eq : acc3 i v W1 W2 W3 X A = blockA i v (row 2) (hr2 2) (partAt W1 W2 W3 X (row 2) (hr3 2)) (acc2 i v W1 W2 W3 X A) := rfl
theorem acc4_eq : acc4 i v W1 W2 W3 X A = blockA i v (row 3) (hr2 3) (partAt W1 W2 W3 X (row 3) (hr3 3)) (acc3 i v W1 W2 W3 X A) := rfl
theorem out1_eq : out1 i v W1 W2 W3 X A O = blockO i v (row 0) (hr2 0) (hr3 0) (acc1 i v W1 W2 W3 X A) O := rfl
theorem out2_eq : out2 i v W1 W2 W3 X A O = blockO i v (row 1) (hr2 1) (hr3 1) (acc2 i v W1 W2 W3 X A) (out1 i v W1 W2 W3 X A O) := rfl
theorem out3_eq : out3 i v W1 W2 W3 X A O = blockO i v (row 2) (hr2 2) (hr3 2) (acc3 i v W1 W2 W3 X A) (out2 i v W1 W2 W3 X A O) := rfl
theorem out4_eq : out4 i v W1 W2 W3 X A O = blockO i v (row 3) (hr2 3) (hr3 3) (acc4 i v W1 W2 W3 X A) (out3 i v W1 W2 W3 X A O) := rfl

/-- The rows of a block of the accumulator after a point. -/
theorem acc4_rows (j : Fin 4) :
    rowsA j (acc4 i v W1 W2 W3 X A) = stepR i v j (partAt W1 W2 W3 X (row j) (hr3 j)) (rowsA j A) := by
  rw [acc4_eq, acc3_eq, acc2_eq, acc1_eq]
  obtain rfl | rfl | rfl | rfl : j = 0 ∨ j = 1 ∨ j = 2 ∨ j = 3 := by revert j; decide
  · rw [blockA_other i v 0 3 (by decide), blockA_other i v 0 2 (by decide), blockA_other i v 0 1 (by decide), blockA_same i v 0]
  · rw [blockA_other i v 1 3 (by decide), blockA_other i v 1 2 (by decide), blockA_same i v 1, blockA_other i v 1 0 (by decide)]
  · rw [blockA_other i v 2 3 (by decide), blockA_same i v 2, blockA_other i v 2 1 (by decide), blockA_other i v 2 0 (by decide)]
  · rw [blockA_same i v 3, blockA_other i v 3 2 (by decide), blockA_other i v 3 1 (by decide), blockA_other i v 3 0 (by decide)]

/-- The rows of a block of the result after the last chunk's point. -/
theorem out4_rows (h3 : (i 1).val = 3) (j : Fin 4) :
    rowsO j (out4 i v W1 W2 W3 X A O) = lastR v j (rowsA j (acc4 i v W1 W2 W3 X A)) := by
  rw [out4_eq, out3_eq, out2_eq, out1_eq]
  obtain rfl | rfl | rfl | rfl : j = 0 ∨ j = 1 ∨ j = 2 ∨ j = 3 := by revert j; decide
  · rw [blockO_other i v 0 3 (by decide), blockO_other i v 0 2 (by decide), blockO_other i v 0 1 (by decide), blockO_same i h3 v 0,
      acc4_eq, acc3_eq, acc2_eq, blockA_other i v 0 3 (by decide), blockA_other i v 0 2 (by decide), blockA_other i v 0 1 (by decide)]
  · rw [blockO_other i v 1 3 (by decide), blockO_other i v 1 2 (by decide), blockO_same i h3 v 1,
      acc4_eq, acc3_eq, blockA_other i v 1 3 (by decide), blockA_other i v 1 2 (by decide)]
  · rw [blockO_other i v 2 3 (by decide), blockO_same i h3 v 2, acc4_eq, blockA_other i v 2 3 (by decide)]
  · rw [blockO_same i h3 v 3]

end Whole

end Cert.ExpertsIdeal.Hand

end
-- ==== Proof.ExpertsRun.lean ====
/-
  The experts' kernel, its tables and its blocks: what the plan's tables make the index maps, and what each window's
  staging buffer holds at a point. Over any number instance `F`.
-/
module

public import proofs.«01_k».proof.Proof.ExpertsRows
public import Idealize.ShloMosaic.Lib.Pipeline.FrameValue
public import Idealize.ShloMosaic.Lib.Pipeline.FrameBody
public import Idealize.ShloMosaic.Lib.Pipeline.ArrRel
public import Idealize.ShloMosaic.Lib.Pipeline.Covers
public import Idealize.ShloMosaic.Lib.Pointwise

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's contents of its buffers at entry. -/
abbrev V (c : Dev nD) (b : Ref sig .tc) : Buf (Elt F) ((c : Thread nD τ).loc b) := m ((c : Thread nD τ).loc b)

/-! ## The plan -/

/-- The expert's number, the live rows and the count of used tiles, as the tables have them. -/
def te (c : Dev nD) (s : Fin 32) : BitVec 32 := (V m c main_arg0 : S32.Idx → BitVec 32) (ix1 s)
def rws (c : Dev nD) (s : Fin 32) : BitVec 32 := (V m c main_arg1 : S32.Idx → BitVec 32) (ix1 s)
def nu (c : Dev nD) : BitVec 32 := (V m c main_arg2 : S1.Idx → BitVec 32) (ix1 0)

/-- What is asked of the plan: every tile's expert is an expert, one tile at least is used and no more than there are, and a tile
    past the used ones has no live row. -/
def Plan (c : Dev nD) : Prop :=
  (∀ s, (te m c s).toNat < 16) ∧ 1 ≤ (nu m c).toNat ∧ (nu m c).toNat ≤ 32 ∧ ∀ s : Fin 32, s.val < (nu m c).toNat ∨ (rws m c s).toInt ≤ 0

/-- The tile and the chunk of a point. -/
def tile (i : grid0.Coords) : Fin 32 := ⟨(i 0).val, (i 0).isLt⟩
def chunk (i : grid0.Coords) : Fin 4 := ⟨(i 1).val, (i 1).isLt⟩

theorem off1 (i : grid0.Coords) : k0_off1 i 0 = (tile i).val := by
  have h : (i 0).val < 32 := (i 0).isLt
  show (Scalar.indexCast (BitVec.ofNat 32 (i 0).val)).toNat = (i 0).val
  show (BitVec.ofNat 32 (i 0).val).toNat = (i 0).val
  simp; omega

theorem word_at (i : grid0.Coords) (T : S32.Idx → BitVec 32) (h : ∀ a, (k0_off1 i) a + S1.size a ≤ S32.size a) (hn : (Rect.unit (s := S32) (k0_off1 i) S1.size h).shape.numel = 1) :
    T ((Rect.unit (s := S32) (k0_off1 i) S1.size h).emb (Shape.Idx.first (hn.symm ▸ Nat.one_pos))) = T (ix1 (tile i)) := by
  refine congrArg T (funext fun a => Fin.ext ?_)
  obtain rfl : a = 0 := Subsingleton.elim _ _
  refine (ValueKit.rect_emb_unit_val _ _ _ _ 0).trans ?_
  rw [off1]
  have hlt : ((Shape.Idx.first (s := (Rect.unit (s := S32) (k0_off1 i) S1.size h).shape) (hn.symm ▸ Nat.one_pos)) 0).val < 1 := Fin.isLt _
  show (tile i).val + _ = (tile i).val
  omega

theorem rowsOf_eq (c : Dev nD) (i : grid0.Coords) : rowsOf i (V m c main_arg1 : S32.Idx → BitVec 32) = rws m c (tile i) :=
  word_at i _ (k0_off1_inb i) numel1_S1

theorem one_at (T : S1.Idx → BitVec 32) (x : S1.Idx) : T x = T (ix1 0) :=
  congrArg T (funext fun a => by obtain rfl : a = 0 := Subsingleton.elim _ _; exact Subsingleton.elim (α := Fin 1) _ _)

theorem small (n : ℕ) (h : n < 32) : (BitVec.ofNat 32 n).toInt = n ∧ (BitVec.ofNat 32 n).toNat = n := by
  have e : (BitVec.ofNat 32 n).toNat = n := by simp; omega
  exact ⟨by rw [BitVec.toInt_eq_toNat_cond, e]; split <;> omega, e⟩

theorem minsi_eq (n : ℕ) (h : n < 32) (u : BitVec 32) (h1 : 1 ≤ u.toNat) (h2 : u.toNat ≤ 32) :
    (Scalar.minsi (BitVec.ofNat 32 n) (Scalar.subi u 1#32)).toNat = min n (u.toNat - 1) := by
  obtain ⟨e1, e2⟩ := small n h
  have e3 : (u - 1#32).toNat = u.toNat - 1 := by simp [BitVec.toNat_sub]; omega
  have e4 : (u - 1#32).toInt = (u.toNat - 1 : ℕ) := by rw [BitVec.toInt_eq_toNat_cond, e3]; split <;> omega
  show (if (BitVec.ofNat 32 n).slt (u - 1#32) then BitVec.ofNat 32 n else u - 1#32).toNat = _
  simp only [BitVec.slt, e1, e4, decide_eq_true_eq]
  split <;> (simp only [e2, e3]; omega)

theorem select_eq (n : ℕ) (h : n < 32) (k : ℕ) (hk : k < 4) (u : BitVec 32) (h1 : 1 ≤ u.toNat) (h2 : u.toNat ≤ 32) :
    (Scalar.select (Scalar.cmpi CmpIPredicate.slt (BitVec.ofNat 32 n) u) (BitVec.ofNat 32 k) 3#32).toNat = if n < u.toNat then k else 3 := by
  obtain ⟨e1, e2⟩ := small n h
  obtain ⟨-, e5⟩ := small k (by omega)
  have e4 : u.toInt = (u.toNat : ℕ) := by rw [BitVec.toInt_eq_toNat_cond]; split <;> omega
  show (if (BitVec.ofBool ((BitVec.ofNat 32 n).slt u)) = 1#1 then BitVec.ofNat 32 k else 3#32).toNat = _
  simp only [BitVec.slt, e1, e4]
  by_cases hn : n < u.toNat
  · rw [if_pos hn, if_pos (by simp [hn]), e5]
  · rw [if_neg hn, if_neg (by simp [hn])]; rfl

/-- The tile whose rows are fetched, and the chunk of the weights. -/
def tileX (c : Dev nD) (i : grid0.Coords) : Fin 32 := ⟨min (tile i).val ((nu m c).toNat - 1), by have := (tile i).isLt; omega⟩
def chunkW (c : Dev nD) (i : grid0.Coords) : Fin 4 := if (tile i).val < (nu m c).toNat then chunk i else 3
def expert (c : Dev nD) (s : Fin 32) : Fin 16 := ⟨(te m c s).toNat % 16, Nat.mod_lt _ (by decide)⟩

/-- The tables' contents at the launch. -/
def tabs (k : Fin pre0.K) : (pre0.ref k).ty.Contents (Elt F) := V m 0 (pre0.ref k)

theorem index0 (hp : Plan m 0) (i : grid0.Coords) : cc0_transform_0 inb_S1_S1_0 numel1_S1 (tabs m) i = ![(tileX m 0 i).val, 0, 0] := by
  unfold cc0_transform_0
  dsimp only
  rw [show Pipeline.Prefetch.Contents.at (tabs m) 2 (Rect.unit (s := S1) ![0] S1.size inb_S1_S1_0) numel1_S1 = nu m 0 from one_at _ _,
    minsi_eq _ (i 0).isLt _ hp.2.1 hp.2.2.1]
  rfl

theorem index1 (hp : Plan m 0) (i : grid0.Coords) : cc0_transform_1 k0_off1_inb numel1_S1 inb_S1_S1_0 (tabs m) i = ![(expert m 0 (tile i)).val, 0, (chunkW m 0 i).val] := by
  unfold cc0_transform_1
  dsimp only
  rw [show Pipeline.Prefetch.Contents.at (tabs m) 2 (Rect.unit (s := S1) ![0] S1.size inb_S1_S1_0) numel1_S1 = nu m 0 from one_at _ _,
    select_eq _ (i 0).isLt _ (i 1).isLt _ hp.2.1 hp.2.2.1]
  have e1 : (chunkW m 0 i).val = if (i 0).val < (nu m 0).toNat then (i 1).val else 3 := by
    unfold chunkW tile chunk; dsimp only; split <;> rfl
  have e2 : (Pipeline.Prefetch.Contents.at (tabs m) 0 (Rect.unit (s := S32) ![(Scalar.indexCast (BitVec.ofNat 32 (i 0).val)).toNat] S1.size (k0_off1_inb i)) numel1_S1).toNat = (expert m 0 (tile i)).val :=
    (congrArg BitVec.toNat (word_at i (V m 0 main_arg0 : S32.Idx → BitVec 32) (k0_off1_inb i) numel1_S1)).trans (Nat.mod_eq_of_lt (hp.1 (tile i))).symm
  rw [e1, e2]
  rfl

theorem index3 (hp : Plan m 0) (i : grid0.Coords) : cc0_transform_3 k0_off1_inb numel1_S1 inb_S1_S1_0 (tabs m) i = ![(expert m 0 (tile i)).val, (chunkW m 0 i).val, 0] := by
  have h := index1 m hp i
  have h0 := congrFun h 0
  have h2 := congrFun h 2
  funext a
  match a with
  | ⟨0, _⟩ => exact h0
  | ⟨1, _⟩ => exact h2
  | ⟨2, _⟩ => rfl

theorem index2 (hp : Plan m 0) (i : grid0.Coords) : cc0_transform_2 k0_off1_inb numel1_S1 inb_S1_S1_0 (tabs m) i = ![(expert m 0 (tile i)).val, 0, (chunkW m 0 i).val] :=
  index1 m hp i

/-- The plan's tables pass the pipeline's side condition. -/
theorem ok_tabs (hp : Plan m 0) : ok0 (F := F) (tabs m) := by
  have hb1 : ∀ (i : grid0.Coords) a, (![(expert m 0 (tile i)).val, 0, (chunkW m 0 i).val] a + 1) * S1x2048x256.size a ≤ S16x2048x1024.size a := fun i a => by
    have h1 := (expert m 0 (tile i)).isLt
    have h2 := (chunkW m 0 i).isLt
    match a with
    | ⟨0, _⟩ => show ((expert m 0 (tile i)).val + 1) * 1 ≤ 16; omega
    | ⟨1, _⟩ => show (0 + 1) * 2048 ≤ 2048; omega
    | ⟨2, _⟩ => show ((chunkW m 0 i).val + 1) * 256 ≤ 1024; omega
  refine ⟨fun i => ?_, fun i => ?_, fun i => ?_, fun i => ?_⟩
  · refine ⟨?_, .inr (Affine.block_words_dvd (of_decide_eq_true rfl) (by decide))⟩
    rw [index0 m hp]
    intro a
    have h1 := (tileX m 0 i).isLt
    match a with
    | ⟨0, _⟩ => show ((tileX m 0 i).val + 1) * 1024 ≤ 32768; omega
    | ⟨1, _⟩ => show (0 + 1) * 16 ≤ 16; omega
    | ⟨2, _⟩ => show (0 + 1) * 128 ≤ 128; omega
  · refine ⟨?_, .inl rfl⟩
    rw [index1 m hp]
    exact hb1 i
  · refine ⟨?_, .inl rfl⟩
    rw [index2 m hp]
    exact hb1 i
  · refine ⟨?_, .inl rfl⟩
    rw [index3 m hp]
    intro a
    have h1 := (expert m 0 (tile i)).isLt
    have h2 := (chunkW m 0 i).isLt
    match a with
    | ⟨0, _⟩ => show ((expert m 0 (tile i)).val + 1) * 1 ≤ 16; omega
    | ⟨1, _⟩ => show ((chunkW m 0 i).val + 1) * 256 ≤ 1024; omega
    | ⟨2, _⟩ => show (0 + 1) * 2048 ≤ 2048; omega

/-- The tables, admissible. -/
def adm (hp : Plan m 0) (_ : Fin 1) : (pcfg0 (F := F)).Adm := ⟨tabs m, ok_tabs m hp⟩

/-! ## The blocks a point reads -/

def xb (c : Dev nD) (i : grid0.Coords) : S1024x16x128.Idx → F .bf16 := fun y =>
  (V m c main_arg3 : S32768x16x128.Idx → F .bf16) (ix3 ⟨(tileX m c i).val * 1024 + (y 0).val, by
    have h1 := (tileX m c i).isLt; have h2 : (y 0).val < 1024 := (y 0).isLt; omega⟩ (y 1) (y 2))
def wb1 (c : Dev nD) (i : grid0.Coords) : S1x2048x256.Idx → F .f32 := fun y =>
  (V m c main_arg4 : S16x2048x1024.Idx → F .f32) (ix3 (expert m c (tile i)) (y 1) ⟨(chunkW m c i).val * 256 + (y 2).val, by
    have h1 := (chunkW m c i).isLt; have h2 : (y 2).val < 256 := (y 2).isLt; omega⟩)
def wb2 (c : Dev nD) (i : grid0.Coords) : S1x2048x256.Idx → F .f32 := fun y =>
  (V m c main_arg5 : S16x2048x1024.Idx → F .f32) (ix3 (expert m c (tile i)) (y 1) ⟨(chunkW m c i).val * 256 + (y 2).val, by
    have h1 := (chunkW m c i).isLt; have h2 : (y 2).val < 256 := (y 2).isLt; omega⟩)
def wb3 (c : Dev nD) (i : grid0.Coords) : S1x256x2048.Idx → F .f32 := fun y =>
  (V m c main_arg6 : S16x1024x2048.Idx → F .f32) (ix3 (expert m c (tile i)) ⟨(chunkW m c i).val * 256 + (y 1).val, by
    have h1 := (chunkW m c i).isLt; have h2 : (y 1).val < 256 := (y 1).isLt; omega⟩ (y 2))

/-! ## What the accumulator and the result's block come to -/

/-- The chunk's product of block `j` at a point. -/
def prod (c : Dev nD) (i : grid0.Coords) (j : Fin 4) : FVec F S256x2048 .f32 :=
  partAt (wb1 m c i) (wb2 m c i) (wb3 m c i) (xb m c i) (row j) (hr3 j)

/-- The rows of a live block of the accumulator after point `k`. -/
def accAfter (c : Dev nD) (j : Fin 4) : (k : ℕ) → k < grid0.N → FVec F S256x2048 .f32
  | 0, h => prod m c (grid0.coords ⟨0, h⟩) j
  | k + 1, h => if ((grid0.coords ⟨k + 1, h⟩) 1).val = 0 then prod m c (grid0.coords ⟨k + 1, h⟩) j
      else addf (accAfter c j k (Nat.lt_of_succ_lt h)) (prod m c (grid0.coords ⟨k + 1, h⟩) j)

/-- What the accumulator holds before point `n`: in the live blocks of the tile of the point before, that. -/
def Good (c : Dev nD) (n : ℕ) (A : S1024x2048.Idx → F .f32) : Prop :=
  ∀ (k : ℕ) (h : k < grid0.N), k + 1 = n → ∀ j, live (rws m c (tile (grid0.coords ⟨k, h⟩))) (row j) → rowsA j A = accAfter m c j k h

/-- What the result's block holds once a tile's last chunk is done. -/
def Done (c : Dev nD) (t : Fin grid0.N) (X : S1024x16x128.Idx → F .bf16) : Prop :=
  ((grid0.coords t) 1).val = 3 → ∀ j, rowsO j X = lastR (rws m c (tile (grid0.coords t))) j (accAfter m c j t.val t.isLt)

theorem coord0 (t : Fin grid0.N) : ((grid0.coords t) 0).val = t.val / 4 % 32 := Pipeline.Grid.coords_val t 0 (by decide) rfl
theorem coord1 (t : Fin grid0.N) : ((grid0.coords t) 1).val = t.val % 4 :=
  (Pipeline.Grid.coords_val t 1 (S := 1) (B := 4) (by decide) rfl).trans (by rw [Nat.div_one])

theorem same_tile (k : ℕ) (h : k + 1 < grid0.N) (hc : ¬((grid0.coords ⟨k + 1, h⟩) 1).val = 0) :
    tile (grid0.coords ⟨k, Nat.lt_of_succ_lt h⟩) = tile (grid0.coords ⟨k + 1, h⟩) := by
  apply Fin.ext
  show ((grid0.coords _) 0).val = ((grid0.coords _) 0).val
  rw [coord1] at hc
  rw [coord0, coord0]
  dsimp only at *
  omega

theorem good_step (c : Dev nD) (t : Fin grid0.N) (A : S1024x2048.Idx → F .f32) (hA : Good m c t.val A) :
    Good m c (t.val + 1) (acc4 (grid0.coords t) (rws m c (tile (grid0.coords t))) (wb1 m c (grid0.coords t)) (wb2 m c (grid0.coords t)) (wb3 m c (grid0.coords t)) (xb m c (grid0.coords t)) A) := by
  intro k hk hkt j hl
  obtain rfl : t = ⟨k, hk⟩ := Fin.ext (show t.val = k by omega)
  rw [acc4_rows]
  unfold stepR
  rw [if_pos hl]
  match k, hk, hA, hl with
  | 0, hk, hA, hl => rw [if_pos (by rw [coord1]; rfl)]; rfl
  | k + 1, hk, hA, hl =>
    show _ = (if _ then _ else _)
    by_cases h0 : ((grid0.coords ⟨k + 1, hk⟩) 1).val = 0
    · rw [if_pos h0, if_pos h0]; rfl
    · rw [if_neg h0, if_neg h0, hA k (Nat.lt_of_succ_lt hk) rfl j (by rw [same_tile k hk h0]; exact hl)]; rfl

theorem done_step (c : Dev nD) (t : Fin grid0.N) (A : S1024x2048.Idx → F .f32) (O : S1024x16x128.Idx → F .bf16) (hA : Good m c t.val A) :
    Done m c t (out4 (grid0.coords t) (rws m c (tile (grid0.coords t))) (wb1 m c (grid0.coords t)) (wb2 m c (grid0.coords t)) (wb3 m c (grid0.coords t)) (xb m c (grid0.coords t)) A O) := by
  intro h3 j
  rw [out4_rows _ _ _ _ _ _ _ _ h3]
  unfold lastR
  by_cases hl : live (rws m c (tile (grid0.coords t))) (row j)
  · rw [if_pos hl, if_pos hl, good_step m c t A hA t.val t.isLt rfl j hl]
  · rw [if_neg hl, if_neg hl]

/-! ## A block's index, placed in the array -/

theorem place (f g : Fin 3 → ℕ) (h : f = g) (s y : Fin 3 → ℕ) (a : Fin 3) (n : ℕ) (hn : g a * s a + y a = n) : f a * s a + y a = n := by rw [h]; exact hn
theorem lead (s y : ℕ) : 0 * s + y = y := by omega
theorem place_x (y : S1024x16x128.Idx) (T : Fin 32) (f : Fin 3 → ℕ) (hf : f = ![T.val, 0, 0]) (h) (a : Fin 3) : (fun b => f b * S1024x16x128.size b) a + (y a).val = ((ix3 (⟨T.val * 1024 + (y 0).val, h⟩ : Fin 32768) (y 1) (y 2) : S32768x16x128.Idx) a).val := by
  refine place f _ hf (fun b => S1024x16x128.size b) (fun b => (y b).val) a _ ?_
  match a with
  | ⟨0, _⟩ => rfl
  | ⟨1, _⟩ => exact lead _ _
  | ⟨2, _⟩ => exact lead _ _
theorem single (T y : ℕ) (h : y < 1) : T * 1 + y = T := by omega
theorem place_w (y : S1x2048x256.Idx) (T : Fin 16) (C : Fin 4) (f : Fin 3 → ℕ) (hf : f = ![T.val, 0, C.val]) (h) (a : Fin 3) : (fun b => f b * S1x2048x256.size b) a + (y a).val = ((ix3 T (y 1) (⟨C.val * 256 + (y 2).val, h⟩ : Fin 1024) : S16x2048x1024.Idx) a).val := by
  refine place f _ hf (fun b => S1x2048x256.size b) (fun b => (y b).val) a _ ?_
  match a with
  | ⟨0, _⟩ => exact single T.val (y 0).val (y 0).isLt
  | ⟨1, _⟩ => exact lead _ _
  | ⟨2, _⟩ => rfl
theorem place_d (y : S1x256x2048.Idx) (T : Fin 16) (C : Fin 4) (f : Fin 3 → ℕ) (hf : f = ![T.val, C.val, 0]) (h) (a : Fin 3) : (fun b => f b * S1x256x2048.size b) a + (y a).val = ((ix3 T (⟨C.val * 256 + (y 1).val, h⟩ : Fin 1024) (y 2) : S16x1024x2048.Idx) a).val := by
  refine place f _ hf (fun b => S1x256x2048.size b) (fun b => (y b).val) a _ ?_
  match a with
  | ⟨0, _⟩ => exact single T.val (y 0).val (y 0).isLt
  | ⟨1, _⟩ => rfl
  | ⟨2, _⟩ => exact lead _ _

end Cert.ExpertsIdeal.Hand

end
-- ==== Proof.ExpertsLaunch.lean ====
/-
  The experts' kernel, the launch: its run from any memory whose plan is a plan ends with every block of the result as the
  four chunks left it, every argument as it was and every semaphore at zero. Proved once, over any number instance `F`.
-/
module

public import proofs.«01_k».proof.Proof.ExpertsRun

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F]

local notation "𝕄" => MT nD τ sig Unit (Elt F) ℕ (UR sig nD τ) ℕ

variable (m : (ℓ : Loc nD τ sig) → Buf (Elt F) ℓ) (ρ : Dev nD → PrngReg) (hp : Plan m 0)

/-- What holds before point `n`: the accumulator as far as it is known, and the launch's holdings. -/
def Φr (c : Dev nD) (n : ℕ) : sProp 𝕄 :=
  iprop((∃ A, ⌜Good m c n A⌝ ∗ owns (c : Thread nD τ) (Memref.whole cc0_scratch0) fullShare (A : S1024x2048.Idx → Elt F .f32))
    ∗ (∃ r, prngReg c r) ∗ Pipeline.ΦT pre0 (tabs m) c)

def rdat (c : Dev nD) : RDat τ (Elt F) Unit ℕ (UR sig nD τ) ℕ (Pipeline.pin (pcfgs (F := F)) (adm m hp) 0) c where
  A w := V m c (Pipeline.arrRef spec0 w)
  after := fun
    | 0 => fun _ Y X => X = Y
    | 1 => fun _ Y X => X = Y
    | 2 => fun _ Y X => X = Y
    | 3 => fun _ Y X => X = Y
    | 4 => fun t _ X => Done m c t X
    | ⟨_ + 5, h⟩ => absurd h (Nat.not_lt.2 (Nat.le_add_left _ _))
  Φ t := Φr m c t.val
  q _ := fullShare
  owed _ := 0

theorem fetched0 (c : Dev nD) (t : Fin grid0.N) (d : S1024x16x128.Idx → F .bf16) :
    ((rdat m hp c).fetched 0 t d : S1024x16x128.Idx → F .bf16) = xb m 0 (grid0.coords t) := by
  obtain rfl : c = 0 := Subsingleton.elim c 0
  refine funext fun (y : S1024x16x128.Idx) => ?_
  unfold RDat.fetched
  refine ((Pipeline.Window.fill_xinj (win0 (adm m hp 0) 0) (grid0.coords t) d ((rdat m hp 0).blockOf 0 t) y)).trans ?_
  unfold xb
  refine congrArg (V m 0 main_arg3 : S32768x16x128.Idx → F .bf16) (funext fun (a : Fin 3) => Fin.ext ?_)
  refine (ValueKit.view_emb_slice_whole_unit_val main_arg3 (fun a => ix0 (tabs m) 0 (grid0.coords t) a * S1024x16x128.size a) S1024x16x128.size
    (fun a => (Nat.succ_mul _ _).symm.trans_le (hinb0 (tabs m) (ok_tabs m hp) 0 (grid0.coords t) a)) y a).trans ?_
  exact place_x y (tileX m 0 (grid0.coords t)) _ (index0 m hp (grid0.coords t)) _ a

theorem fetched1 (c : Dev nD) (t : Fin grid0.N) (d : S1x2048x256.Idx → F .f32) :
    ((rdat m hp c).fetched 1 t d : S1x2048x256.Idx → F .f32) = wb1 m 0 (grid0.coords t) := by
  obtain rfl : c = 0 := Subsingleton.elim c 0
  refine funext fun (y : S1x2048x256.Idx) => ?_
  unfold RDat.fetched
  refine ((Pipeline.Window.fill_xinj (win0 (adm m hp 0) 1) (grid0.coords t) d ((rdat m hp 0).blockOf 1 t) y)).trans ?_
  unfold wb1
  refine congrArg (V m 0 main_arg4 : S16x2048x1024.Idx → F .f32) (funext fun (a : Fin 3) => Fin.ext ?_)
  refine (ValueKit.view_emb_slice_whole_unit_val main_arg4 (fun a => ix0 (tabs m) 1 (grid0.coords t) a * S1x2048x256.size a) S1x2048x256.size
    (fun a => (Nat.succ_mul _ _).symm.trans_le (hinb0 (tabs m) (ok_tabs m hp) 1 (grid0.coords t) a)) y a).trans ?_
  exact place_w y (expert m 0 (tile (grid0.coords t))) (chunkW m 0 (grid0.coords t)) _ (index1 m hp (grid0.coords t)) _ a

theorem fetched2 (c : Dev nD) (t : Fin grid0.N) (d : S1x2048x256.Idx → F .f32) :
    ((rdat m hp c).fetched 2 t d : S1x2048x256.Idx → F .f32) = wb2 m 0 (grid0.coords t) := by
  obtain rfl : c = 0 := Subsingleton.elim c 0
  refine funext fun (y : S1x2048x256.Idx) => ?_
  unfold RDat.fetched
  refine ((Pipeline.Window.fill_xinj (win0 (adm m hp 0) 2) (grid0.coords t) d ((rdat m hp 0).blockOf 2 t) y)).trans ?_
  unfold wb2
  refine congrArg (V m 0 main_arg5 : S16x2048x1024.Idx → F .f32) (funext fun (a : Fin 3) => Fin.ext ?_)
  refine (ValueKit.view_emb_slice_whole_unit_val main_arg5 (fun a => ix0 (tabs m) 2 (grid0.coords t) a * S1x2048x256.size a) S1x2048x256.size
    (fun a => (Nat.succ_mul _ _).symm.trans_le (hinb0 (tabs m) (ok_tabs m hp) 2 (grid0.coords t) a)) y a).trans ?_
  exact place_w y (expert m 0 (tile (grid0.coords t))) (chunkW m 0 (grid0.coords t)) _ (index2 m hp (grid0.coords t)) _ a

theorem fetched3 (c : Dev nD) (t : Fin grid0.N) (d : S1x256x2048.Idx → F .f32) :
    ((rdat m hp c).fetched 3 t d : S1x256x2048.Idx → F .f32) = wb3 m 0 (grid0.coords t) := by
  obtain rfl : c = 0 := Subsingleton.elim c 0
  refine funext fun (y : S1x256x2048.Idx) => ?_
  unfold RDat.fetched
  refine ((Pipeline.Window.fill_xinj (win0 (adm m hp 0) 3) (grid0.coords t) d ((rdat m hp 0).blockOf 3 t) y)).trans ?_
  unfold wb3
  refine congrArg (V m 0 main_arg6 : S16x1024x2048.Idx → F .f32) (funext fun (a : Fin 3) => Fin.ext ?_)
  refine (ValueKit.view_emb_slice_whole_unit_val main_arg6 (fun a => ix0 (tabs m) 3 (grid0.coords t) a * S1x256x2048.size a) S1x256x2048.size
    (fun a => (Nat.succ_mul _ _).symm.trans_le (hinb0 (tabs m) (ok_tabs m hp) 3 (grid0.coords t) a)) y a).trans ?_
  exact place_d y (expert m 0 (tile (grid0.coords t))) (chunkW m 0 (grid0.coords t)) _ (index3 m hp (grid0.coords t)) _ a

/-! ## What a point finds -/

theorem finds0 (c : Dev nD) (t : Fin grid0.N) (Y : S1024x16x128.Idx → F .bf16) (hY : (rdat m hp c).Finds 0 t Y) : Y = xb m 0 (grid0.coords t) := by
  obtain ⟨d, h⟩ := (rdat m hp c).finds_in_eq_fetched 0 rfl (fun _ _ _ => rfl) (fun _ _ _ h => h) t Y hY
  exact h.trans (fetched0 m hp c t d)
theorem finds1 (c : Dev nD) (t : Fin grid0.N) (Y : S1x2048x256.Idx → F .f32) (hY : (rdat m hp c).Finds 1 t Y) : Y = wb1 m 0 (grid0.coords t) := by
  obtain ⟨d, h⟩ := (rdat m hp c).finds_in_eq_fetched 1 rfl (fun _ _ _ => rfl) (fun _ _ _ h => h) t Y hY
  exact h.trans (fetched1 m hp c t d)
theorem finds2 (c : Dev nD) (t : Fin grid0.N) (Y : S1x2048x256.Idx → F .f32) (hY : (rdat m hp c).Finds 2 t Y) : Y = wb2 m 0 (grid0.coords t) := by
  obtain ⟨d, h⟩ := (rdat m hp c).finds_in_eq_fetched 2 rfl (fun _ _ _ => rfl) (fun _ _ _ h => h) t Y hY
  exact h.trans (fetched2 m hp c t d)
theorem finds3 (c : Dev nD) (t : Fin grid0.N) (Y : S1x256x2048.Idx → F .f32) (hY : (rdat m hp c).Finds 3 t Y) : Y = wb3 m 0 (grid0.coords t) := by
  obtain ⟨d, h⟩ := (rdat m hp c).finds_in_eq_fetched 3 rfl (fun _ _ _ => rfl) (fun _ _ _ h => h) t Y hY
  exact h.trans (fetched3 m hp c t d)

/-! ## The body at a point -/

theorem tables0_eq (c : Dev nD) :
    (Pipeline.ΦT pre0 (tabs m) c : sProp 𝕄)
      = iprop(((c : Thread nD τ).loc main_arg0 ↦{fullShare.right} V m c main_arg0) ∗ ((c : Thread nD τ).loc main_arg1 ↦{fullShare.right} V m c main_arg1)
          ∗ ((c : Thread nD τ).loc main_arg2 ↦{fullShare.right} V m c main_arg2)) := by
  obtain rfl : c = 0 := Subsingleton.elim c 0
  unfold Pipeline.ΦT Pipeline.prefHeld
  rw [BI.bigSep_eq_bigSepL_of_eq [(0 : Fin 3), 1, 2] (by decide) (by decide)]
  rfl

theorem defs₀_row (t : Fin grid0.N) :
    defs₀ (F := F) .tc (cfg0 (adm m hp 0)).body ((cfg0 (adm m hp 0)).bodyArgs t ((cfg0 (adm m hp 0)).slots t))
      = cc0_expert_mlp (grid0.coords t) (Memref.whole main_arg0) (Memref.isWhole_whole _) (Memref.whole main_arg1) (Memref.isWhole_whole _) (Memref.whole main_arg2) (Memref.isWhole_whole _)
          (spec0_0.stage ((cfg0 (adm m hp 0)).slots t 0)) (hstage0_0 (((cfg0 (adm m hp 0)).slots t 0).cast nbuf0_0))
          (spec0_1.stage ((cfg0 (adm m hp 0)).slots t 1)) (hstage0_1 (((cfg0 (adm m hp 0)).slots t 1).cast nbuf0_1))
          (spec0_2.stage ((cfg0 (adm m hp 0)).slots t 2)) (hstage0_2 (((cfg0 (adm m hp 0)).slots t 2).cast nbuf0_2))
          (spec0_3.stage ((cfg0 (adm m hp 0)).slots t 3)) (hstage0_3 (((cfg0 (adm m hp 0)).slots t 3).cast nbuf0_3))
          (spec0_4.stage ((cfg0 (adm m hp 0)).slots t 4)) (hstage0_4 (((cfg0 (adm m hp 0)).slots t 4).cast nbuf0_4))
          (Memref.whole cc0_scratch0) (Memref.isWhole_whole _) := by
  unfold defs₀; rw [Defs.onTc_tc]

/-- One point, over any staging buffers. -/
theorem sound_body (c : Dev nD) (t : Fin grid0.N) (arg5 : Memref sig .tc .vmem S1024x16x128 .bf16) (harg5 : arg5.IsWhole) (arg6 : Memref sig .tc .vmem S1x2048x256 .f32) (harg6 : arg6.IsWhole)
    (arg7 : Memref sig .tc .vmem S1x2048x256 .f32) (harg7 : arg7.IsWhole) (arg8 : Memref sig .tc .vmem S1x256x2048 .f32) (harg8 : arg8.IsWhole)
    (arg9 : Memref sig .tc .vmem S1024x16x128 .bf16) (harg9 : arg9.IsWhole)
    (Y0 : S1024x16x128.Idx → F .bf16) (Y1 Y2 : S1x2048x256.Idx → F .f32) (Y3 : S1x256x2048.Idx → F .f32) (Y4 : S1024x16x128.Idx → F .bf16)
    (h0 : Y0 = xb m 0 (grid0.coords t)) (h1 : Y1 = wb1 m 0 (grid0.coords t)) (h2 : Y2 = wb2 m 0 (grid0.coords t)) (h3 : Y3 = wb3 m 0 (grid0.coords t)) :
    (iprop(Φr m c t.val ∗ (rdat m hp c).owesAt () t.castSucc
        ∗ owns (c : Thread nD τ) arg5 fullShare (Y0 : S1024x16x128.Idx → Elt F .bf16) ∗ owns (c : Thread nD τ) arg6 fullShare (Y1 : S1x2048x256.Idx → Elt F .f32)
        ∗ owns (c : Thread nD τ) arg7 fullShare (Y2 : S1x2048x256.Idx → Elt F .f32) ∗ owns (c : Thread nD τ) arg8 fullShare (Y3 : S1x256x2048.Idx → Elt F .f32)
        ∗ owns (c : Thread nD τ) arg9 fullShare (Y4 : S1024x16x128.Idx → Elt F .bf16)) : sProp 𝕄)
      ⊢ wp frame (wpE (defs₀ (F := F)) Variants.none c none) Set.univ
          (cc0_expert_mlp (grid0.coords t) (Memref.whole main_arg0) (Memref.isWhole_whole _) (Memref.whole main_arg1) (Memref.isWhole_whole _) (Memref.whole main_arg2) (Memref.isWhole_whole _)
            arg5 harg5 arg6 harg6 arg7 harg7 arg8 harg8 arg9 harg9 (Memref.whole cc0_scratch0) (Memref.isWhole_whole _))
          (fun _ => iprop(Φr m c (t.val + 1) ∗ (rdat m hp c).owesAt () t.succ
            ∗ (∃ X : S1024x16x128.Idx → F .bf16, ⌜X = Y0⌝ ∗ owns (c : Thread nD τ) arg5 fullShare (X : S1024x16x128.Idx → Elt F .bf16))
            ∗ (∃ X : S1x2048x256.Idx → F .f32, ⌜X = Y1⌝ ∗ owns (c : Thread nD τ) arg6 fullShare (X : S1x2048x256.Idx → Elt F .f32))
            ∗ (∃ X : S1x2048x256.Idx → F .f32, ⌜X = Y2⌝ ∗ owns (c : Thread nD τ) arg7 fullShare (X : S1x2048x256.Idx → Elt F .f32))
            ∗ (∃ X : S1x256x2048.Idx → F .f32, ⌜X = Y3⌝ ∗ owns (c : Thread nD τ) arg8 fullShare (X : S1x256x2048.Idx → Elt F .f32))
            ∗ (∃ X : S1024x16x128.Idx → F .bf16, ⌜Done m c t X⌝ ∗ owns (c : Thread nD τ) arg9 fullShare (X : S1024x16x128.Idx → Elt F .bf16)))) := by
  obtain rfl : c = 0 := Subsingleton.elim c 0
  unfold RDat.owesAt Pipeline.owesWithin
  rw [show (rdat m hp 0).owed t.castSucc = 0 from rfl, show (rdat m hp 0).owed t.succ = 0 from rfl]
  unfold Φr
  rw [tables0_eq]
  iintro ⟨⟨⟨%A, %hA, HA⟩, Hg, HT0, HT1, HT2⟩, ⟨%W, -, HW⟩, H5, H6, H7, H8, H9⟩
  iapply (body_run (grid0.coords t) (Memref.whole main_arg0) (Memref.isWhole_whole _) (Memref.whole main_arg1) (Memref.isWhole_whole _) (Memref.whole main_arg2) (Memref.isWhole_whole _)
    arg5 harg5 arg6 harg6 arg7 harg7 arg8 harg8 arg9 harg9 (Memref.whole cc0_scratch0) (Memref.isWhole_whole _) 0 Variants.none fullShare.right
    (V m 0 main_arg1 : S32.Idx → BitVec 32) Y1 Y2 Y3 Y0 Y4 A)
  isplitl [HT1 H5 H6 H7 H8 H9 HA]
  · isplitl [HT1]
    · rw [owns_whole_eq]
      iexists (V m 0 main_arg1)
      isplitr; · ipureintro; rfl
      iexact HT1
    isplitl [H6]; · iexact H6
    isplitl [H7]; · iexact H7
    isplitl [H8]; · iexact H8
    isplitl [H5]; · iexact H5
    isplitl [H9]; · iexact H9
    iexact HA
  rw [owns_whole_eq (c := ((0 : Dev nD) : Thread nD τ)) (b := main_arg1), rowsOf_eq]
  iintro ⟨⟨%f, %hf, HT1⟩, H6, H7, H8, H5, H9, HA⟩
  subst hf
  isplitl [HA Hg HT0 HT1 HT2]
  · isplitl [HA]
    · iexists _
      isplitr [HA]
      swap; · iexact HA
      ipureintro
      subst h0 h1 h2 h3
      exact good_step m 0 t A hA
    isplitl [Hg]; · iexact Hg
    isplitl [HT0]; · iexact HT0
    isplitl [HT1]; · iexact HT1
    iexact HT2
  isplitl [HW]
  · iexists W; isplitr; · ipureintro; exact fun _ _ => Or.inl trivial
    iexact HW
  isplitl [H5]
  · iexists Y0; isplitr; · ipureintro; rfl
    iexact H5
  isplitl [H6]
  · iexists Y1; isplitr; · ipureintro; rfl
    iexact H6
  isplitl [H7]
  · iexists Y2; isplitr; · ipureintro; rfl
    iexact H7
  isplitl [H8]
  · iexists Y3; isplitr; · ipureintro; rfl
    iexact H8
  iexists _
  isplitr [H9]
  swap; · iexact H9
  ipureintro
  subst h0 h1 h2 h3
  exact done_step m 0 t A Y4 hA

theorem body_obligation (c : Dev nD) : (rdat m hp c).BodyObligation (defs₀ (F := F)) Variants.none () Set.univ := fun t Y hY => by
  rw [bigSep_W0, bigSep_W0, defs₀_row]
  exact sound_body m hp c t _ _ _ _ _ _ _ _ _ _ (Y 0) (Y 1) (Y 2) (Y 3) (Y 4) (finds0 m hp c t _ (hY 0)) (finds1 m hp c t _ (hY 1)) (finds2 m hp c t _ (hY 2)) (finds3 m hp c t _ (hY 3))

/-! ## The run -/

theorem scratch_out (c : Dev nD) (A : S1024x2048.Idx → Elt F .f32) :
    (owns (c : Thread nD τ) (Memref.whole cc0_scratch0) fullShare A : sProp 𝕄)
      ⊢ iprop(∃ f : Buf (Elt F) ((c : Thread nD τ).loc cc0_scratch0), ((c : Thread nD τ).loc cc0_scratch0) ↦{fullShare} f) := by
  rw [owns_whole_eq]
  iintro ⟨%f, -, H⟩
  iexists f
  iexact H

set_option backward.isDefEq.respectTransparency.types false in
theorem run_post : θ_run defs (onTc (τ := τ) (main (F := F))) (s₀ m ρ)
    (fun r => RDat.FramePost (Pipeline.pin (pcfgs (F := F)) (adm m hp) 0) (rdat m hp) (V m) r ∧ r.2.sem = fun _ => 0) :=
  RDat.θ_run_frameP_track (Q' := _) pcfgs (adm m hp) (0 : Fin 1) launch0 defs₀ Variants.none (rdat m hp) m ρ main
    (hbody := body_obligation m hp) (hshare := fun _ w => by unfold RDat.share; split <;> rfl)
    (howed := fun _ _ => rfl) (V := V m) (hmain := Pipeline.hmainP_region pcfgs 0 defs₀ Variants.none m main fun c => (main_chain c).trans rfl)
    (hA := fun _ w => rfl) (hpf := fun c k => by
      obtain rfl : c = 0 := Subsingleton.elim c 0
      rfl)
    (hin := fun c => by
      show _ ⊢ Φr m c 0
      unfold Φr Pipeline.ΦA
      rw [scopedRest0_eq]
      iintro ⟨⟨⟨%f, H⟩, Hg⟩, HT⟩
      isplitl [H]
      · iexists (f : S1024x2048.Idx → Elt F .f32)
        isplitr
        · ipureintro; exact fun k _ h => absurd h (Nat.succ_ne_zero k)
        rw [owns_whole_eq]
        iexists f
        isplitr; · ipureintro; rfl
        iexact H
      isplitl [Hg]; · iexact Hg
      iexact HT)
    (hout := fun c => by
      show Φr m c grid0.N ⊢ _
      unfold Φr Pipeline.ΦA
      rw [scopedRest0_eq]
      iintro ⟨⟨%A, -, H⟩, Hg, -⟩
      isplitl [H]
      · iapply (scratch_out c A)
        iexact H
      iexact Hg)

end Cert.ExpertsIdeal.Hand

end
-- ==== Proof.ExpertsOut.lean ====
/-
  The experts' kernel, its result: the array the launch leaves, token by token, and the run of the whole program. Over any number
  instance `F`.
-/
module

public import proofs.«01_k».proof.Proof.ExpertsLaunch

@[expose] public section

set_option maxRecDepth 16384

noncomputable section

namespace Cert.ExpertsIdeal.Hand

open Cert.ExpertsIdeal Cert.ExpertsIdeal.Gen
open Idealize.ShloMosaic Idealize.ShloMosaic.TcCoe
open Idealize.SL.Sem
open Idealize.ShloMosaic.Pipeline (RDat Dat)

variable {F : FTy → Type} [FloatOps F]

variable (m : (ℓ : Loc nD τ sig) → Buf (Elt F) ℓ) (ρ : Dev nD → PrngReg)

/-- The tile, the block of rows and the row in it that a token's row of the result is. -/
def tileOf (n : Fin 32768) : Fin 32 := ⟨n.val / 1024, by omega⟩
def blockOf (n : Fin 32768) : Fin 4 := ⟨n.val % 1024 / 256, by omega⟩
def rowOf (n : Fin 32768) : Fin 256 := ⟨n.val % 256, by omega⟩

/-- A tile's last point. -/
def lastPoint (s : Fin 32) : Fin grid0.N := ⟨4 * s.val + 3, by rw [N_0]; omega⟩

/-- What a tile's last point stores in one row of a block of rows. -/
def outAt (c : Dev nD) (s : Fin 32) (j : Fin 4) (r : Fin 256) (h : Fin 16) (l : Fin 128) : F .bf16 :=
  lastR (rws m c s) j (accAfter m c j (lastPoint s).val (lastPoint s).isLt) (ix3 r h l)

/-- The result. -/
def outV (c : Dev nD) : S32768x16x128.Idx → F .bf16 := fun z => outAt m c (tileOf (z 0)) (blockOf (z 0)) (rowOf (z 0)) (z 1) (z 2)

theorem mul_add_lt (s y : ℕ) (h1 : s < 32) (h2 : y < 1024) : s * 1024 + y < 32768 := by omega
theorem tileOf_eq (s : Fin 32) (y : ℕ) (h : y < 1024) (h') : tileOf ⟨s.val * 1024 + y, h'⟩ = s := by
  apply Fin.ext; show (s.val * 1024 + y) / 1024 = s.val; omega
theorem blockOf_eq (s : Fin 32) (y : ℕ) (h : y < 1024) (h') : (blockOf ⟨s.val * 1024 + y, h'⟩).val = y / 256 := by
  show (s.val * 1024 + y) % 1024 / 256 = y / 256; omega
theorem rowOf_eq (s : Fin 32) (y : ℕ) (h : y < 1024) (h') : (rowOf ⟨s.val * 1024 + y, h'⟩).val = y % 256 := by
  show (s.val * 1024 + y) % 256 = y % 256; omega

/-- An element of a tile's block, read in its block of rows. -/
theorem read_rows (X : S1024x16x128.Idx → F .bf16) (y : S1024x16x128.Idx) (j : Fin 4) (r : Fin 256) (hj : j.val = (y 0).val / 256) (hr : r.val = (y 0).val % 256) :
    X y = rowsO j X (ix3 r (y 1) (y 2)) := by
  unfold rowsO
  refine congrArg X (funext fun a => Fin.ext ?_)
  refine ((ValueKit.rect_emb_unit_val (s := S1024x16x128) ![row j, 0, 0] S256x16x128.size (hr3 j) _ a).trans ?_).symm
  match a with
  | ⟨0, _⟩ => show 256 * j.val + r.val = (y 0).val; omega
  | ⟨1, _⟩ => exact Nat.zero_add _
  | ⟨2, _⟩ => exact Nat.zero_add _

theorem index4 (i : grid0.Coords) : cc0_transform_4 i = ![(tile i).val, 0, 0] := by
  have h : (i 0).val < 32 := (i 0).isLt
  have e : (BitVec.ofNat 32 (i 0).val).toNat = (tile i).val := by show _ = (i 0).val; simp; omega
  unfold cc0_transform_4
  dsimp only
  rw [e]
  rfl

variable (hp : Plan m 0)

theorem flush_last (t : Fin grid0.N) (hf : (win0 (adm m hp 0) 4).flush t = true) : ((grid0.coords t) 1).val = 3 := by
  have hN : t.val < 128 := t.isLt.trans_eq N_0
  rw [coord1]
  by_contra hne
  have h := (Bool.and_eq_true _ _).mp hf
  have h2 : (decide (t.val + 1 = grid0.N) || decide (∃ h : t.val + 1 < grid0.N, cc0_transform_4 (grid0.coords ⟨t.val + 1, h⟩) ≠ cc0_transform_4 (grid0.coords t))) = true := h.2
  rcases (Bool.or_eq_true _ _).mp h2 with h3 | h3
  · have := (of_decide_eq_true h3).trans N_0; omega
  · obtain ⟨h4, h5⟩ := of_decide_eq_true h3
    refine h5 ?_
    rw [index4, index4]
    have : tile (grid0.coords ⟨t.val + 1, h4⟩) = tile (grid0.coords t) := by
      apply Fin.ext
      show ((grid0.coords _) 0).val = ((grid0.coords _) 0).val
      rw [coord0, coord0]
      dsimp only
      omega
    rw [this]

theorem last_of (t : Fin grid0.N) (h : ((grid0.coords t) 1).val = 3) : lastPoint (tile (grid0.coords t)) = t := by
  have hN : t.val < 128 := t.isLt.trans_eq N_0
  apply Fin.ext
  show 4 * ((grid0.coords t) 0).val + 3 = t.val
  rw [coord1] at h
  rw [coord0]
  omega

/-- What a tile's last point leaves, element by element. -/
theorem done_out (c : Dev nD) (t : Fin grid0.N) (h3 : ((grid0.coords t) 1).val = 3) (X : S1024x16x128.Idx → F .bf16) (hX : Done m c t X) (y : S1024x16x128.Idx) :
    X y = outV m c (ix3 (⟨(tile (grid0.coords t)).val * 1024 + (y 0).val, mul_add_lt _ _ (tile (grid0.coords t)).isLt (y 0).isLt⟩ : Fin 32768) (y 1) (y 2)) := by
  have hy : (y 0).val < 1024 := (y 0).isLt
  have hn := mul_add_lt _ _ (tile (grid0.coords t)).isLt hy
  have e : ∀ u : Fin grid0.N, u = t → ∀ j, accAfter m c j u.val u.isLt = accAfter m c j t.val t.isLt := by rintro _ rfl j; rfl
  show _ = outAt m c (tileOf ⟨(tile (grid0.coords t)).val * 1024 + (y 0).val, hn⟩) (blockOf ⟨(tile (grid0.coords t)).val * 1024 + (y 0).val, hn⟩)
    (rowOf ⟨(tile (grid0.coords t)).val * 1024 + (y 0).val, hn⟩) (y 1) (y 2)
  rw [tileOf_eq _ _ hy, read_rows X y _ _ (blockOf_eq _ _ hy hn) (rowOf_eq _ _ hy hn), hX h3]
  unfold outAt
  rw [e _ (last_of t h3)]

theorem covers4 : (win0 (adm m hp 0) 4).Covers := by
  refine (win0 (adm m hp 0) 4).covers_of_indexMap_surj rfl (show ∀ a : Fin 3, 0 < S1024x16x128.size a by decide) fun β => ?_
  have h0 : (β (0 : Fin 3)).val < 32 := lt_of_lt_of_eq (β (0 : Fin 3)).isLt (show (32768 + 1024 - 1) / 1024 = 32 by decide)
  have h1 : (β (1 : Fin 3)).val < 1 := lt_of_lt_of_eq (β (1 : Fin 3)).isLt (show (16 + 16 - 1) / 16 = 1 by decide)
  have h2 : (β (2 : Fin 3)).val < 1 := lt_of_lt_of_eq (β (2 : Fin 3)).isLt (show (128 + 128 - 1) / 128 = 1 by decide)
  let i : grid0.Coords := fun | 0 => ⟨(β (0 : Fin 3)).val, h0⟩ | 1 => ⟨0, by decide⟩
  refine ⟨i, fun (a : Fin 3) => ?_⟩
  refine (congrFun (index4 i) a).trans ?_
  match a with
  | ⟨0, _⟩ => rfl
  | ⟨1, _⟩ => show 0 = (β (1 : Fin 3)).val; omega
  | ⟨2, _⟩ => show 0 = (β (2 : Fin 3)).val; omega

theorem out_arr (c : Dev nD) (after : (w' : Fin 5) → Fin grid0.N → (win0 (adm m hp 0) w').block.Idx → Elt F (win0 (adm m hp 0) w').elt)
    (hL : ∀ (w : Fin 5) (u : Fin grid0.N), (win0 (adm m hp 0) w).flush u = true → (rdat m hp c).Leaves w u (after w u)) :
    ((rdat m hp c).withAfter after).arrAt 4 grid0.N = outV m c := by
  refine Dat.arrAt_eq_of_covers ((rdat m hp c).withAfter after) 4 (outV m c) (covers4 m hp) (fun t hf (y : S1024x16x128.Idx) => ?_) (Memref.isWhole_whole _)
  obtain ⟨_, -, hD⟩ := hL 4 t hf
  have h3 := flush_last m hp t hf
  refine (done_out m c t h3 (after 4 t) hD y).trans ?_
  refine congrArg (outV m c) (funext fun (a : Fin 3) => Fin.ext ?_)
  refine Eq.symm ((ValueKit.view_emb_slice_whole_unit_val main_v0 (fun a => ix0 (tabs m) 4 (grid0.coords t) a * S1024x16x128.size a) S1024x16x128.size
    (fun a => (Nat.succ_mul _ _).symm.trans_le (hinb0 (tabs m) (ok_tabs m hp) 4 (grid0.coords t) a)) y a).trans ?_)
  exact place_x y (tile (grid0.coords t)) _ (index4 (grid0.coords t)) _ a

/-- Every run of the program from a memory with a plan ends with the result, the arguments as they were and the semaphores at zero. -/
theorem run_main (hp : Plan m 0) : θ_run defs (onTc (τ := τ) (main (F := F))) (s₀ m ρ)
    (fun r => (∀ c : Dev nD, (r.2.mem ((c : Thread nD τ).loc main_v0) : S32768x16x128.Idx → F .bf16) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) := by
  refine (θ_run defs _ _).mono (fun r h => ⟨fun c => ?_, h.2⟩) (run_post m ρ hp)
  obtain ⟨after, hL, hA⟩ := h.1.exists_exact c
  refine ⟨(hA 4).trans (out_arr m hp c after hL), ?_, ?_, ?_, h.1.arr_in c 0 rfl, h.1.arr_in c 1 rfl, h.1.arr_in c 2 rfl, h.1.arr_in c 3 rfl⟩
  · exact (h.1 c).2 main_arg0 (Pipeline.mem_restRefs_of main_arg0 (by decide) (show ∀ w : Fin 5, (spec0 w).arr.view.ref ≠ main_arg0 by decide))
  · exact (h.1 c).2 main_arg1 (Pipeline.mem_restRefs_of main_arg1 (by decide) (show ∀ w : Fin 5, (spec0 w).arr.view.ref ≠ main_arg1 by decide))
  · exact (h.1 c).2 main_arg2 (Pipeline.mem_restRefs_of main_arg2 (by decide) (show ∀ w : Fin 5, (spec0 w).arr.view.ref ≠ main_arg2 by decide))

end Cert.ExpertsIdeal.Hand

end
-- ==== Proof.ExpertsVal.lean ====
/-
  The experts' kernel over the extended reals: the four chunks' products of a live block of rows add up to the whole gated product
  of the tile's expert, which is the reference's; a block with no live row is zero in both.
-/
module

public import proofs.«01_k».proof.Defs
public import proofs.«01_k».proof.Proof.ExpertsOut
public import proofs.«01_k».proof.Proof.Gen.ExpertsReferenceIdeal.Run
public import proofs.«01_k».proof.Proof.Gen.ExpertsReferenceIdeal.Read
public import Idealize.ShloMosaic.Lib.Pipeline.ValueKit
public import Idealize.ShloMosaic.Lib.Pointwise

@[expose] public section

set_option maxRecDepth 16384

noncomputable section

namespace Cert.ExpertsValue

open Cert.ExpertsIdeal Cert.ExpertsIdeal.Gen Cert.ExpertsIdeal.Hand
open Idealize.ShloMosaic Idealize.ShloMosaic.TcCoe Idealize.SL.Sem
open Cert.ExpertsReferenceIdeal.Read

/-! ## The mathematics -/

/-- A token's row through one column of an expert's first weights. -/
def proj (X : S32768x16x128.Idx → EReal) (W : S16x2048x1024.Idx → EReal) (n : Fin 32768) (e : Fin 16) (f : Fin 1024) : EReal :=
  ∑ k : Fin 2048, X (ix3 n (⟨k.val / 128, by omega⟩ : Fin 16) (⟨k.val % 128, by omega⟩ : Fin 128)) * W (ix3 e k f)

/-- One hidden unit's part of a token's result. -/
def term (X : S32768x16x128.Idx → EReal) (Wg Wu : S16x2048x1024.Idx → EReal) (Wd : S16x1024x2048.Idx → EReal) (n : Fin 32768) (e : Fin 16) (d : Fin 2048) (f : Fin 1024) : EReal :=
  (proj X Wg n e f * Ideal.div 1 (1 + Ideal.exp (0 - proj X Wg n e f)) * proj X Wu n e f) * Wd (ix3 e f d)

/-- The hidden units, chunk by chunk. -/
theorem sum_chunks (g : Fin 1024 → EReal) :
    ∑ f, g f = ∑ q : Fin 4, ∑ x : Fin 256, g ⟨q.val * 256 + x.val, by omega⟩ := by
  rw [← Fintype.sum_prod_type']
  refine (Fintype.sum_equiv (finProdFinEquiv (m := 4) (n := 256)) _ _ fun p => ?_).symm
  refine congrArg g (Fin.ext ?_)
  show p.1.val * 256 + p.2.val = p.2.val + 256 * p.1.val
  omega

/-! ## The kernel's -/

theorem part_apply (W1 W2 : Vec Ideal S1x2048x256 .f32) (W3 : Vec Ideal S1x256x2048 .f32) (x : Vec Ideal S256x16x128 .bf16) (r : Fin 256) (d : Fin 2048)
    (X : S32768x16x128.Idx → EReal) (Wg Wu : S16x2048x1024.Idx → EReal) (Wd : S16x1024x2048.Idx → EReal) (n : Fin 32768) (e : Fin 16) (q : Fin 4)
    (hx : ∀ h l, x (ix3 r h l) = X (ix3 n h l)) (h1 : ∀ k (f : Fin 256), W1 (ix3 0 k f) = Wg (ix3 e k ⟨q.val * 256 + f.val, by omega⟩))
    (h2 : ∀ k (f : Fin 256), W2 (ix3 0 k f) = Wu (ix3 e k ⟨q.val * 256 + f.val, by omega⟩)) (h3 : ∀ (f : Fin 256) d, W3 (ix3 0 f d) = Wd (ix3 e ⟨q.val * 256 + f.val, by omega⟩ d)) :
    part W1 W2 W3 x (ix2 r d) = ∑ f : Fin 256, term X Wg Wu Wd n e d ⟨q.val * 256 + f.val, by omega⟩ := by
  pointwise [part, k0_pay2, k0_pay7, k0_pay8, k0_pay9]
  simp only [hx, h1, h2, h3]
  rfl

variable (m : (ℓ : Loc nD τ sig) → Buf (Elt Ideal) ℓ)

/-- The token that row `r` of block `j` of tile `s` is. -/
def tok (s : Fin 32) (j : Fin 4) (r : Fin 256) : Fin 32768 := ⟨s.val * 1024 + (256 * j.val + r.val), by omega⟩

/-- The chunk's product of a used tile's block. -/
theorem prod_apply (i : grid0.Coords) (j : Fin 4) (hu : (tile i).val < (nu m 0).toNat) (r : Fin 256) (d : Fin 2048) :
    prod m 0 i j (ix2 r d) = ∑ f : Fin 256, term (V m 0 main_arg3) (V m 0 main_arg4) (V m 0 main_arg5) (V m 0 main_arg6)
      (tok (tile i) j r) (expert m 0 (tile i)) d ⟨(chunk i).val * 256 + f.val, by omega⟩ := by
  have hq : chunkW m 0 i = chunk i := if_pos hu
  have ht : tileX m 0 i = tile i := Fin.ext (show min (tile i).val ((nu m 0).toNat - 1) = (tile i).val by omega)
  unfold prod partAt
  refine part_apply _ _ _ _ r d _ _ _ _ _ _ (chunk i) (fun h l => ?_) (fun k f => ?_) (fun k f => ?_) (fun f d => ?_)
  · unfold xb
    refine congrArg (V m 0 main_arg3 : S32768x16x128.Idx → EReal) (funext fun (a : Fin 3) => Fin.ext ?_)
    have e0 := ValueKit.rect_emb_unit_val (s := S1024x16x128) ![row j, 0, 0] S256x16x128.size (hr3 j) (ix3 r h l)
    match a with
    | ⟨0, _⟩ =>
      have e1 : ((r3 (row j) (hr3 j)).emb (ix3 r h l) 0).val = 256 * j.val + r.val := e0 0
      show (tileX m 0 i).val * 1024 + ((r3 (row j) (hr3 j)).emb (ix3 r h l) 0).val = (tile i).val * 1024 + (256 * j.val + r.val)
      rw [ht, e1]
    | ⟨1, _⟩ => exact (e0 1).trans (Nat.zero_add _)
    | ⟨2, _⟩ => exact (e0 2).trans (Nat.zero_add _)
  · unfold wb1; simp only [hq]; rfl
  · unfold wb2; simp only [hq]; rfl
  · unfold wb3; simp only [hq]; rfl

/-- The point of a tile and a chunk. -/
def point (s : Fin 32) (q : Fin 4) : Fin grid0.N := ⟨4 * s.val + q.val, by rw [N_0]; omega⟩
theorem tile_point (s : Fin 32) (q : Fin 4) : tile (grid0.coords (point s q)) = s := by
  apply Fin.ext
  show ((grid0.coords _) 0).val = s.val
  rw [coord0]
  show (4 * s.val + q.val) / 4 % 32 = s.val
  omega
theorem chunk_point (s : Fin 32) (q : Fin 4) : chunk (grid0.coords (point s q)) = q := by
  apply Fin.ext
  show ((grid0.coords _) 1).val = q.val
  rw [coord1]
  show (4 * s.val + q.val) % 4 = q.val
  omega

theorem acc_first (j : Fin 4) (k : ℕ) (h : k < grid0.N) (h0 : ((grid0.coords ⟨k, h⟩) 1).val = 0) : accAfter m 0 j k h = prod m 0 (grid0.coords ⟨k, h⟩) j := by
  match k, h, h0 with
  | 0, h, h0 => rfl
  | k + 1, h, h0 => exact if_pos h0
theorem acc_next (j : Fin 4) (k : ℕ) (h : k + 1 < grid0.N) (h0 : ((grid0.coords ⟨k + 1, h⟩) 1).val ≠ 0) :
    accAfter m 0 j (k + 1) h = addf (accAfter m 0 j k (Nat.lt_of_succ_lt h)) (prod m 0 (grid0.coords ⟨k + 1, h⟩) j) := if_neg h0

/-- After a tile's last point. -/
theorem acc_last (s : Fin 32) (j : Fin 4) :
    accAfter m 0 j (lastPoint s).val (lastPoint s).isLt
      = addf (addf (addf (prod m 0 (grid0.coords (point s 0)) j) (prod m 0 (grid0.coords (point s 1)) j)) (prod m 0 (grid0.coords (point s 2)) j)) (prod m 0 (grid0.coords (point s 3)) j) := by
  have hc : ∀ q : Fin 4, ((grid0.coords (point s q)) 1).val = q.val := fun q => congrArg Fin.val (chunk_point s q)
  have h3 := acc_next m j (4 * s.val + 2) (point s 3).isLt (by rw [show ((grid0.coords (⟨4 * s.val + 2 + 1, (point s 3).isLt⟩ : Fin grid0.N)) 1).val = _ from hc 3]; decide)
  have h2 := acc_next m j (4 * s.val + 1) (point s 2).isLt (by rw [show ((grid0.coords (⟨4 * s.val + 1 + 1, (point s 2).isLt⟩ : Fin grid0.N)) 1).val = _ from hc 2]; decide)
  have h1 := acc_next m j (4 * s.val) (point s 1).isLt (by rw [show ((grid0.coords (⟨4 * s.val + 1, (point s 1).isLt⟩ : Fin grid0.N)) 1).val = _ from hc 1]; decide)
  have h0 := acc_first m j (4 * s.val) (point s 0).isLt (hc 0)
  refine h3.trans ?_
  rw [h2, h1, h0]
  rfl

/-- A live block's row of the result. -/
theorem out_live (hp : Plan m 0) (s : Fin 32) (j : Fin 4) (r : Fin 256) (h : Fin 16) (l : Fin 128) (hl : live (rws m 0 s) (row j)) :
    outAt m 0 s j r h l = ∑ f : Fin 1024, term (V m 0 main_arg3) (V m 0 main_arg4) (V m 0 main_arg5) (V m 0 main_arg6)
      (tok s j r) (expert m 0 s) ⟨h.val * 128 + l.val, by omega⟩ f := by
  have hu : s.val < (nu m 0).toNat := by
    rcases hp.2.2.2 s with h | h
    · exact h
    · exfalso; unfold live row at hl; omega
  have hP : ∀ q : Fin 4, ∀ d, prod m 0 (grid0.coords (point s q)) j (ix2 r d) = ∑ f : Fin 256, term (V m 0 main_arg3) (V m 0 main_arg4) (V m 0 main_arg5) (V m 0 main_arg6)
      (tok s j r) (expert m 0 s) d ⟨q.val * 256 + f.val, by omega⟩ := fun q d => by
    have e := prod_apply m (grid0.coords (point s q)) j (by rw [tile_point]; exact hu) r d
    simp only [tile_point, chunk_point] at e
    exact e
  unfold outAt lastR
  have e : ∀ A : FVec Ideal S256x2048 .f32, (k0_pay5 (F := Ideal) A (ix3 r h l) : EReal) = A (ix2 r (⟨h.val * 128 + l.val, by omega⟩ : Fin 2048)) := fun A => by pointwise [k0_pay5]
  rw [if_pos hl, acc_last, sum_chunks, Fin.sum_univ_four, e]
  show ((prod m 0 (grid0.coords (point s 0)) j _ + prod m 0 (grid0.coords (point s 1)) j _) + prod m 0 (grid0.coords (point s 2)) j _) + prod m 0 (grid0.coords (point s 3)) j _ = _
  rw [hP 0, hP 1, hP 2, hP 3]

theorem out_dead (s : Fin 32) (j : Fin 4) (r : Fin 256) (h : Fin 16) (l : Fin 128) (hl : ¬live (rws m 0 s) (row j)) : outAt m 0 s j r h l = 0 := by
  unfold outAt lastR
  rw [if_neg hl]
  pointwise [k0_pay1]

/-! ## The reference's -/

/-- The gather of the first two weights: a tile's expert's. -/
theorem gather_w (y : S16x2048x1024.Idx → EReal) (q : Cert.ExpertsReferenceIdeal.S32x1.Idx → BitVec 32) (s : Fin 32) (k : Fin 2048) (f : Fin 1024) (e : Fin 16)
    (he : (q (ix2 s (0 : Fin 1))).toNat = e.val) :
    Host.gather Cert.ExpertsReferenceIdeal.gather_S16x2048x1024_S32x1_S32x2048x1024_12_0_n_n_0_1_120481024 y q (ix3 s k f) = y (ix3 e k f) := by
  set d := Cert.ExpertsReferenceIdeal.gather_S16x2048x1024_S32x1_S32x2048x1024_12_0_n_n_0_1_120481024 with hd
  unfold Host.gather
  refine congrArg y (funext fun (a : Fin 3) => Fin.ext ?_)
  show d.start _ q a + d.batchCoord _ a + d.offCoord _ a = _
  rw [GatherDims.batchCoord_eq_zero _ _ _ List.not_mem_nil]
  obtain rfl | rfl | rfl : a = 0 ∨ a = 1 ∨ a = 2 := by revert a; decide
  · rw [GatherDims.offCoord_eq_zero _ _ _ (fun h => ((GatherDims.mem_sKept _ _).mp h).1 (List.mem_singleton.mpr rfl))]
    unfold GatherDims.start
    rw [dif_pos (show (0 : Fin 3) ∈ d.startIndexMap from List.mem_singleton.mpr rfl)]
    have hsi : d.siIdx (ix3 s k f) ⟨List.idxOf (0 : Fin 3) d.startIndexMap, List.idxOf_lt_length_iff.2 (List.mem_singleton.mpr rfl)⟩ = ix2 s (0 : Fin 1) := by
      funext b; refine Fin.ext ?_
      match b with
      | ⟨0, _⟩ => rfl
      | ⟨1, _⟩ => rfl
    show min (q (d.siIdx _ _)).toInt.toNat (16 - 1) + 0 + 0 = e.val
    erw [hsi]
    have : (q (ix2 s (0 : Fin 1))).toInt.toNat = (q (ix2 s (0 : Fin 1))).toNat := by
      simp only [BitVec.toInt]; omega
    omega
  · unfold GatherDims.start
    rw [dif_neg (show (1 : Fin 3) ∉ d.startIndexMap from List.not_mem_cons_of_ne_of_not_mem (by decide) List.not_mem_nil)]
    unfold GatherDims.offCoord
    rw [dif_pos (show (1 : Fin 3) ∈ d.sKept from (GatherDims.mem_sKept _ _).mpr ⟨by decide, by decide⟩)]
    simp only [Nat.zero_add]
    rfl
  · unfold GatherDims.start
    rw [dif_neg (show (2 : Fin 3) ∉ d.startIndexMap from List.not_mem_cons_of_ne_of_not_mem (by decide) List.not_mem_nil)]
    unfold GatherDims.offCoord
    rw [dif_pos (show (2 : Fin 3) ∈ d.sKept from (GatherDims.mem_sKept _ _).mpr ⟨by decide, by decide⟩)]
    simp only [Nat.zero_add]
    rfl

/-- The gather of the last weights: a tile's expert's. -/
theorem gather_d (y : S16x1024x2048.Idx → EReal) (q : Cert.ExpertsReferenceIdeal.S32x1.Idx → BitVec 32) (s : Fin 32) (k : Fin 1024) (f : Fin 2048) (e : Fin 16)
    (he : (q (ix2 s (0 : Fin 1))).toNat = e.val) :
    Host.gather Cert.ExpertsReferenceIdeal.gather_S16x1024x2048_S32x1_S32x1024x2048_12_0_n_n_0_1_110242048 y q (ix3 s k f) = y (ix3 e k f) := by
  set d := Cert.ExpertsReferenceIdeal.gather_S16x1024x2048_S32x1_S32x1024x2048_12_0_n_n_0_1_110242048 with hd
  unfold Host.gather
  refine congrArg y (funext fun (a : Fin 3) => Fin.ext ?_)
  show d.start _ q a + d.batchCoord _ a + d.offCoord _ a = _
  rw [GatherDims.batchCoord_eq_zero _ _ _ List.not_mem_nil]
  obtain rfl | rfl | rfl : a = 0 ∨ a = 1 ∨ a = 2 := by revert a; decide
  · rw [GatherDims.offCoord_eq_zero _ _ _ (fun h => ((GatherDims.mem_sKept _ _).mp h).1 (List.mem_singleton.mpr rfl))]
    unfold GatherDims.start
    rw [dif_pos (show (0 : Fin 3) ∈ d.startIndexMap from List.mem_singleton.mpr rfl)]
    have hsi : d.siIdx (ix3 s k f) ⟨List.idxOf (0 : Fin 3) d.startIndexMap, List.idxOf_lt_length_iff.2 (List.mem_singleton.mpr rfl)⟩ = ix2 s (0 : Fin 1) := by
      funext b; refine Fin.ext ?_
      match b with
      | ⟨0, _⟩ => rfl
      | ⟨1, _⟩ => rfl
    show min (q (d.siIdx _ _)).toInt.toNat (16 - 1) + 0 + 0 = e.val
    erw [hsi]
    have : (q (ix2 s (0 : Fin 1))).toInt.toNat = (q (ix2 s (0 : Fin 1))).toNat := by
      simp only [BitVec.toInt]; omega
    omega
  · unfold GatherDims.start
    rw [dif_neg (show (1 : Fin 3) ∉ d.startIndexMap from List.not_mem_cons_of_ne_of_not_mem (by decide) List.not_mem_nil)]
    unfold GatherDims.offCoord
    rw [dif_pos (show (1 : Fin 3) ∈ d.sKept from (GatherDims.mem_sKept _ _).mpr ⟨by decide, by decide⟩)]
    simp only [Nat.zero_add]
    rfl
  · unfold GatherDims.start
    rw [dif_neg (show (2 : Fin 3) ∉ d.startIndexMap from List.not_mem_cons_of_ne_of_not_mem (by decide) List.not_mem_nil)]
    unfold GatherDims.offCoord
    rw [dif_pos (show (2 : Fin 3) ∈ d.sKept from (GatherDims.mem_sKept _ _).mpr ⟨by decide, by decide⟩)]
    simp only [Nat.zero_add]
    rfl

/-- A tile's expert as the reference reads it: no number of an expert is negative, so nothing is wrapped. -/
theorem index_word (A0 : S32.Idx → BitVec 32) (s : Fin 32) (h : (A0 (ix1 s)).toNat < 16) (w : BitVec 32) :
    Scalar.select (IntOp.cmpi .slt (A0 (ix1 s)) 0#32) w (A0 (ix1 s)) = A0 (ix1 s) := by
  have hsl : IntOp.cmpi .slt (A0 (ix1 s)) 0#32 = 0#1 := by
    simp only [IntOp.cmpi, BitVec.slt, BitVec.toInt, BitVec.toNat_ofNat]
    rw [decide_eq_false (by omega)]; rfl
  rw [hsl]; unfold Scalar.select; rw [if_neg (by decide)]

/-- The reference's test of a block of rows. -/
theorem live_word (v : BitVec 32) (j : Fin 4) : IntOp.cmpi .slt (IntOp.muli (BitVec.ofNat 32 j.val) 256#32) v = 1#1 ↔ live v (row j) := by
  have e : (IntOp.muli (BitVec.ofNat 32 j.val) 256#32).toInt = (256 * j.val : ℕ) := by revert j; decide
  have b (p : Bool) : (BitVec.ofBool p = 1#1) ↔ p = true := by cases p <;> decide
  simp only [IntOp.cmpi, b, BitVec.slt, e, decide_eq_true_eq]

open Classical in
theorem select_live (v : BitVec 32) (j : Fin 4) (a a' : EReal) (h : a = a') :
    Scalar.select (IntOp.cmpi .slt (IntOp.muli (BitVec.ofNat 32 j.val) 256#32) v) a (0 : EReal) = if live v (row j) then a' else 0 := by
  show (if _ = 1#1 then a else 0) = _
  by_cases hl : live v (row j)
  · rw [if_pos hl, if_pos ((live_word v j).mpr hl), h]
  · rw [if_neg hl, if_neg (fun hh => hl ((live_word v j).mp hh))]

variable (A0 A1 : S32.Idx → BitVec 32) (A3 : S32768x16x128.Idx → EReal) (A4 A5 : S16x2048x1024.Idx → EReal) (A6 : S16x1024x2048.Idx → EReal)

theorem v7_apply (s : Fin 32) (h : (A0 (ix1 s)).toNat < 16) : val_main_v7 (F := Ideal) A0 (ix2 s (0 : Fin 1)) = A0 (ix1 s) := by
  refine Eq.trans ?_ (index_word A0 s h (IntOp.addi (A0 (ix1 s)) 16#32))
  pointwise [val_main_v7, val_main_v6, val_main_v5, val_main_v4, val_main_v3, val_main_v2, val_main_c, val_main_c_0]
theorem v15_apply (s : Fin 32) (h : (A0 (ix1 s)).toNat < 16) : val_main_v15 (F := Ideal) A0 (ix2 s (0 : Fin 1)) = A0 (ix1 s) := v7_apply A0 s h
theorem v25_apply (s : Fin 32) (h : (A0 (ix1 s)).toNat < 16) : val_main_v25 (F := Ideal) A0 (ix2 s (0 : Fin 1)) = A0 (ix1 s) := v7_apply A0 s h

open Classical in
/-- The reference's result, token by token. -/
theorem ref_apply (n : Fin 32768) (h : Fin 16) (l : Fin 128) (e : Fin 16) (he : (A0 (ix1 (tileOf n))).toNat = e.val) :
    val_main_v40 (F := Ideal) A0 A1 A3 A4 A5 A6 (ix3 n h l)
      = if live (A1 (ix1 (tileOf n))) (row (blockOf n)) then ∑ f : Fin 1024, term A3 A4 A5 A6 n e ⟨h.val * 128 + l.val, by omega⟩ f else (0 : EReal) := by
  have hlt : (A0 (ix1 (tileOf n))).toNat < 16 := he ▸ e.isLt
  have g8 : ∀ k f, val_main_v8 (F := Ideal) A0 A4 (ix3 (tileOf n) k f) = A4 (ix3 e k f) := fun k f => gather_w A4 _ (tileOf n) k f e (by rw [v7_apply A0 _ hlt]; exact he)
  have g16 : ∀ k f, val_main_v16 (F := Ideal) A0 A5 (ix3 (tileOf n) k f) = A5 (ix3 e k f) := fun k f => gather_w A5 _ (tileOf n) k f e (by rw [v15_apply A0 _ hlt]; exact he)
  have g26 : ∀ k f, val_main_v26 (F := Ideal) A0 A6 (ix3 (tileOf n) k f) = A6 (ix3 e k f) := fun k f => gather_d A6 _ (tileOf n) k f e (by rw [v25_apply A0 _ hlt]; exact he)
  have hj : n.val / 256 % 4 = (blockOf n).val := by show _ = n.val % 1024 / 256; omega
  unfold tileOf at g8 g16 g26
  pointwise [val_main_v40, val_main_v39, val_main_v38, val_main_v37, val_main_v36, val_main_v35, val_main_v34, val_main_v33, val_main_v32, val_main_v31, val_main_v30, val_main_v29, val_main_v28, val_main_v27, val_main_v19, val_main_v18,
    val_main_v9, val_main_v17, val_main_v1, val_main_v0, val_main_call0_v5, val_main_call0_v4, val_main_call0_v3, val_main_call0_v2, val_main_call0_v1, val_main_call0_v0, val_main_call0_cst, val_main_call0_cst_0,
    val_main_call1_v0, val_main_call1_v1, val_main_call1_v2, val_main_c_5, val_main_cst, id]
  simp only [g8, g16, g26, hj]
  exact select_live (A1 (ix1 (tileOf n))) (blockOf n) _ _ (by simp only [term, proj, zero_sub])

/-! ## The two -/

variable (m : (ℓ : Loc nD τ sig) → Buf (Elt Ideal) ℓ)

theorem value (hp : Plan m 0) :
    outV m 0 = val_main_v40 (F := Ideal) (V m 0 main_arg0) (V m 0 main_arg1) (V m 0 main_arg3) (V m 0 main_arg4) (V m 0 main_arg5) (V m 0 main_arg6) := by
  funext z
  obtain ⟨n, h, l, rfl⟩ : ∃ (n : Fin 32768) (h : Fin 16) (l : Fin 128), z = ix3 n h l := ⟨z 0, z 1, z 2, funext fun (a : Fin 3) => by
    match a with
    | ⟨0, _⟩ => rfl
    | ⟨1, _⟩ => rfl
    | ⟨2, _⟩ => rfl⟩
  have htok : tok (tileOf n) (blockOf n) (rowOf n) = n := by
    apply Fin.ext
    show n.val / 1024 * 1024 + (256 * (n.val % 1024 / 256) + n.val % 256) = n.val
    omega
  refine Eq.trans ?_ (ref_apply _ _ _ _ _ _ n h l (expert m 0 (tileOf n)) (Nat.mod_eq_of_lt (hp.1 (tileOf n))).symm).symm
  show outAt m 0 (tileOf n) (blockOf n) (rowOf n) h l = if live (rws m 0 (tileOf n)) (row (blockOf n)) then _ else (0 : EReal)
  by_cases hl : live (rws m 0 (tileOf n)) (row (blockOf n))
  · rw [out_live m hp _ _ _ _ _ hl, if_pos hl, htok]
  · rw [out_dead m _ _ _ _ _ hl, if_neg hl]

end Cert.ExpertsValue

end
-- ==== Proof.ExpertsClaim.lean ====
/-
  The experts' claims: the precondition's plan, the frames and the value.
-/
module

public import proofs.«01_k».proof.Proof.ExpertsVal
public import proofs.«01_k».proof.Proof.Gen.Experts
public import proofs.«01_k».proof.Proof.Gen.Pre_plan_tables
public import Idealize.ShloMosaic.Lib.Claim

@[expose] public section

set_option maxRecDepth 16384

noncomputable section

namespace Cert.ExpertsClaim

open Idealize.ShloMosaic Idealize.ShloMosaic.TcCoe Idealize.SL.Sem
open Cert.ExpertsIdeal.Hand (Plan V te rws nu outV)
open Cert.ExpertsIdeal (S32 S1 S32768x16x128 S16x2048x1024 S16x1024x2048)

variable {F : FTy → Type} [FloatOps F]

/-- What the precondition says of the tables' words. -/
theorem plan_of_pre (A0 A1 : S32.Idx → BitVec 32) (A2 : S1.Idx → BitVec 32) (A3 : S32768x16x128.Idx → F .bf16) (A4 A5 : S16x2048x1024.Idx → F .f32) (A6 : S16x1024x2048.Idx → F .f32)
    (h : Cert.Pre_plan_tables.fn (F := F) A0 A1 A2 A3 A4 A5 A6 = fun _ => 1#1) :
    (∀ s, (A0 (ix1 s)).toNat < 16) ∧ 1 ≤ (A2 (ix1 0)).toNat ∧ (A2 (ix1 0)).toNat ≤ 32 ∧ ∀ s : Fin 32, s.val < (A2 (ix1 0)).toNat ∨ (A1 (ix1 s)).toInt ≤ 0 := by
  have both (p q : Bool) : IntOp.andi (BitVec.ofBool p) (BitVec.ofBool q) = BitVec.ofBool (p && q) := by
    cases p <;> cases q <;> decide
  have either (p q : Bool) : IntOp.ori (BitVec.ofBool p) (BitVec.ofBool q) = BitVec.ofBool (p || q) := by
    cases p <;> cases q <;> decide
  have holds (p : Bool) : (BitVec.ofBool p = 1#1) ↔ p = true := by cases p <;> decide
  have key : ∀ s : Fin 32, ((A0 (ix1 s)).toNat < 16 ∧ 1 ≤ (A2 (ix1 0)).toNat ∧ (A2 (ix1 0)).toNat ≤ 32) ∧ (s.val < (A2 (ix1 0)).toNat ∨ (A1 (ix1 s)).toInt ≤ 0) := by
    intro s
    have e := congrFun h (ix1 s)
    simp only [Cert.Pre_plan_tables.fn, Cert.Pre_plan_tables.fn_part1, andi, ori, cmpi, broadcastInDim, constantI, iotaInDim, IntOp.cmpi, both, either, holds, Bool.and_eq_true, Bool.or_eq_true,
      Cert.ExpertsIdeal.Hand.one_at A2] at e
    obtain ⟨⟨⟨⟨a, b⟩, c⟩, d⟩, f⟩ := e
    have hs : (BitVec.ofNat 32 s.val).toInt = s.val := (Cert.ExpertsIdeal.Hand.small s.val s.isLt).1
    simp only [BitVec.sle, BitVec.slt, decide_eq_true_eq] at a b c d f
    have f' : (BitVec.ofNat 32 s.val).toInt < (A2 (ix1 0)).toInt ∨ (A1 (ix1 s)).toInt ≤ (0#32).toInt := f
    rw [hs] at f'
    simp only [BitVec.toInt, BitVec.toNat_ofNat] at a b c d f'
    simp only [BitVec.toInt]
    omega
  exact ⟨fun s => (key s).1.1, (key 0).1.2.1, (key 0).1.2.2, fun s => (key s).2⟩

/-! ## The frames -/

theorem body_eq : @Cert.Experts.cc0_expert_mlp Bits _ _ = @Cert.ExpertsIdeal.cc0_expert_mlp Bits _ _ := rfl

/-- The two prints of the kernel run one body. -/
theorem defs₀_eq : @Cert.Experts.defs₀ Bits _ _ = @Cert.ExpertsIdeal.defs₀ Bits _ _ := by
  unfold Cert.Experts.defs₀ Cert.ExpertsIdeal.defs₀
  refine congrArg Defs.onTc ?_
  funext l x
  match l, x with
  | 0, (t, s) =>
    dsimp only
    rw [body_eq]
    rfl
  | ⟨_ + 1, h⟩, _ => exact absurd h (Nat.not_lt.2 (Nat.le_add_left _ _))

theorem defs_eq : @Cert.Experts.defs Bits _ _ = @Cert.ExpertsIdeal.defs Bits _ _ := congrArg (Pipeline.defs Cert.ExpertsIdeal.pcfgs) defs₀_eq

theorem frame_kernel : Cert.quiescent_Experts := fun m ρ hp => by
  rw [defs_eq]
  exact (θ_run Cert.ExpertsIdeal.defs _ _).mono (fun _ h => ⟨fun c => (h.1 c).2, h.2⟩)
    (Cert.ExpertsIdeal.Hand.run_main (F := Bits) m ρ (plan_of_pre _ _ _ _ _ _ _ (hp 0)))

theorem frame_kernelIdeal : Cert.quiescent_ExpertsIdeal := fun m ρ hp =>
  (θ_run Cert.ExpertsIdeal.defs _ _).mono (fun _ h => ⟨fun c => (h.1 c).2, h.2⟩)
    (Cert.ExpertsIdeal.Hand.run_main (F := Ideal) m ρ (plan_of_pre _ _ _ _ _ _ _ (hp 0)))

/-- The reference's run leaves its arguments as they were and every counter at zero. -/
theorem frame_reference [Cert.ExpertsReferenceIdeal.Facts] : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-! ## The value -/

theorem algebraic : Cert.algebraic_ExpertsIdeal_ExpertsReferenceIdeal := by
  intro m g m' g' hp hm
  have hP : Plan m 0 := plan_of_pre _ _ _ _ _ _ _ (hp 0)
  refine ⟨fun c => outV m c, ?_, ?_⟩
  · exact (θ_run Cert.ExpertsIdeal.defs _ _).mono (fun _ h => h.1) (Cert.ExpertsIdeal.Hand.run_main (F := Ideal) m g hP)
  · refine (θ_run Cert.ExpertsReferenceIdeal.defs _ _).mono (fun r h c => ?_) (Cert.ExpertsReferenceIdeal.Value.run (F := Ideal) m' g')
    obtain rfl : c = 0 := Subsingleton.elim c 0
    obtain ⟨a0, a1, a2, a3, a4, a5, a6⟩ := hm 0
    refine ⟨(h 0).1.trans ?_, (h 0).2⟩
    rw [Cert.ExpertsReferenceIdeal.Read.val_main_v40_eq, a0, a1, a3, a4, a5, a6]
    exact (Cert.ExpertsValue.value m hP).symm

end Cert.ExpertsClaim

end
-- ==== Proof.AttVal.lean ====
module

public import proofs.«01_k».proof.Defs
public import proofs.«01_k».proof.Proof.Gen.Attention
public import proofs.«01_k».proof.Proof.Gen.AttentionIdeal.Frame
public import proofs.«01_k».proof.Proof.Gen.Pre_finite_rows
public import proofs.«01_k».proof.Proof.Gen.AttentionReferenceIdeal.Run
public import proofs.«01_k».proof.Proof.Gen.AttentionReferenceIdeal.Read
public import Idealize.ShloMosaic.Lib.Pipeline.ValueKit
public import Idealize.ShloMosaic.Lib.Pointwise

@[expose] public section

set_option maxRecDepth 16384

noncomputable section

namespace Cert.AttValue

open Cert.AttentionIdeal Cert.AttentionIdeal.Gen
open Idealize.ShloMosaic Idealize.ShloMosaic.TcCoe Idealize.SL.Sem
open Cert.AttentionReferenceIdeal.Read

theorem trips1 : ∀ i : grid1.Coords, (k1_t1_loop i).trips = (i 1).val := by decide +kernel
theorem trips2 : ∀ i : grid1.Coords, (k1_t2_loop i).trips = 0 := by decide +kernel

/-- The scratch buffer's whole rectangle. -/
abbrev accRect : Rect S128x512 := Rect.unit (s := S128x512) ![0, 0] S128x512.size inb_S128x512_S128x512_0_0

section Loop

variable (c : Dev nD) (i : grid1.Coords) (arg2 : Memref sig .tc .vmem S1x512x256 .bf16) (harg2 : arg2.IsWhole) (arg3 : Memref sig .tc .vmem S1x8192x256 .bf16) (harg3 : arg3.IsWhole)
  (arg4 : Memref sig .tc .vmem S8192x128 .bf16) (harg4 : arg4.IsWhole) (arg5 : Memref sig .tc .vmem S512x128 .bf16) (harg5 : arg5.IsWhole)
  (arg6 : Memref sig .tc .vmem S128x512 .f32) (harg6 : arg6.IsWhole)
  (x0 : Vec Ideal S1x512x256 .bf16) (x1 : Vec Ideal S1x8192x256 .bf16) (x2 : Vec Ideal S8192x128 .bf16)

/-- The keys of trip k of the loop. -/
abbrev keys (k : Fin (k1_t1_loop i).trips) : Vec Ideal S1x512x256 .bf16 :=
  View.ld x1 (Rect.unit (s := S1x8192x256) (k1_off1 i k) S1x512x256.size (k1_off1_inb i k))
/-- The values of trip k of the loop. -/
abbrev vals (k : Fin (k1_t1_loop i).trips) : Vec Ideal S512x128 .bf16 :=
  View.ld x2 (Rect.unit (s := S8192x128) (k1_off2 i k) S512x128.size (k1_off2_inb i k))

theorem tripR_eq (k : Fin (k1_t1_loop i).trips) (acc : FVec Ideal S1x512 .f32 × FVec Ideal S1x512 .f32) (f : BufTy.Contents (Elt Ideal) arg6.view.ty) :
    tripR_k1_t1 (F := Ideal) Variants.none c none i arg2 harg2 arg3 harg3 arg4 harg4 arg5 harg5 arg6 harg6 x0 (harg3.unread x1) (harg4.unread x2) k acc f
      = (k1_pay8 x0 acc.1 (keys i x1 k), k1_pay11 x0 acc.1 acc.2 (keys i x1 k)) := by
  unfold tripR_k1_t1
  unfold trip_k1_t1
  dsimp only
  simp only [View.readAt_eq_ld, Memref.IsWhole.read_unread]

theorem tripL_eq (k : Fin (k1_t1_loop i).trips) (acc : FVec Ideal S1x512 .f32 × FVec Ideal S1x512 .f32) (f : BufTy.Contents (Elt Ideal) arg6.view.ty) :
    tripL_k1_t1 (F := Ideal) Variants.none c none i arg2 harg2 arg3 harg3 arg4 harg4 arg5 harg5 arg6 harg6 x0 (harg3.unread x1) (harg4.unread x2) k acc f
      = [⟨accRect, k1_pay12 x0 acc.1 (keys i x1 k) (vals i x2 k) (View.ld (arg6.view.read (Elt Ideal) f) accRect)⟩] := by
  unfold tripL_k1_t1
  unfold trip_k1_t1
  dsimp only
  simp only [View.readAt_eq_ld, Memref.IsWhole.read_unread]

/-- The state before trip k, from an empty accumulator. -/
abbrev st (k : ℕ) :=
  st_k1_t1 (F := Ideal) Variants.none c none i arg2 harg2 arg3 harg3 arg4 harg4 arg5 harg5 arg6 harg6 x0 (harg3.unread x1) (harg4.unread x2)
    (arg6.view.writes (Elt Ideal) arg6.view.junk [(⟨accRect, k1_pay4 (F := Ideal)⟩ : View.Piece (Elt Ideal) S128x512 .f32)]) (k1_pay5, k1_pay6) k

/-- The accumulator before trip k. -/
def accAt (k : ℕ) : FVec Ideal S128x512 .f32 :=
  View.canon ((st c i arg2 harg2 arg3 harg3 arg4 harg4 arg5 harg5 arg6 harg6 x0 x1 x2 k).2 ++ [(⟨accRect, k1_pay4 (F := Ideal)⟩ : View.Piece (Elt Ideal) S128x512 .f32)])

theorem accAt_zero : accAt c i arg2 harg2 arg3 harg3 arg4 harg4 arg5 harg5 arg6 harg6 x0 x1 x2 0 = k1_pay4 :=
  View.canon_cons_unit_lit' _ _ [] (by decide)

theorem st_succ (k : Fin (k1_t1_loop i).trips) :
    (st c i arg2 harg2 arg3 harg3 arg4 harg4 arg5 harg5 arg6 harg6 x0 x1 x2 (k.val + 1)).1
      = (k1_pay8 x0 (st c i arg2 harg2 arg3 harg3 arg4 harg4 arg5 harg5 arg6 harg6 x0 x1 x2 k.val).1.1 (keys i x1 k),
        k1_pay11 x0 (st c i arg2 harg2 arg3 harg3 arg4 harg4 arg5 harg5 arg6 harg6 x0 x1 x2 k.val).1.1
          (st c i arg2 harg2 arg3 harg3 arg4 harg4 arg5 harg5 arg6 harg6 x0 x1 x2 k.val).1.2 (keys i x1 k)) := by
  unfold st
  rw [st_k1_t1_succ]
  exact tripR_eq ..

theorem accAt_succ (k : Fin (k1_t1_loop i).trips) :
    accAt c i arg2 harg2 arg3 harg3 arg4 harg4 arg5 harg5 arg6 harg6 x0 x1 x2 (k.val + 1)
      = k1_pay12 x0 (st c i arg2 harg2 arg3 harg3 arg4 harg4 arg5 harg5 arg6 harg6 x0 x1 x2 k.val).1.1 (keys i x1 k) (vals i x2 k)
          (accAt c i arg2 harg2 arg3 harg3 arg4 harg4 arg5 harg5 arg6 harg6 x0 x1 x2 k.val) := by
  unfold accAt st
  rw [st_k1_t1_succ]
  dsimp only
  rw [tripL_eq, ← View.writes_append, View.read_writes_junk_eq_canon, List.cons_append, List.cons_append]
  refine (View.canon_cons_unit_lit' _ _ _ (by decide)).trans ?_
  exact congrArg (k1_pay12 _ _ _ _) (View.ld_unit_lit' _ _ (by decide))

end Loop

variable (V : (c : Dev nD) → (b : Ref sig .tc) → Buf (Elt Ideal) ((c : Thread nD τ).loc b))

/-- The keys of the last, masked step. -/
abbrev lastKeys (i : grid1.Coords) (x1 : Vec Ideal S1x8192x256 .bf16) : Vec Ideal S1x512x256 .bf16 :=
  View.ld x1 (Rect.unit (s := S1x8192x256) (k1_off5 i) S1x512x256.size (k1_off5_inb i))
abbrev lastVals (i : grid1.Coords) (x2 : Vec Ideal S8192x128 .bf16) : Vec Ideal S512x128 .bf16 :=
  View.ld x2 (Rect.unit (s := S8192x128) (k1_off6 i) S512x128.size (k1_off6_inb i))

/-- The running maximum and sum before trip k at a grid point. -/
def ml (c : Dev nD) (t : Fin grid1.N) (k : ℕ) : FVec Ideal S1x512 .f32 × FVec Ideal S1x512 .f32 :=
  (st c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t) k).1
/-- The accumulator before trip k at a grid point. -/
def av (c : Dev nD) (t : Fin grid1.N) (k : ℕ) : FVec Ideal S128x512 .f32 :=
  accAt c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t) k

theorem readCov_whole (L : List (View.Piece (Elt Ideal) S128x512 .f32)) :
    (View.whole cc1_scratch0).readCov L (Rect.unit (s := S128x512) ![0, 0] ![128, 512] inb_S128x512_S128x512_0_0).toLoadRect = View.canon L := by
  rw [View.readCov_eq_canon']
  exact View.ld_unit_lit' _ (View.canon L) (by decide)

theorem outs_eq (c : Dev nD) (t : Fin grid1.N) : outsAt1 V c t
    = k1_pay2 (k1_pay22 (iblk1 V c 0 t) (ml V c t (k1_t1_loop (grid1.coords t)).trips).1 (lastKeys (grid1.coords t) (iblk1 V c 1 t)))
        (k1_pay23 (iblk1 V c 0 t) (ml V c t (k1_t1_loop (grid1.coords t)).trips).1 (ml V c t (k1_t1_loop (grid1.coords t)).trips).2 (lastKeys (grid1.coords t) (iblk1 V c 1 t)))
        (k1_pay1 (lastVals (grid1.coords t) (iblk1 V c 2 t)) (k1_pay21 (iblk1 V c 0 t) (ml V c t (k1_t1_loop (grid1.coords t)).trips).1 (lastKeys (grid1.coords t) (iblk1 V c 1 t)))
          (k1_pay22 (iblk1 V c 0 t) (ml V c t (k1_t1_loop (grid1.coords t)).trips).1 (lastKeys (grid1.coords t) (iblk1 V c 1 t)))
          (av V c t (k1_t1_loop (grid1.coords t)).trips)) := by
  unfold outsAt1
  frame_out
  have h2 : Scf.trips
                  (Scalar.addi (0#32)
                    (Scalar.muli (Scalar.divsi (Scalar.subi (BitVec.ofNat 32 (grid1.coords t 1).val) 0#32) 1#32) 1#32))
                  (Scalar.addi (0#32) (Scalar.subi (BitVec.ofNat 32 (grid1.coords t 1).val) 0#32)) 1#32 = 0 := trips2 (grid1.coords t)
  rw [h2]
  simp only [st_k1_t2, List.nil_append]
  unfold ml av accAt
  simp only [readCov_whole]

end Cert.AttValue
end
-- ==== Proof.AttAug.lean ====
module

public import proofs.«01_k».proof.Defs
public import proofs.«01_k».proof.Proof.Gen.Attention
public import proofs.«01_k».proof.Proof.Gen.AttentionIdeal.Frame
public import Idealize.ShloMosaic.Lib.Pipeline.ValueKit
public import Idealize.ShloMosaic.Lib.Pointwise
public import proofs.«01_k».proof.Proof.AttRef

@[expose] public section

set_option maxRecDepth 16384

noncomputable section

namespace Cert.AttAug

open Cert.AttentionIdeal Cert.AttentionIdeal.Gen
open Idealize.ShloMosaic Idealize.ShloMosaic.TcCoe Idealize.SL.Sem
open Cert.AttRef

variable (m : (ℓ : Loc nD τ sig) → Buf (Elt Ideal) ℓ) (ρ : Dev nD → PrngReg) (c : Dev nD)

/-! ## The selection arrays -/

theorem one_bits : Ideal.ofBits .f32 0x3F800000#32 = 1 := by
  simp [Ideal.ofBits, Ideal.ieee]
  rw [← EReal.coe_mul]
  norm_num
theorem minus_bits : Ideal.ofBits .f32 0xBF800000#32 = -1 := by
  simp [Ideal.ofBits, Ideal.ieee]
  rw [← EReal.coe_mul]
  norm_num
theorem zero_bits : Ideal.ofBits .f32 0x00000000#32 = 0 := by simp [Ideal.ofBits, Ideal.ieee]

theorem slt_iff (x n : ℕ) (hx : x < 8192) (hn : n < 8192) : IntOp.cmpi .slt (BitVec.ofNat 32 x) (BitVec.ofNat 32 n) = BitVec.ofBool (decide (x < n)) := by
  show BitVec.ofBool ((BitVec.ofNat 32 x).slt (BitVec.ofNat 32 n)) = _
  rw [BitVec.slt_eq_decide, BitVec.toInt_eq_toNat_of_lt, BitVec.toInt_eq_toNat_of_lt] <;> simp only [BitVec.toNat_ofNat]
  · rw [Nat.mod_eq_of_lt (by omega), Nat.mod_eq_of_lt (by omega)]
    simp
  all_goals omega
theorem sge_iff (x n : ℕ) (hx : x < 8192) (hn : n < 8192) : IntOp.cmpi .sge (BitVec.ofNat 32 x) (BitVec.ofNat 32 n) = BitVec.ofBool (decide (n ≤ x)) := by
  show BitVec.ofBool ((BitVec.ofNat 32 n).sle (BitVec.ofNat 32 x)) = _
  rw [BitVec.sle_eq_decide, BitVec.toInt_eq_toNat_of_lt, BitVec.toInt_eq_toNat_of_lt] <;> simp only [BitVec.toNat_ofNat]
  · rw [Nat.mod_eq_of_lt (by omega), Nat.mod_eq_of_lt (by omega)]
    simp
  all_goals omega
theorem eq_iff (x n : ℕ) (hx : x < 4294967296) (hn : n < 4294967296) : IntOp.cmpi .eq (BitVec.ofNat 32 x) (BitVec.ofNat 32 n) = BitVec.ofBool (decide (x = n)) := by
  show BitVec.ofBool (BitVec.ofNat 32 x == BitVec.ofNat 32 n) = _
  congr 1
  rw [Bool.eq_iff_iff, beq_iff_eq, decide_eq_true_iff]
  constructor
  · intro h
    have h' := congrArg BitVec.toNat h
    simpa only [BitVec.toNat_ofNat, Nat.mod_eq_of_lt hx, Nat.mod_eq_of_lt hn] using h'
  · rintro rfl; rfl

theorem select_and (p q : Prop) [Decidable p] [Decidable q] (x y : EReal) :
    Scalar.select (IntOp.andi (BitVec.ofBool (decide p)) (BitVec.ofBool (decide q))) x y = if p ∧ q then x else y := by
  by_cases hp : p <;> by_cases hq : q <;> simp [hp, hq] <;> rfl

theorem and_bits (p q : Prop) [Decidable p] [Decidable q] : IntOp.andi (BitVec.ofBool (decide p)) (BitVec.ofBool (decide q)) = BitVec.ofBool (decide (p ∧ q)) := by
  by_cases hp : p <;> by_cases hq : q <;> simp [hp, hq] <;> rfl
theorem select_zero (b : BitVec 1) (x y : EReal) : Scalar.select (IntOp.andi (BitVec.ofBool false) b) x y = y := by
  have e : ∀ b : BitVec 1, IntOp.andi (BitVec.ofBool false) b = 0#1 := by decide
  rw [e]; rfl
theorem sub_bits (x : ℕ) (h : 3 ≤ x) : BitVec.ofNat 32 x - BitVec.ofNat 32 3 = BitVec.ofNat 32 (x - 3) := by
  obtain ⟨y, rfl⟩ := Nat.exists_eq_add_of_le' h
  rw [BitVec.ofNat_add, Nat.add_sub_cancel, BitVec.add_sub_cancel]

theorem selq_val (h : Fin 8) (r : Fin 384) (l : Fin 128) :
    V9 m ρ c main_v38 (ix3 h r l) = (if l.val < 3 ∧ r.val = l.val * 128 + 16 + h.val then 1 else 0 : EReal) := by
  dsimp only [V9, W9, W8, W7, W6, W5, W4, W3, W2, W1, hostOps0, hostOps0_1, hostOps0_2, hostOps0_3, hostOps0_4, hostOps0_5, hostOps0_6, hostOps0_7, hostOps0_8]
  after_results_simp
  show Scalar.select (IntOp.andi (IntOp.cmpi .slt (BitVec.ofNat 32 l.val) (BitVec.ofNat 32 3)) (IntOp.cmpi .eq (BitVec.ofNat 32 r.val)
    (BitVec.ofNat 32 l.val * BitVec.ofNat 32 128 + BitVec.ofNat 32 16 + BitVec.ofNat 32 h.val))) (Ideal.ofBits .f32 0x3F800000#32) (Ideal.ofBits .f32 0x00000000#32) = _
  rw [← BitVec.ofNat_mul, ← BitVec.ofNat_add, ← BitVec.ofNat_add, slt_iff _ _ (by omega) (by omega), eq_iff _ _ (by omega) (by omega), select_and, one_bits, zero_bits]

theorem selk_val (h : Fin 8) (r : Fin 384) (l : Fin 128) :
    V9 m ρ c main_v39 (ix3 h r l) = (if (3 ≤ l.val ∧ l.val < 6) ∧ r.val = (l.val - 3) * 128 + 16 + h.val then -1 else 0 : EReal) := by
  dsimp only [V9, W9, W8, W7, W6, W5, W4, W3, W2, W1, hostOps0, hostOps0_1, hostOps0_2, hostOps0_3, hostOps0_4, hostOps0_5, hostOps0_6, hostOps0_7, hostOps0_8]
  after_results_simp
  show Scalar.select (IntOp.andi (IntOp.andi (IntOp.cmpi .sge (BitVec.ofNat 32 l.val) (BitVec.ofNat 32 3)) (IntOp.cmpi .slt (BitVec.ofNat 32 l.val) (BitVec.ofNat 32 6))) (IntOp.cmpi .eq (BitVec.ofNat 32 r.val)
    ((BitVec.ofNat 32 l.val - BitVec.ofNat 32 3) * BitVec.ofNat 32 128 + BitVec.ofNat 32 16 + BitVec.ofNat 32 h.val))) (Ideal.ofBits .f32 0xBF800000#32) (Ideal.ofBits .f32 0x00000000#32) = _
  rw [sge_iff _ _ (by omega) (by omega), slt_iff _ _ (by omega) (by omega), and_bits]
  by_cases h3 : 3 ≤ l.val
  · rw [sub_bits _ h3, ← BitVec.ofNat_mul, ← BitVec.ofNat_add, ← BitVec.ofNat_add, eq_iff _ _ (by omega) (by omega), select_and, minus_bits, zero_bits]
  · rw [decide_eq_false (fun hc => h3 hc.1), if_neg (fun hc => h3 hc.1.1), ← zero_bits]
    exact select_zero _ _ _

theorem constq_val (l : Fin 128) :
    V9 m ρ c main_v34 (ix2 0 l) = (if 3 ≤ l.val ∧ l.val < 6 then 1 else 0 : EReal) := by
  dsimp only [V9, W9, W8, W7, W6, W5, W4, W3, W2, W1, hostOps0, hostOps0_1, hostOps0_2, hostOps0_3, hostOps0_4, hostOps0_5, hostOps0_6, hostOps0_7, hostOps0_8]
  after_results_simp
  show Scalar.select (IntOp.andi (IntOp.cmpi .sge (BitVec.ofNat 32 l.val) (BitVec.ofNat 32 3)) (IntOp.cmpi .slt (BitVec.ofNat 32 l.val) (BitVec.ofNat 32 6)))
    (Ideal.ofBits .f32 0x3F800000#32) (Ideal.ofBits .f32 0x00000000#32) = _
  rw [sge_iff _ _ (by omega) (by omega), slt_iff _ _ (by omega) (by omega), select_and, one_bits, zero_bits]

theorem constk_val (l : Fin 128) :
    V9 m ρ c main_v37 (ix2 0 l) = (if l.val < 3 then 1 else 0 : EReal) := by
  dsimp only [V9, W9, W8, W7, W6, W5, W4, W3, W2, W1, hostOps0, hostOps0_1, hostOps0_2, hostOps0_3, hostOps0_4, hostOps0_5, hostOps0_6, hostOps0_7, hostOps0_8]
  after_results_simp
  show Scalar.select (IntOp.cmpi .slt (BitVec.ofNat 32 l.val) (BitVec.ofNat 32 3)) (Ideal.ofBits .f32 0x3F800000#32) (Ideal.ofBits .f32 0x00000000#32) = _
  rw [slt_iff _ _ (by omega) (by omega), one_bits, zero_bits]
  by_cases hl : l.val < 3
  · rw [decide_eq_true hl, if_pos hl]; rfl
  · rw [decide_eq_false hl, if_neg hl]; rfl

/-- The sums' three parts, of which only the first is not what is left of it. -/
def part (x0 : Vec Ideal S512x128 .f32) (n : Fin 512) (r : Fin 384) : EReal :=
  if r.val < 128 then x0 (ix2 n (⟨r.val % 128, by omega⟩ : Fin 128))
  else if r.val < 256 then x0 (ix2 n (⟨r.val % 128, by omega⟩ : Fin 128)) - x0 (ix2 n (⟨r.val % 128, by omega⟩ : Fin 128))
  else x0 (ix2 n (⟨r.val % 128, by omega⟩ : Fin 128)) - x0 (ix2 n (⟨r.val % 128, by omega⟩ : Fin 128)) - (x0 (ix2 n (⟨r.val % 128, by omega⟩ : Fin 128)) - x0 (ix2 n (⟨r.val % 128, by omega⟩ : Fin 128)))

theorem part_apply (x0 : Vec Ideal S512x128 .f32) (n : Fin 512) (r : Fin 384) : k0_pay3 x0 (ix2 n r) = part x0 n r := by
  pointwise [k0_pay3]
  unfold part
  by_cases h1 : r.val < 128
  · rw [dif_pos h1, if_pos h1]
    congr 3
    omega
  rw [dif_neg h1, if_neg h1]
  by_cases h2 : r.val < 256
  · have e : (⟨r.val - 128, by omega⟩ : Fin 128) = ⟨r.val % 128, by omega⟩ := Fin.ext (by show r.val - 128 = r.val % 128; omega)
    rw [dif_pos (by omega), if_pos h2]
    simp only [e]
  · have e : (⟨r.val - 128 - 128, by omega⟩ : Fin 128) = ⟨r.val % 128, by omega⟩ := Fin.ext (by show r.val - 128 - 128 = r.val % 128; omega)
    rw [dif_neg (by omega), if_neg h2]
    simp only [e]

theorem pay6_apply (x0 : Vec Ideal S512x128 .f32) (x1 : Vec Ideal S1x384x128 .bf16) (x2 : Vec Ideal S1x128 .f32) (n : Fin 512) (l : Fin 128) :
    k0_pay6 x0 x1 x2 (ix3 0 n l) = (∑ r : Fin 384, k0_pay3 x0 (ix2 n r) * x1 (ix3 0 r l)) + x2 (ix2 0 l) := by
  pointwise [k0_pay6]

theorem pay24_apply (x0 : Vec Ideal S512x128 .f32) (x1 : Vec Ideal S1x384x128 .bf16) (x2 : Vec Ideal S1x128 .f32) (n : Fin 512) (l : Fin 128) :
    k0_pay2 (k0_pay4 x0 x1 x2) (ix3 0 n l) = (∑ r : Fin 384, k0_pay3 x0 (ix2 n r) * x1 (ix3 0 r l)) + x2 (ix2 0 l) := by
  pointwise [k0_pay2, k0_pay4]

/-- One entry of a one-hot column picks one term of the sum. -/
theorem pick (g : Fin 384 → EReal) (p : Prop) [Decidable p] (K : ℕ) (hK : p → K < 384) (s : EReal) :
    (∑ r : Fin 384, g r * (if p ∧ r.val = K then s else 0)) = if hp : p then g ⟨K, hK hp⟩ * s else 0 := by
  by_cases hp : p
  · rw [dif_pos hp, Finset.sum_eq_single (⟨K, hK hp⟩ : Fin 384)]
    · rw [if_pos ⟨hp, rfl⟩]
    · intro r _ hr
      rw [if_neg (fun hc => hr (Fin.ext hc.2)), mul_zero]
    · intro hc
      exact absurd (Finset.mem_univ _) hc
  · rw [dif_neg hp]
    refine Finset.sum_eq_zero fun r _ => ?_
    rw [if_neg (fun hc => hp hc.1), mul_zero]

/-- The extra columns of a query whose gate sum is f, and of a key. -/
def qx (f : ℝ) (l : ℕ) : ℝ := if l = 0 then f else if 3 ≤ l ∧ l < 6 then 1 else 0
def kx (f : ℝ) (l : ℕ) : ℝ := if l < 3 then 1 else if l = 3 then -f else 0

theorem part_real (x0 : Vec Ideal S512x128 .f32) (n : Fin 512) (h : Fin 8) (f : ℝ) (hf : x0 (ix2 n (fCol h)) = (f : EReal)) (l : ℕ) (hl : l < 3) (r : Fin 384)
    (hr : r.val = l * 128 + 16 + h.val) : part x0 n r = ((if l = 0 then f else 0 : ℝ) : EReal) := by
  have e : (⟨r.val % 128, by omega⟩ : Fin 128) = fCol h := Fin.ext (by show r.val % 128 = 16 + h.val; omega)
  unfold part
  rw [e, hf]
  by_cases h0 : l = 0
  · rw [if_pos (by omega), if_pos h0]
  rw [if_neg (by omega), if_neg h0]
  by_cases h1 : r.val < 256
  · rw [if_pos h1, ← EReal.coe_sub, sub_self]
  · rw [if_neg h1, ← EReal.coe_sub, sub_self, ← EReal.coe_sub, sub_self]

theorem extra_q (x0 : Vec Ideal S512x128 .f32) (n : Fin 512) (h : Fin 8) (f : ℝ) (hf : x0 (ix2 n (fCol h)) = (f : EReal)) (l : Fin 128) :
    (∑ r : Fin 384, part x0 n r * (if l.val < 3 ∧ r.val = l.val * 128 + 16 + h.val then 1 else 0)) + (if 3 ≤ l.val ∧ l.val < 6 then 1 else 0) = (qx f l.val : EReal) := by
  rw [pick _ _ _ (fun hp => by omega)]
  unfold qx
  by_cases hl : l.val < 3
  · rw [dif_pos hl, part_real x0 n h f hf l.val hl _ rfl, if_neg (show ¬ (3 ≤ l.val ∧ l.val < 6) by omega), if_neg (show ¬ (3 ≤ l.val ∧ l.val < 6) by omega), mul_one, add_zero]
  · rw [dif_neg hl, if_neg (show ¬ l.val = 0 by omega), zero_add]
    split
    · exact EReal.coe_one.symm
    · exact EReal.coe_zero.symm

theorem extra_k (x0 : Vec Ideal S512x128 .f32) (n : Fin 512) (h : Fin 8) (f : ℝ) (hf : x0 (ix2 n (fCol h)) = (f : EReal)) (l : Fin 128) :
    (∑ r : Fin 384, part x0 n r * (if (3 ≤ l.val ∧ l.val < 6) ∧ r.val = (l.val - 3) * 128 + 16 + h.val then -1 else 0)) + (if l.val < 3 then 1 else 0) = (kx f l.val : EReal) := by
  rw [pick _ _ _ (fun hp => by omega)]
  unfold kx
  by_cases hl : 3 ≤ l.val ∧ l.val < 6
  · rw [dif_pos hl, part_real x0 n h f hf (l.val - 3) (by omega) _ rfl, if_neg (show ¬ l.val < 3 by omega), if_neg (show ¬ l.val < 3 by omega), add_zero]
    by_cases h3 : l.val = 3
    · rw [if_pos (show l.val - 3 = 0 by omega), if_pos h3, mul_neg, mul_one, EReal.coe_neg]
    · rw [if_neg (show ¬ l.val - 3 = 0 by omega), if_neg h3, EReal.coe_zero, zero_mul]
  · rw [dif_neg hl, zero_add]
    by_cases h3 : l.val < 3
    · rw [if_pos h3, if_pos h3]; exact EReal.coe_one.symm
    · rw [if_neg h3, if_neg h3, if_neg (by omega)]; exact EReal.coe_zero.symm

theorem high_q (x0 : Vec Ideal S512x128 .f32) (x1 : Vec Ideal S1x384x128 .bf16) (x2 : Vec Ideal S1x128 .f32) (n : Fin 512) (l : Fin 128) (h : Fin 8) (f : ℝ)
    (hf : x0 (ix2 n (fCol h)) = (f : EReal)) (h1 : ∀ r : Fin 384, x1 (ix3 0 r l) = (if l.val < 3 ∧ r.val = l.val * 128 + 16 + h.val then 1 else 0 : EReal))
    (h2 : x2 (ix2 0 l) = (if 3 ≤ l.val ∧ l.val < 6 then 1 else 0 : EReal)) : k0_pay6 x0 x1 x2 (ix3 0 n l) = (qx f l.val : EReal) := by
  rw [pay6_apply, h2, ← extra_q x0 n h f hf l]
  simp only [h1, part_apply]

theorem high_k (x0 : Vec Ideal S512x128 .f32) (x1 : Vec Ideal S1x384x128 .bf16) (x2 : Vec Ideal S1x128 .f32) (n : Fin 512) (l : Fin 128) (h : Fin 8) (f : ℝ)
    (hf : x0 (ix2 n (fCol h)) = (f : EReal)) (h1 : ∀ r : Fin 384, x1 (ix3 0 r l) = (if (3 ≤ l.val ∧ l.val < 6) ∧ r.val = (l.val - 3) * 128 + 16 + h.val then -1 else 0 : EReal))
    (h2 : x2 (ix2 0 l) = (if l.val < 3 then 1 else 0 : EReal)) : k0_pay2 (k0_pay4 x0 x1 x2) (ix3 0 n l) = (kx f l.val : EReal) := by
  rw [pay24_apply, h2, ← extra_k x0 n h f hf l]
  simp only [h1, part_apply]

/-! ## The blocks of the first launch -/

theorem index0 : ∀ t : Fin grid0.N, win0_0.index t = ![t.val / 8, t.val % 8] := by decide +kernel
theorem index1 : ∀ t : Fin grid0.N, win0_1.index t = ![t.val / 8, 8 + t.val % 8] := by decide +kernel
theorem index2 : ∀ t : Fin grid0.N, win0_2.index t = ![t.val / 8, 0] := by decide +kernel
theorem index3 : ∀ t : Fin grid0.N, win0_3.index t = ![t.val % 8, 0, 0] := by decide +kernel
theorem index4 : ∀ t : Fin grid0.N, win0_4.index t = ![t.val % 8, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val % 8, t.val / 8, 0] := by decide +kernel
theorem index8 : ∀ t : Fin grid0.N, win0_8.index t = ![t.val % 8, t.val / 8, 0] := by decide +kernel

/-- The head of a grid point, and the token that row r of its block is. -/
def head (t : Fin grid0.N) : Fin 8 := ⟨t.val % 8, by omega⟩
def token (t : Fin grid0.N) (r : Fin 512) : Fin 8192 := ⟨t.val / 8 * 512 + r.val, by have h : t.val < 128 := t.isLt; omega⟩

theorem emb0 (t : Fin grid0.N) (r : Fin 512) (j : Fin 128) : (win0_0.blk t).view.emb (ix2 r j) = ix2 (token t r) (qCol (head t) j) := by
  funext a
  apply Fin.ext
  blk_simp [index0]
  match a with
  | ⟨0, _⟩ => simp [token]
  | ⟨1, _⟩ => simp [head]
theorem emb1 (t : Fin grid0.N) (r : Fin 512) (j : Fin 128) : (win0_1.blk t).view.emb (ix2 r j) = ix2 (token t r) (kCol (head t) j) := by
  funext a
  apply Fin.ext
  blk_simp [index1]
  match a with
  | ⟨0, _⟩ => simp [token]
  | ⟨1, _⟩ => simp [head]; omega
theorem emb2 (t : Fin grid0.N) (r : Fin 512) (l : Fin 128) : (win0_2.blk t).view.emb (ix2 r l) = ix2 (token t r) l := by
  funext a
  apply Fin.ext
  blk_simp [index2]
  match a with
  | ⟨0, _⟩ => simp [token]
  | ⟨1, _⟩ => simp
theorem emb3 (t : Fin grid0.N) (r : Fin 384) (l : Fin 128) : (win0_3.blk t).view.emb (ix3 0 r l) = ix3 (head t) r l := by
  funext a
  apply Fin.ext
  blk_simp [index3]
  match a with
  | ⟨0, _⟩ => simp [head]
  | ⟨1, _⟩ => simp
  | ⟨2, _⟩ => simp
theorem emb4 (t : Fin grid0.N) (r : Fin 384) (l : Fin 128) : (win0_4.blk t).view.emb (ix3 0 r l) = ix3 (head t) r l := by
  funext a
  apply Fin.ext
  blk_simp [index4]
  match a with
  | ⟨0, _⟩ => simp [head]
  | ⟨1, _⟩ => simp
  | ⟨2, _⟩ => simp
theorem emb5 (t : Fin grid0.N) (l : Fin 128) : (win0_5.blk t).view.emb (ix2 0 l) = ix2 0 l := by
  funext a
  apply Fin.ext
  blk_simp [index5]
  match a with
  | ⟨0, _⟩ => simp
  | ⟨1, _⟩ => simp
theorem emb6 (t : Fin grid0.N) (l : Fin 128) : (win0_6.blk t).view.emb (ix2 0 l) = ix2 0 l := by
  funext a
  apply Fin.ext
  blk_simp [index6]
  match a with
  | ⟨0, _⟩ => simp
  | ⟨1, _⟩ => simp
theorem emb7 (t : Fin grid0.N) (r : Fin 512) (j : Fin 256) : ((View.whole main_v40_0).slice (win0_7.rect t)).emb (ix3 0 r j) = ix3 (head t) (token t r) j := by
  funext a
  apply Fin.ext
  blk_simp [index7]
  match a with
  | ⟨0, _⟩ => simp [head]
  | ⟨1, _⟩ => simp [token]
  | ⟨2, _⟩ => simp
theorem emb8 (t : Fin grid0.N) (r : Fin 512) (j : Fin 256) : ((View.whole main_v40_1).slice (win0_8.rect t)).emb (ix3 0 r j) = ix3 (head t) (token t r) j := by
  funext a
  apply Fin.ext
  blk_simp [index8]
  match a with
  | ⟨0, _⟩ => simp [head]
  | ⟨1, _⟩ => simp [token]
  | ⟨2, _⟩ => simp

theorem proj_arg : V9 m ρ c main_arg0 = m ((c.tc : Thread nD τ).loc main_arg0) := W9_args m ρ c main_arg0 (by decide +kernel)
theorem gate_arg : V9 m ρ c main_arg1 = m ((c.tc : Thread nD τ).loc main_arg1) := W9_args m ρ c main_arg1 (by decide +kernel)

theorem blk0 (t : Fin grid0.N) (r : Fin 512) (j : Fin 128) :
    (iblk0 (V9 m ρ) c 0 t : S512x128.Idx → EReal) (ix2 r j) = m ((c.tc : Thread nD τ).loc main_arg0) (ix2 (token t r) (qCol (head t) j)) := by
  rw [← proj_arg m ρ c]; unfold iblk0; blk_simp; rw [emb0]
theorem blk1 (t : Fin grid0.N) (r : Fin 512) (j : Fin 128) :
    (iblk0 (V9 m ρ) c 1 t : S512x128.Idx → EReal) (ix2 r j) = m ((c.tc : Thread nD τ).loc main_arg0) (ix2 (token t r) (kCol (head t) j)) := by
  rw [← proj_arg m ρ c]; unfold iblk0; blk_simp; rw [emb1]
theorem blk2 (t : Fin grid0.N) (r : Fin 512) (l : Fin 128) :
    (iblk0 (V9 m ρ) c 2 t : S512x128.Idx → EReal) (ix2 r l) = m ((c.tc : Thread nD τ).loc main_arg1) (ix2 (token t r) l) := by
  rw [← gate_arg m ρ c]; unfold iblk0; blk_simp; rw [emb2]
theorem blk3 (t : Fin grid0.N) (r : Fin 384) (l : Fin 128) :
    (iblk0 (V9 m ρ) c 3 t : S1x384x128.Idx → EReal) (ix3 0 r l) = (if l.val < 3 ∧ r.val = l.val * 128 + 16 + (head t).val then 1 else 0 : EReal) := by
  rw [← selq_val m ρ c]; unfold iblk0; blk_simp; rw [emb3]
theorem blk4 (t : Fin grid0.N) (r : Fin 384) (l : Fin 128) :
    (iblk0 (V9 m ρ) c 4 t : S1x384x128.Idx → EReal) (ix3 0 r l) = (if (3 ≤ l.val ∧ l.val < 6) ∧ r.val = (l.val - 3) * 128 + 16 + (head t).val then -1 else 0 : EReal) := by
  rw [← selk_val m ρ c]; unfold iblk0; blk_simp; rw [emb4]
theorem blk5 (t : Fin grid0.N) (l : Fin 128) : (iblk0 (V9 m ρ) c 5 t : S1x128.Idx → EReal) (ix2 0 l) = (if 3 ≤ l.val ∧ l.val < 6 then 1 else 0 : EReal) := by
  rw [← constq_val m ρ c]; unfold iblk0; blk_simp; rw [emb5]
theorem blk6 (t : Fin grid0.N) (l : Fin 128) : (iblk0 (V9 m ρ) c 6 t : S1x128.Idx → EReal) (ix2 0 l) = (if l.val < 3 then 1 else 0 : EReal) := by
  rw [← constk_val m ρ c]; unfold iblk0; blk_simp; rw [emb6]

theorem stored_low (p q : Vec Ideal S1x512x128 .bf16) (n : Fin 512) (j : Fin 128) :
    View.canon [(⟨r0_4, p⟩ : View.Piece (Elt Ideal) S1x512x256 .bf16), ⟨r0_3, q⟩] (ix3 0 n (⟨j.val, by omega⟩ : Fin 256)) = q (ix3 0 n j) := by
  rw [View.canon_cons_of_not_mem]
  · have e : (ix3 0 n (⟨j.val, by omega⟩ : Fin 256) : S1x512x256.Idx) = r0_3.emb (ix3 0 n j) := by
      funext a
      apply Fin.ext
      match a with
      | ⟨0, _⟩ => rfl
      | ⟨1, _⟩ => show n.val = 0 + 1 * n.val; omega
      | ⟨2, _⟩ => show j.val = 0 + 1 * j.val; omega
    rw [e]
    exact View.canon_cons_emb r0_3 q [] (ix3 0 n j)
  · intro hm
    obtain ⟨x, hx⟩ := r0_4.exists_idx_of_mem hm
    have h2 : 128 + 1 * (x 2).val = j.val := congrArg Fin.val (congrFun hx 2)
    omega

theorem stored_high (p q : Vec Ideal S1x512x128 .bf16) (n : Fin 512) (j : Fin 128) :
    View.canon [(⟨r0_4, p⟩ : View.Piece (Elt Ideal) S1x512x256 .bf16), ⟨r0_3, q⟩] (ix3 0 n (⟨128 + j.val, by omega⟩ : Fin 256)) = p (ix3 0 n j) := by
  have e : (ix3 0 n (⟨128 + j.val, by omega⟩ : Fin 256) : S1x512x256.Idx) = r0_4.emb (ix3 0 n j) := by
    funext a
    apply Fin.ext
    match a with
    | ⟨0, _⟩ => rfl
    | ⟨1, _⟩ => show n.val = 0 + 1 * n.val; omega
    | ⟨2, _⟩ => show 128 + j.val = 128 + 1 * j.val; omega
  rw [e]
  exact View.canon_cons_emb r0_4 p _ (ix3 0 n j)

theorem pay5_apply (x0 : Vec Ideal S512x128 .bf16) (n : Fin 512) (l : Fin 128) : k0_pay5 x0 (ix3 0 n l) = x0 (ix2 n l) := by
  pointwise [k0_pay5]
theorem pay1_apply (x0 : Vec Ideal S512x128 .bf16) (n : Fin 512) (l : Fin 128) : k0_pay1 x0 (ix3 0 n l) = x0 (ix2 n l) := by
  pointwise [k0_pay1]

/-! ## The two augmented arrays -/

variable (P : S8192x6144.Idx → EReal) (G : S8192x128.Idx → EReal)

/-- A query with its extra columns, and a key with its. -/
def qAug (y : S8x8192x256.Idx) : EReal :=
  if h : (y 2).val < 128 then P (ix2 (y 1) (qCol (y 0) ⟨(y 2).val, h⟩)) else (qx (G (ix2 (y 1) (fCol (y 0)))).toReal ((y 2).val - 128) : EReal)
def kAug (y : S8x8192x256.Idx) : EReal :=
  if h : (y 2).val < 128 then P (ix2 (y 1) (kCol (y 0) ⟨(y 2).val, h⟩)) else (kx (G (ix2 (y 1) (fCol (y 0)))).toReal ((y 2).val - 128) : EReal)

theorem qAug_low (h : Fin 8) (n : Fin 8192) (j : Fin 128) : qAug P G (ix3 h n (⟨j.val, by omega⟩ : Fin 256)) = P (ix2 n (qCol h j)) := dif_pos j.isLt
theorem kAug_low (h : Fin 8) (n : Fin 8192) (j : Fin 128) : kAug P G (ix3 h n (⟨j.val, by omega⟩ : Fin 256)) = P (ix2 n (kCol h j)) := dif_pos j.isLt
theorem qAug_high (h : Fin 8) (n : Fin 8192) (l : Fin 128) : qAug P G (ix3 h n (⟨128 + l.val, by omega⟩ : Fin 256)) = (qx (G (ix2 n (fCol h))).toReal l.val : EReal) := by
  unfold qAug
  refine (dif_neg (show ¬ 128 + l.val < 128 by omega)).trans ?_
  show (qx (G (ix2 n (fCol h))).toReal (128 + l.val - 128) : EReal) = _
  rw [Nat.add_sub_cancel_left]
theorem kAug_high (h : Fin 8) (n : Fin 8192) (l : Fin 128) : kAug P G (ix3 h n (⟨128 + l.val, by omega⟩ : Fin 256)) = (kx (G (ix2 n (fCol h))).toReal l.val : EReal) := by
  unfold kAug
  refine (dif_neg (show ¬ 128 + l.val < 128 by omega)).trans ?_
  show (kx (G (ix2 n (fCol h))).toReal (128 + l.val - 128) : EReal) = _
  rw [Nat.add_sub_cancel_left]

/-- The extra columns' product: the query's gate sum less the key's. -/
theorem extra_sum (f g : ℝ) : (∑ l : Fin 128, kx g l.val * qx f l.val) = f - g := by
  have e : ∀ l : Fin 128, kx g l.val * qx f l.val = (if l = (0 : Fin 128) then f else 0) + (if l = (3 : Fin 128) then -g else 0) := by
    intro l
    have h0 : (l = (0 : Fin 128)) ↔ l.val = 0 := Fin.ext_iff
    have h3 : (l = (3 : Fin 128)) ↔ l.val = 3 := Fin.ext_iff
    simp only [h0, h3]
    unfold kx qx
    by_cases e0 : l.val = 0
    · simp [e0]
    by_cases e3 : l.val = 3
    · simp [e3]
    by_cases el : l.val < 3
    · simp [e0, e3, el, show ¬ 3 ≤ l.val by omega]
    · simp [e0, e3, el]
  rw [Finset.sum_congr rfl fun l _ => e l, Finset.sum_add_distrib, Finset.sum_ite_eq', Finset.sum_ite_eq', if_pos (Finset.mem_univ _), if_pos (Finset.mem_univ _), sub_eq_add_neg]

/-- A key against a query: the score. -/
theorem aug_score (hr : RealRows P G) (h : Fin 8) (n x : Fin 8192) :
    (∑ j : Fin 256, kAug P G (ix3 h x j) * qAug P G (ix3 h n j)) = (score P G h n x.val : EReal) := by
  refine (Fin.sum_univ_add (a := 128) (b := 128) (fun j : Fin 256 => kAug P G (ix3 h x j) * qAug P G (ix3 h n j))).trans ?_
  have e1 : (∑ j : Fin 128, kAug P G (ix3 h x (Fin.castAdd 128 j)) * qAug P G (ix3 h n (Fin.castAdd 128 j)))
      = ((∑ j : Fin 128, (P (ix2 n (qCol h j))).toReal * (P (ix2 x (kCol h j))).toReal : ℝ) : EReal) := by
    rw [AttMath.coe_sum]
    refine Finset.sum_congr rfl fun j _ => ?_
    refine (congrArg₂ (· * ·) (kAug_low P G h x j) (qAug_low P G h n j)).trans ?_
    rw [EReal.coe_mul, ← hr.proj _ _ (by show h.val * 128 + j.val < 2048; omega), ← hr.proj _ _ (by show 1024 + (h.val * 128 + j.val) < 2048; omega), mul_comm]
  have e2 : (∑ l : Fin 128, kAug P G (ix3 h x (Fin.natAdd 128 l)) * qAug P G (ix3 h n (Fin.natAdd 128 l)))
      = (((G (ix2 n (fCol h))).toReal - (G (ix2 x (fCol h))).toReal : ℝ) : EReal) := by
    rw [← extra_sum, AttMath.coe_sum]
    refine Finset.sum_congr rfl fun l _ => ?_
    refine (congrArg₂ (· * ·) (kAug_high P G h x l) (qAug_high P G h n l)).trans ?_
    rw [EReal.coe_mul]
  refine (congrArg₂ (· + ·) e1 e2).trans ?_
  unfold score
  rw [dif_pos x.isLt, ← EReal.coe_add, add_sub_assoc]

variable (hr : RealRows (m ((c.tc : Thread nD τ).loc main_arg0)) (m ((c.tc : Thread nD τ).loc main_arg1)))
include hr

theorem out7 : V10 m ρ c main_v40_0 = qAug (m ((c.tc : Thread nD τ).loc main_arg0)) (m ((c.tc : Thread nD τ).loc main_arg1)) := by
  refine (W10_arr m ρ c 7).trans ?_
  refine (dat0 (V9 m ρ) c).arrAt_eq_of_covers 7 _ (by decide +kernel) fun t hf y => ?_
  blk_simp
  rw [after0_7]
  obtain ⟨r, j, rfl⟩ : ∃ (r : Fin 512) (j : Fin 256), y = ix3 0 r j := ⟨y 1, y 2, by
    refine (eq_ix3 y).trans ?_
    exact congrArg (fun z : Fin 1 => ix3 z (y 1) (y 2)) (Subsingleton.elim _ _)⟩
  rw [emb7]
  unfold out0_7
  by_cases hj : j.val < 128
  · obtain ⟨i, hi⟩ : ∃ i : Fin 128, j = ⟨i.val, by omega⟩ := ⟨⟨j.val, hj⟩, rfl⟩
    rw [hi, stored_low, qAug_low, pay5_apply, View.ld_unit_lit' _ _ (by decide), blk0]
  · obtain ⟨i, hi⟩ : ∃ i : Fin 128, j = ⟨128 + i.val, by omega⟩ := ⟨⟨j.val - 128, by omega⟩, Fin.ext (by show j.val = 128 + (j.val - 128); omega)⟩
    rw [hi, stored_high, qAug_high, View.ld_unit_lit' _ _ (by decide), View.ld_unit_lit' _ _ (by decide), View.ld_unit_lit' _ _ (by decide)]
    exact high_q _ _ _ r i (head t) _ ((blk2 m ρ c t r (fCol (head t))).trans (hr.gate (token t r) (head t))) (fun k => blk3 m ρ c t k i) (blk5 m ρ c t i)

theorem out8 : V10 m ρ c main_v40_1 = kAug (m ((c.tc : Thread nD τ).loc main_arg0)) (m ((c.tc : Thread nD τ).loc main_arg1)) := by
  refine (W10_arr m ρ c 8).trans ?_
  refine (dat0 (V9 m ρ) c).arrAt_eq_of_covers 8 _ (by decide +kernel) fun t hf y => ?_
  blk_simp
  rw [after0_8]
  obtain ⟨r, j, rfl⟩ : ∃ (r : Fin 512) (j : Fin 256), y = ix3 0 r j := ⟨y 1, y 2, by
    refine (eq_ix3 y).trans ?_
    exact congrArg (fun z : Fin 1 => ix3 z (y 1) (y 2)) (Subsingleton.elim _ _)⟩
  rw [emb8]
  unfold out0_8
  by_cases hj : j.val < 128
  · obtain ⟨i, hi⟩ : ∃ i : Fin 128, j = ⟨i.val, by omega⟩ := ⟨⟨j.val, hj⟩, rfl⟩
    rw [hi, stored_low, kAug_low, pay1_apply, View.ld_unit_lit' _ _ (by decide), blk1]
  · obtain ⟨i, hi⟩ : ∃ i : Fin 128, j = ⟨128 + i.val, by omega⟩ := ⟨⟨j.val - 128, by omega⟩, Fin.ext (by show j.val = 128 + (j.val - 128); omega)⟩
    rw [hi, stored_high, kAug_high, View.ld_unit_lit' _ _ (by decide), View.ld_unit_lit' _ _ (by decide), View.ld_unit_lit' _ _ (by decide)]
    exact high_k _ _ _ r i (head t) _ ((blk2 m ρ c t r (fCol (head t))).trans (hr.gate (token t r) (head t))) (fun k => blk4 m ρ c t k i) (blk6 m ρ c t i)

end Cert.AttAug
end
-- ==== Proof.AttKern.lean ====
module

public import proofs.«01_k».proof.Proof.AttVal
public import proofs.«01_k».proof.Proof.AttAug

@[expose] public section

set_option maxRecDepth 16384

noncomputable section

namespace Cert.AttValue

open Cert.AttentionIdeal Cert.AttentionIdeal.Gen
open Idealize.ShloMosaic Idealize.ShloMosaic.TcCoe Idealize.SL.Sem
open Cert.AttMath

variable (m : (ℓ : Loc nD τ sig) → Buf (Elt Ideal) ℓ) (ρ : Dev nD → PrngReg)

section Pay

variable (A0 K : Vec Ideal S1x512x256 .bf16) (V : Vec Ideal S512x128 .bf16) (M L : FVec Ideal S1x512 .f32) (A : Vec Ideal S128x512 .f32) (q : Fin 512) (d : Fin 128)

/-- A block's scores of query q. -/
def dots : Fin 512 → EReal := fun x => ∑ j : Fin 256, K (ix3 0 x j) * A0 (ix3 0 q j)
/-- The same, with the keys after the query left out. -/
def dotsTo : Fin 512 → EReal := fun x => if x.val ≤ q.val then ∑ j : Fin 256, K (ix3 0 x j) * A0 (ix3 0 q j) else ⊥

theorem pay4_apply : k1_pay4 (F := Ideal) (ix2 d q) = 0 := by
  pointwise [k1_pay4]
theorem pay5_apply : k1_pay5 (F := Ideal) (ix2 0 q) = ⊥ := by
  pointwise [k1_pay5]
  exact Cert.AttRef.negInf
theorem pay6_apply : k1_pay6 (F := Ideal) (ix2 0 q) = 0 := by
  pointwise [k1_pay6]

theorem pay8_apply : k1_pay8 (F := Ideal) A0 M K (ix2 0 q) = max (M (ix2 0 q)) (Finset.fold max ⊥ (dots A0 K q) Finset.univ) := by
  pointwise [k1_pay3, k1_pay7, k1_pay8, k1_pay9, k1_pay10, k1_pay11, k1_pay12]
  rw [Cert.AttRef.negInf]
  rfl

theorem pay11_apply : k1_pay11 (F := Ideal) A0 M L K (ix2 0 q)
    = Ideal.exp (M (ix2 0 q) - max (M (ix2 0 q)) (Finset.fold max ⊥ (dots A0 K q) Finset.univ)) * L (ix2 0 q)
      + ∑ x, Ideal.exp (dots A0 K q x - max (M (ix2 0 q)) (Finset.fold max ⊥ (dots A0 K q) Finset.univ)) := by
  pointwise [k1_pay3, k1_pay7, k1_pay8, k1_pay9, k1_pay10, k1_pay11, k1_pay12]
  rw [Cert.AttRef.negInf]
  rfl

theorem pay12_apply : k1_pay12 (F := Ideal) A0 M K V A (ix2 d q)
    = Ideal.exp (M (ix2 0 q) - max (M (ix2 0 q)) (Finset.fold max ⊥ (dots A0 K q) Finset.univ)) * A (ix2 d q)
      + ∑ x, V (ix2 x d) * Ideal.exp (dots A0 K q x - max (M (ix2 0 q)) (Finset.fold max ⊥ (dots A0 K q) Finset.univ)) := by
  pointwise [k1_pay3, k1_pay7, k1_pay8, k1_pay9, k1_pay10, k1_pay11, k1_pay12]
  rw [Cert.AttRef.negInf]
  rfl

theorem payLast_apply : k1_pay2 (k1_pay22 A0 M K) (k1_pay23 A0 M L K) (k1_pay1 V (k1_pay21 A0 M K) (k1_pay22 A0 M K) A) (ix2 q d)
    = Ideal.div
      (Ideal.exp (M (ix2 0 q) - max (M (ix2 0 q)) (Finset.fold max ⊥ (dotsTo A0 K q) Finset.univ)) * A (ix2 d q)
        + ∑ x, V (ix2 x d) * Ideal.exp (dotsTo A0 K q x - max (M (ix2 0 q)) (Finset.fold max ⊥ (dotsTo A0 K q) Finset.univ)))
      (Ideal.exp (M (ix2 0 q) - max (M (ix2 0 q)) (Finset.fold max ⊥ (dotsTo A0 K q) Finset.univ)) * L (ix2 0 q)
        + ∑ x, Ideal.exp (dotsTo A0 K q x - max (M (ix2 0 q)) (Finset.fold max ⊥ (dotsTo A0 K q) Finset.univ))) := by
  have e : ∀ x : Fin 512, Scalar.select (IntOp.cmpi .sle (BitVec.ofNat 32 x.val) (BitVec.ofNat 32 q.val)) (∑ j : Fin 256, K (ix3 0 x j) * A0 (ix3 0 q j)) ⊥ = dotsTo A0 K q x := by
    intro x
    rw [Cert.AttRef.sle_iff _ _ (by omega) (by omega)]
    unfold dotsTo
    by_cases h : x.val ≤ q.val
    · rw [if_pos h, if_pos h]; rfl
    · rw [if_neg h, if_neg h]; rfl
  pointwise [k1_pay3, k1_pay1, k1_pay2, k1_pay22, k1_pay23, k1_pay21, k1_pay19, k1_pay20]
  simp only [Cert.AttRef.negInf, e]

end Pay

/-! ## Where the blocks lie -/

theorem off1 : ∀ (i : grid1.Coords) (k : Fin (k1_t1_loop i).trips), k1_off1 i k = ![0, 512 * k.val, 0] := by decide +kernel
theorem off2 : ∀ (i : grid1.Coords) (k : Fin (k1_t1_loop i).trips), k1_off2 i k = ![512 * k.val, 0] := by decide +kernel
theorem off5 : ∀ (i : grid1.Coords), k1_off5 i = ![0, 512 * (i 1).val, 0] := by decide +kernel
theorem off6 : ∀ (i : grid1.Coords), k1_off6 i = ![512 * (i 1).val, 0] := by decide +kernel

theorem index0 : ∀ t : Fin grid1.N, win1_0.index t = ![t.val / 16, t.val % 16, 0] := by decide +kernel
theorem index1 : ∀ t : Fin grid1.N, win1_1.index t = ![t.val / 16, 0, 0] := by decide +kernel
theorem index2 : ∀ t : Fin grid1.N, win1_2.index t = ![0, 16 + t.val / 16] := by decide +kernel
theorem index3 : ∀ t : Fin grid1.N, win1_3.index t = ![t.val % 16, t.val / 16] := by decide +kernel
theorem coord1 : ∀ t : Fin grid1.N, (grid1.coords t 1).val = t.val % 16 := by decide +kernel

/-- The head of a grid point. -/
def head (t : Fin grid1.N) : Fin 8 := ⟨t.val / 16, by have h : t.val < 128 := t.isLt; omega⟩
/-- The query that row r of a grid point's block is. -/
def query (t : Fin grid1.N) (r : Fin 512) : Fin 8192 := ⟨512 * (t.val % 16) + r.val, by omega⟩
/-- The column of the result that column d of a head is. -/
def place (t : Fin grid1.N) (d : Fin 128) : Fin 1024 := ⟨(head t).val * 128 + d.val, by have := (head t).isLt; omega⟩

theorem emb0 (t : Fin grid1.N) (r : Fin 512) (j : Fin 256) : (win1_0.blk t).view.emb (ix3 0 r j) = ix3 (head t) (query t r) j := by
  funext a
  apply Fin.ext
  blk_simp [index0]
  match a with
  | ⟨0, _⟩ => simp [head]
  | ⟨1, _⟩ => simp [query]; omega
  | ⟨2, _⟩ => simp

theorem emb1 (t : Fin grid1.N) (x : Fin 8192) (j : Fin 256) : (win1_1.blk t).view.emb (ix3 0 x j) = ix3 (head t) x j := by
  funext a
  apply Fin.ext
  blk_simp [index1]
  match a with
  | ⟨0, _⟩ => simp [head]
  | ⟨1, _⟩ => simp
  | ⟨2, _⟩ => simp

theorem emb2 (t : Fin grid1.N) (x : Fin 8192) (d : Fin 128) :
    (win1_2.blk t).view.emb (ix2 x d) = ix2 x (⟨2048 + ((head t).val * 128 + d.val), by have := (head t).isLt; omega⟩ : Fin 6144) := by
  funext a
  apply Fin.ext
  blk_simp [index2]
  match a with
  | ⟨0, _⟩ => simp
  | ⟨1, _⟩ => simp [head]; omega

theorem emb3 (t : Fin grid1.N) (r : Fin 512) (d : Fin 128) :
    ((View.whole main_v41).slice (win1_3.rect t)).emb (ix2 r d) = ix2 (query t r) (place t d) := by
  funext a
  apply Fin.ext
  blk_simp [index3]
  match a with
  | ⟨0, _⟩ => simp [query]; omega
  | ⟨1, _⟩ => simp [place, head]

abbrev proj (c : Dev nD) : S8192x6144.Idx → EReal := m ((c.tc : Thread nD τ).loc main_arg0)
abbrev gate (c : Dev nD) : S8192x128.Idx → EReal := m ((c.tc : Thread nD τ).loc main_arg1)

section Blocks
variable (c : Dev nD) (hr : Cert.AttRef.RealRows (proj m c) (gate m c))
include hr

theorem blk0 (t : Fin grid1.N) (r : Fin 512) (j : Fin 256) :
    (iblk1 (V10 m ρ) c 0 t : S1x512x256.Idx → EReal) (ix3 0 r j) = Cert.AttAug.qAug (proj m c) (gate m c) (ix3 (head t) (query t r) j) := by
  rw [← Cert.AttAug.out7 m ρ c hr]; unfold iblk1; blk_simp; rw [emb0]
theorem blk1 (t : Fin grid1.N) (x : Fin 8192) (j : Fin 256) :
    (iblk1 (V10 m ρ) c 1 t : S1x8192x256.Idx → EReal) (ix3 0 x j) = Cert.AttAug.kAug (proj m c) (gate m c) (ix3 (head t) x j) := by
  rw [← Cert.AttAug.out8 m ρ c hr]; unfold iblk1; blk_simp; rw [emb1]

end Blocks

theorem arg2 (c : Dev nD) : V10 m ρ c main_arg0 = proj m c := W10_args m ρ c main_arg0 (by decide +kernel)

theorem blk2 (c : Dev nD) (t : Fin grid1.N) (x : Fin 8192) (d : Fin 128) :
    (iblk1 (V10 m ρ) c 2 t : S8192x128.Idx → EReal) (ix2 x d) = proj m c (ix2 x (Cert.AttRef.vCol (head t) d)) := by
  rw [← arg2 m ρ c]; unfold iblk1; blk_simp; rw [emb2]

/-! ## The keys and values of a step -/

theorem keys_apply (i : grid1.Coords) (x1 : Vec Ideal S1x8192x256 .bf16) (k : Fin (k1_t1_loop i).trips) (x : Fin 512) (j : Fin 256) (n : Fin 8192)
    (hn : n.val = 512 * k.val + x.val) : keys i x1 k (ix3 0 x j) = x1 (ix3 0 n j) := by
  refine View.ld_unit_apply_of _ _ _ _ _ _ fun a => ?_
  rw [congrFun (off1 i k) a]
  match a with
  | ⟨0, _⟩ => rfl
  | ⟨1, _⟩ => exact hn
  | ⟨2, _⟩ => simp

theorem vals_apply (i : grid1.Coords) (x2 : Vec Ideal S8192x128 .bf16) (k : Fin (k1_t1_loop i).trips) (x : Fin 512) (d : Fin 128) (n : Fin 8192)
    (hn : n.val = 512 * k.val + x.val) : vals i x2 k (ix2 x d) = x2 (ix2 n d) := by
  refine View.ld_unit_apply_of _ _ _ _ _ _ fun a => ?_
  rw [congrFun (off2 i k) a]
  match a with
  | ⟨0, _⟩ => exact hn
  | ⟨1, _⟩ => simp

theorem lastKeys_apply (i : grid1.Coords) (x1 : Vec Ideal S1x8192x256 .bf16) (x : Fin 512) (j : Fin 256) (n : Fin 8192)
    (hn : n.val = 512 * (i 1).val + x.val) : lastKeys i x1 (ix3 0 x j) = x1 (ix3 0 n j) := by
  refine View.ld_unit_apply_of _ _ _ _ _ _ fun a => ?_
  rw [congrFun (off5 i) a]
  match a with
  | ⟨0, _⟩ => rfl
  | ⟨1, _⟩ => exact hn
  | ⟨2, _⟩ => simp

theorem lastVals_apply (i : grid1.Coords) (x2 : Vec Ideal S8192x128 .bf16) (x : Fin 512) (d : Fin 128) (n : Fin 8192)
    (hn : n.val = 512 * (i 1).val + x.val) : lastVals i x2 (ix2 x d) = x2 (ix2 n d) := by
  refine View.ld_unit_apply_of _ _ _ _ _ _ fun a => ?_
  rw [congrFun (off6 i) a]
  match a with
  | ⟨0, _⟩ => exact hn
  | ⟨1, _⟩ => simp

/-! ## The running sums -/

section Sums

variable (c : Dev nD) (t : Fin grid1.N) (r : Fin 512) (d : Fin 128) (hr : Cert.AttRef.RealRows (proj m c) (gate m c))

abbrev σ := Cert.AttRef.score (proj m c) (gate m c) (head t) (query t r)
abbrev ν := Cert.AttRef.column (proj m c) (head t) d

include hr in
/-- A block's dot product is the score of the key it lies at. -/
theorem dot_score (K : Vec Ideal S1x512x256 .bf16) (N : ℕ) (hN : N + 512 ≤ 8192)
    (hK : ∀ (x : Fin 512) (j : Fin 256), K (ix3 0 x j) = (iblk1 (V10 m ρ) c 1 t : S1x8192x256.Idx → EReal) (ix3 0 (⟨N + x.val, by omega⟩ : Fin 8192) j)) (x : Fin 512) :
    (∑ j : Fin 256, K (ix3 0 x j) * (iblk1 (V10 m ρ) c 0 t : S1x512x256.Idx → EReal) (ix3 0 r j)) = (σ m c t r (N + x.val) : EReal) := by
  refine Eq.trans ?_ (Cert.AttAug.aug_score (proj m c) (gate m c) hr (head t) (query t r) (⟨N + x.val, by omega⟩ : Fin 8192))
  refine Finset.sum_congr rfl fun j _ => ?_
  rw [hK, blk0 m ρ c hr, blk1 m ρ c hr]

theorem val_column (W : Vec Ideal S512x128 .bf16) (N : ℕ) (hN : N + 512 ≤ 8192)
    (hW : ∀ (x : Fin 512), W (ix2 x d) = (iblk1 (V10 m ρ) c 2 t : S8192x128.Idx → EReal) (ix2 (⟨N + x.val, by omega⟩ : Fin 8192) d)) (x : Fin 512) :
    W (ix2 x d) = ν m c t d (N + x.val) := by
  unfold ν Cert.AttRef.column
  rw [dif_pos (by omega), hW, blk2]

include hr in
theorem rep (k : ℕ) (hk : k ≤ (k1_t1_loop (grid1.coords t)).trips) :
    Rep (σ m c t r) (ν m c t d) (512 * k) ((ml (V10 m ρ) c t k).1 (ix2 0 r)) ((ml (V10 m ρ) c t k).2 (ix2 0 r)) (av (V10 m ρ) c t k (ix2 d r)) := by
  induction k with
  | zero =>
    refine Or.inl ⟨rfl, pay5_apply r, pay6_apply r, ?_⟩
    unfold av
    rw [accAt_zero]
    exact pay4_apply r d
  | succ k ih =>
    have hk' : k < (k1_t1_loop (grid1.coords t)).trips := hk
    have h16 : k < 16 := by rw [trips1, coord1] at hk'; omega
    have e1 : ml (V10 m ρ) c t (k + 1) = (k1_pay8 (iblk1 (V10 m ρ) c 0 t) (ml (V10 m ρ) c t k).1 (keys (grid1.coords t) (iblk1 (V10 m ρ) c 1 t) ⟨k, hk'⟩),
        k1_pay11 (iblk1 (V10 m ρ) c 0 t) (ml (V10 m ρ) c t k).1 (ml (V10 m ρ) c t k).2 (keys (grid1.coords t) (iblk1 (V10 m ρ) c 1 t) ⟨k, hk'⟩)) := st_succ _ _ _ _ _ _ _ _ _ _ _ _ _ _ _ ⟨k, hk'⟩
    have e2 : av (V10 m ρ) c t (k + 1) = k1_pay12 (iblk1 (V10 m ρ) c 0 t) (ml (V10 m ρ) c t k).1 (keys (grid1.coords t) (iblk1 (V10 m ρ) c 1 t) ⟨k, hk'⟩) (vals (grid1.coords t) (iblk1 (V10 m ρ) c 2 t) ⟨k, hk'⟩) (av (V10 m ρ) c t k) :=
      accAt_succ _ _ _ _ _ _ _ _ _ _ _ _ _ _ _ ⟨k, hk'⟩
    rw [e1, e2]
    dsimp only
    rw [pay8_apply, pay11_apply, pay12_apply]
    refine step (512 * k) 511 (by omega) _ _ _ (fun x => vals (grid1.coords t) (iblk1 (V10 m ρ) c 2 t) ⟨k, hk'⟩ (ix2 x d)) (fun x => ?_) (fun x => ?_) _ _ _ (ih hk'.le)
    · rw [if_pos (by omega)]
      exact dot_score m ρ c t r hr _ (512 * k) (by omega) (fun x j => keys_apply _ _ ⟨k, hk'⟩ x j _ rfl) x
    · exact val_column m ρ c t d _ (512 * k) (by omega) (fun x => vals_apply _ _ ⟨k, hk'⟩ x d _ rfl) x

include hr in
/-- What a grid point leaves in its block. -/
theorem outs_apply : (outsAt1 (V10 m ρ) c t : S512x128.Idx → EReal) (ix2 r d)
    = mean (σ m c t r) (ν m c t d) 0 ((query t r).val + 1) := by
  rw [outs_eq, payLast_apply]
  have h := rep m ρ c t r d hr _ le_rfl
  rw [trips1, coord1] at h ⊢
  have h16 : t.val % 16 < 16 := Nat.mod_lt _ (by decide)
  refine final _ _ _ (Nat.succ_pos _) _ _ _ (step (512 * (t.val % 16)) r.val r.isLt _ _ (dotsTo (iblk1 (V10 m ρ) c 0 t) (lastKeys (grid1.coords t) (iblk1 (V10 m ρ) c 1 t)) r) (fun x => lastVals (grid1.coords t) (iblk1 (V10 m ρ) c 2 t) (ix2 x d)) (fun x => ?_) (fun x => ?_) _ _ _ h)
  · unfold dotsTo
    split
    · exact dot_score m ρ c t r hr _ (512 * (t.val % 16)) (by omega) (fun x j => lastKeys_apply _ _ x j _ (by rw [coord1])) x
    · rfl
  · exact val_column m ρ c t d _ (512 * (t.val % 16)) (by omega) (fun x => lastVals_apply _ _ x d _ (by rw [coord1])) x

end Sums

/-- The reference's value at the kernel's own arguments. -/
abbrev expect (c : Dev nD) := Cert.AttentionReferenceIdeal.Read.val_main_v39 (F := Ideal) (proj m c) (gate m c)

theorem out3 (c : Dev nD) (hp : Cert.Pre_finite_rows.fn (F := Ideal) (proj m c) (gate m c) = fun _ => 1#1) :
    (dat1 (V10 m ρ) c).arrAt 3 grid1.N = expect m c := by
  have hr := Cert.AttRef.real_of_pre _ _ hp
  refine (dat1 (V10 m ρ) c).arrAt_eq_of_covers 3 _ (by decide +kernel) fun t hf y => ?_
  blk_simp
  rw [after1_3]
  obtain ⟨r, d, rfl⟩ : ∃ (r : Fin 512) (d : Fin 128), y = ix2 r d := ⟨y 0, y 1, eq_ix2 y⟩
  rw [emb3]
  exact (outs_apply m ρ c t r d hr).trans (Cert.AttRef.reference _ _ hr (query t r) (head t) d (place t d) rfl).symm

end Cert.AttValue
end
-- ==== Proof.AttClaim.lean ====
/-
  Attention's claims: one run of its two launches, over any number instance, from which the frames and the values follow.
-/
module

public import proofs.«01_k».proof.Proof.AttKern
public import proofs.«01_k».proof.Proof.Gen.Attention
public import Idealize.ShloMosaic.Lib.Claim

@[expose] public section

set_option maxRecDepth 16384

noncomputable section

namespace Cert.AttClaim

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.isDefEq.respectTransparency.types false in
/-- The run: the result at what the second launch leaves, the arguments as they were, every counter at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v41) = (dat1 (V10 m ρ) c).arrAt 3 grid1.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨(fun c =>
      ⟨(h c _ (mem_uc main_v41 (by decide))).trans (W11_arr m ρ c 3),
       (h c _ (mem_uc main_arg0 (by decide))).trans (W11_main_arg0 m ρ c),
       (h c _ (mem_uc main_arg1 (by decide))).trans (W11_main_arg1 m ρ c)⟩), funext fun g => hz g (.inr (no_unscoped g.2))⟩)

theorem body0_eq : @Cert.Attention.cc0_augment_qk Bits _ _ = @Cert.AttentionIdeal.cc0_augment_qk Bits _ _ := rfl
theorem body1_eq : @Cert.Attention.cc1_fox_attention Bits _ _ = @Cert.AttentionIdeal.cc1_fox_attention Bits _ _ := rfl

set_option maxHeartbeats 8000000 in
/-- The two prints of the kernel run the same bodies. -/
theorem defs₀_eq : @Cert.Attention.defs₀ Bits _ _ = @Cert.AttentionIdeal.defs₀ Bits _ _ := by
  unfold Cert.Attention.defs₀ Cert.AttentionIdeal.defs₀
  refine congrArg Defs.onTc ?_
  funext l x
  match l, x with
  | 0, (t, s) =>
    dsimp only
    rw [body0_eq]
    rfl
  | 1, (t, s) =>
    dsimp only
    rw [body1_eq]
    rfl
  | ⟨_ + 2, h⟩, _ => exact absurd h (Nat.not_lt.2 (Nat.le_add_left _ _))

theorem defs_eq : @Cert.Attention.defs Bits _ _ = @Cert.AttentionIdeal.defs Bits _ _ := congrArg (Pipeline.defs Cert.AttentionIdeal.pcfgs) defs₀_eq

theorem frame_of (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run m ρ)

set_option maxHeartbeats 8000000 in
theorem frame_kernel : Cert.quiescent_Attention := fun m ρ _ => by
  have h := frame_of (F := Bits) m ρ
  rw [← defs_eq] at h
  exact h

theorem frame_kernelIdeal : Cert.quiescent_AttentionIdeal := fun m ρ _ => frame_of (F := Ideal) m ρ

/-- The reference's run leaves its arguments as they were and every counter at zero. -/
theorem frame_reference [Cert.AttentionReferenceIdeal.Facts] : Cert.quiescent_AttentionReferenceIdeal := fun m ρ _ =>
  (θ_run Cert.AttentionReferenceIdeal.defs _ _).mono (fun r h => ⟨fun c => (h c).2, sem_eq_zero_of_no_sems (by decide) r.2⟩)
    (Cert.AttentionReferenceIdeal.Value.run (F := Ideal) m ρ)

theorem algebraic : Cert.algebraic_AttentionIdeal_AttentionReferenceIdeal_pre_finite_rows := by
  intro m g m' g' hp hm
  refine ⟨Cert.AttValue.expect m, ?_, ?_⟩
  · exact (θ_run Cert.AttentionIdeal.defs _ _).mono (fun r h c =>
      ⟨(h.1 c).1.trans (Cert.AttValue.out3 m g c (hp c)), (h.1 c).2⟩) (run (F := Ideal) m g)
  · refine (θ_run Cert.AttentionReferenceIdeal.defs _ _).mono (fun r h c => ?_) (Cert.AttentionReferenceIdeal.Value.run (F := Ideal) m' g')
    obtain ⟨a0, a1⟩ := hm c
    refine ⟨(h c).1.trans ?_, (h c).2⟩
    rw [Cert.AttentionReferenceIdeal.Read.val_main_v39_eq, a0, a1]

end Cert.AttClaim

end
-- ==== Proof.InProjVal.lean ====
/-
  The input projection: its two matrix products, of the token rows by the main columns and by the narrow ones (time steps,
  forget gates and padding), against the one product cut in parts.
-/
module

public import proofs.«01_k».proof.Defs
public import proofs.«01_k».proof.Proof.Gen.InProj
public import proofs.«01_k».proof.Proof.Gen.InProjIdeal.Frame
public import proofs.«01_k».proof.Proof.Gen.InProjReferenceIdeal.Run
public import proofs.«01_k».proof.Proof.Gen.InProjReferenceIdeal.Read
public import Idealize.ShloMosaic.Lib.Pipeline.ValueKit
public import Idealize.ShloMosaic.Lib.Pointwise

@[expose] public section

set_option maxRecDepth 16384

noncomputable section

namespace Cert.InProjValue

open Cert.InProjIdeal Cert.InProjIdeal.Gen
open Idealize.ShloMosaic Idealize.ShloMosaic.TcCoe Idealize.SL.Sem Idealize.SL Idealize.SL.BI
open Cert.InProjReferenceIdeal.Read

variable (m : (ℓ : Loc nD τ sig) → Buf (Elt Ideal) ℓ) (ρ : Dev nD → PrngReg)

/-- A column of the main weights is a column of the layer's, past the forget gates from the fourth part on. -/
def wide (e : Fin 6144) : Fin 6168 := ⟨if e.val < 3072 then e.val else e.val + 8, by have := e.isLt; split <;> omega⟩

/-- A column of the narrow weights below the padding: the time steps, then the forget gates. -/
def narrow (e : Fin 128) : Fin 6168 := ⟨if e.val < 16 then 6152 + e.val else if e.val < 24 then 3072 + (e.val - 16) else 0, by split; omega; split <;> omega⟩

/-- The scale of the queries: the float32 nearest one over the root of 128. -/
abbrev scale : EReal := Ideal.ofBits .f32 0x3DB504F3#32

theorem scale_eq : scale = ((11863283 * (2 : ℝ) ^ (-27 : ℤ) : ℝ) : EReal) := by
  simp [scale, Ideal.ofBits, Ideal.ieee]

theorem scale_nonneg : 0 ≤ scale := by
  rw [scale_eq, ← EReal.coe_zero, EReal.coe_le_coe_iff]
  positivity

theorem scale_ne_top : scale ≠ ⊤ := by
  rw [scale_eq]
  exact EReal.coe_ne_top _

/-- The query columns are scaled, the others are as they are. -/
def scaleAt (e : Fin 6144) (x : EReal) : EReal := if e.val < 1024 then x * scale else x

/-- The padding of the narrow weights is zero. -/
def keepAt (e : Fin 128) (x : EReal) : EReal := if e.val < 24 then x else 0

theorem sum_mul_scale {n : Nat} (f : Fin n → EReal) (s : Finset (Fin n)) : (∑ k ∈ s, f k) * scale = ∑ k ∈ s, f k * scale := by
  induction s using Finset.cons_induction with
  | empty => simp
  | cons a s ha ih => rw [Finset.sum_cons, Finset.sum_cons, EReal.right_distrib_of_nonneg_of_ne_top scale_nonneg scale_ne_top, ih]

theorem scaleAt_sum (e : Fin 6144) {n : Nat} (a w : Fin n → EReal) : scaleAt e (∑ k, a k * w k) = ∑ k, a k * scaleAt e (w k) := by
  unfold scaleAt
  split
  · rw [sum_mul_scale]
    exact Finset.sum_congr rfl fun k _ => mul_assoc _ _ _
  · rfl

theorem keepAt_sum (e : Fin 128) {n : Nat} (a w : Fin n → EReal) : keepAt e (∑ k, a k * w k) = ∑ k, a k * keepAt e (w k) := by
  unfold keepAt
  split
  · rfl
  · simp

/-- The part of the weights that a column lies in. -/
theorem wide_parts (e : Fin 6144) (f : Fin 6168 → EReal) :
    (if h : e.val < 1024 then f ⟨e.val, by omega⟩ * scale
      else if h : e.val - 1024 < 2048 then f ⟨1024 + (e.val - 1024), by omega⟩ else f ⟨3080 + (e.val - 1024 - 2048), by have := e.isLt; omega⟩)
      = scaleAt e (f (wide e)) := by
  unfold scaleAt wide
  by_cases h0 : e.val < 1024
  · rw [dif_pos h0, if_pos h0]
    congr 2
    apply Fin.ext; show e.val = if _ then _ else _
    rw [if_pos (by omega)]
  · rw [dif_neg h0, if_neg h0]
    split
    · congr 1
      apply Fin.ext; show _ = if _ then _ else _
      rw [if_pos (by omega)]; show 1024 + (e.val - 1024) = e.val; omega
    · congr 1
      apply Fin.ext; show _ = if _ then _ else _
      rw [if_neg (by omega)]; show 3080 + (e.val - 1024 - 2048) = e.val + 8; omega

theorem wide_parts' (e : Fin 6144) (f : Fin 6168 → EReal) :
    (if h : e.val < 1024 then f ⟨e.val, by omega⟩ * scale
      else if h : e.val - 1024 < 1024 then f ⟨1024 + (e.val - 1024), by omega⟩
      else if h : e.val - 1024 - 1024 < 1024 then f ⟨2048 + (e.val - 1024 - 1024), by omega⟩
      else if h : e.val - 1024 - 1024 - 1024 < 1024 then f ⟨3080 + (e.val - 1024 - 1024 - 1024), by omega⟩
      else f ⟨4104 + (e.val - 1024 - 1024 - 1024 - 1024), by have := e.isLt; omega⟩)
      = scaleAt e (f (wide e)) := by
  rw [← wide_parts]
  have le := e.isLt
  by_cases h0 : e.val < 1024
  · rw [dif_pos h0, dif_pos h0]
  rw [dif_neg h0, dif_neg h0]
  by_cases h1 : e.val - 1024 < 1024
  · rw [dif_pos h1, dif_pos (by omega)]
  rw [dif_neg h1]
  by_cases h2 : e.val - 1024 - 1024 < 1024
  · rw [dif_pos h2, dif_pos (by omega)]
    exact congrArg f (Fin.ext (by show 2048 + (e.val - 1024 - 1024) = 1024 + (e.val - 1024); omega))
  rw [dif_neg h2, dif_neg (show ¬ e.val - 1024 < 2048 by omega)]
  by_cases h3 : e.val - 1024 - 1024 - 1024 < 1024
  · rw [dif_pos h3]
    exact congrArg f (Fin.ext (by show 3080 + (e.val - 1024 - 1024 - 1024) = 3080 + (e.val - 1024 - 2048); omega))
  · rw [dif_neg h3]
    exact congrArg f (Fin.ext (by show 4104 + (e.val - 1024 - 1024 - 1024 - 1024) = 3080 + (e.val - 1024 - 2048); omega))

theorem narrow_parts (e : Fin 128) (f : Fin 6168 → EReal) :
    (if h : e.val < 16 then f ⟨6152 + e.val, by omega⟩ else if h : e.val - 16 < 8 then f ⟨3072 + (e.val - 16), by omega⟩ else 0)
      = keepAt e (f (narrow e)) := by
  unfold keepAt narrow
  by_cases h0 : e.val < 16
  · rw [dif_pos h0, if_pos (by omega)]
    congr 1
    apply Fin.ext; show _ = if _ then _ else _
    rw [if_pos h0]
  rw [dif_neg h0]
  by_cases h1 : e.val - 16 < 8
  · rw [dif_pos h1, if_pos (by omega)]
    congr 1
    apply Fin.ext; show _ = if _ then _ else _
    rw [if_neg h0, if_pos (by omega)]
  · rw [dif_neg h1, if_neg (by omega)]

theorem V_wide (c : Dev nD) (k : Fin 2048) (e : Fin 6144) :
    V1 m ρ c main_v7 (ix2 k e) = scaleAt e (m ((c.tc : Thread nD τ).loc main_arg1) (ix2 k (wide e))) := by
  dsimp only [V1, W1, hostOps0]
  after_results_simp
  pointwise
  after_results_simp
  pointwise
  exact wide_parts e fun q => m ((c.tc : Thread nD τ).loc main_arg1) (ix2 k q)

theorem V_narrow (c : Dev nD) (k : Fin 2048) (e : Fin 128) :
    V1 m ρ c main_v12 (ix2 k e) = keepAt e (m ((c.tc : Thread nD τ).loc main_arg1) (ix2 k (narrow e))) := by
  dsimp only [V1, W1, hostOps0]
  after_results_simp
  pointwise
  after_results_simp
  pointwise
  exact narrow_parts e fun q => m ((c.tc : Thread nD τ).loc main_arg1) (ix2 k q)

theorem V_rows (c : Dev nD) (n : Fin 8192) (k : Fin 2048) : V1 m ρ c main_v0 (ix2 n k) = m ((c.tc : Thread nD τ).loc main_arg0) (ix2 n k) := by
  dsimp only [V1, W1, hostOps0]
  after_results_simp
  rfl

theorem ref_wide (A0 : S8192x2048.Idx → EReal) (A1 : S2048x6168.Idx → EReal) (n : Fin 8192) (e : Fin 6144) :
    val_main_v13 (F := Ideal) A0 A1 (ix2 n e) = ∑ k : Fin 2048, A0 (ix2 n k) * scaleAt e (A1 (ix2 k (wide e))) := by
  rw [← scaleAt_sum e (fun k => A0 (ix2 n k)) fun k => A1 (ix2 k (wide e))]
  pointwise [val_main_v13, val_main_v10, val_main_v9, val_main_v8, val_main_v6, val_main_v5, val_main_v3, val_main_v2, val_main_v1, val_main_v0, val_main_cst]
  exact wide_parts' e fun q => ∑ k : Fin 2048, A0 (ix2 n k) * A1 (ix2 k q)

theorem ref_narrow (A0 : S8192x2048.Idx → EReal) (A1 : S2048x6168.Idx → EReal) (n : Fin 8192) (e : Fin 128) :
    val_main_v12 (F := Ideal) A0 A1 (ix2 n e) = ∑ k : Fin 2048, A0 (ix2 n k) * keepAt e (A1 (ix2 k (narrow e))) := by
  rw [← keepAt_sum e (fun k => A0 (ix2 n k)) fun k => A1 (ix2 k (narrow e))]
  pointwise [val_main_v12, val_main_v11, val_main_v7, val_main_v4, val_main_v0, val_main_cst_0]
  exact narrow_parts e fun q => ∑ k : Fin 2048, A0 (ix2 n k) * A1 (ix2 k q)

theorem pay0 (x0 : Vec Ideal S1024x2048 .bf16) (x1 : Vec Ideal S2048x1024 .bf16) (r q : Fin 1024) :
    k0_pay1 x0 x1 (ix2 r q) = ∑ k : Fin 2048, (x0 (ix2 r k) : EReal) * x1 (ix2 k q) := by
  pointwise [k0_pay1]

theorem pay1 (x0 : Vec Ideal S1024x2048 .bf16) (x1 : Vec Ideal S2048x128 .bf16) (r : Fin 1024) (q : Fin 128) :
    k1_pay1 x0 x1 (ix2 r q) = ∑ k : Fin 2048, (x0 (ix2 r k) : EReal) * x1 (ix2 k q) := by
  pointwise [k1_pay1]

/-! ## The blocks of the two launches -/

theorem index00 : ∀ t : Fin grid0.N, win0_0.index t = ![t.val % 8, 0] := by decide +kernel
theorem index01 : ∀ t : Fin grid0.N, win0_1.index t = ![0, t.val / 8] := by decide +kernel
theorem index02 : ∀ t : Fin grid0.N, win0_2.index t = ![t.val % 8, t.val / 8] := by decide +kernel
theorem index10 : ∀ t : Fin grid1.N, win1_0.index t = ![t.val, 0] := by decide +kernel
theorem index11 : ∀ t : Fin grid1.N, win1_1.index t = ![0, 0] := by decide +kernel
theorem index12 : ∀ t : Fin grid1.N, win1_2.index t = ![t.val, 0] := by decide +kernel

/-- The token that row r of the first launch's point t is, and the column that column q is. -/
def token (t : Fin grid0.N) (r : Fin 1024) : Fin 8192 := ⟨t.val % 8 * 1024 + r.val, by have := r.isLt; omega⟩
def column (t : Fin grid0.N) (q : Fin 1024) : Fin 6144 :=
  ⟨t.val / 8 * 1024 + q.val, by have h : t.val < 48 := t.isLt; have := q.isLt; omega⟩
/-- The token that row r of the second launch's point t is. -/
def token' (t : Fin grid1.N) (r : Fin 1024) : Fin 8192 :=
  ⟨t.val * 1024 + r.val, by have h : t.val < 8 := t.isLt; have := r.isLt; omega⟩

theorem emb00 (t : Fin grid0.N) (r : Fin 1024) (k : Fin 2048) : (win0_0.blk t).view.emb (ix2 r k) = ix2 (token t r) k := by
  funext a
  apply Fin.ext
  blk_simp [index00]
  match a with
  | ⟨0, _⟩ => simp [token]
  | ⟨1, _⟩ => simp

theorem emb01 (t : Fin grid0.N) (k : Fin 2048) (q : Fin 1024) : (win0_1.blk t).view.emb (ix2 k q) = ix2 k (column t q) := by
  funext a
  apply Fin.ext
  blk_simp [index01]
  match a with
  | ⟨0, _⟩ => simp
  | ⟨1, _⟩ => simp [column]

theorem emb02 (t : Fin grid0.N) (r q : Fin 1024) :
    ((View.whole main_v13).slice (win0_2.rect t)).emb (ix2 r q) = ix2 (token t r) (column t q) := by
  funext a
  apply Fin.ext
  blk_simp [index02]
  match a with
  | ⟨0, _⟩ => simp [token]
  | ⟨1, _⟩ => simp [column]

theorem emb10 (t : Fin grid1.N) (r : Fin 1024) (k : Fin 2048) : (win1_0.blk t).view.emb (ix2 r k) = ix2 (token' t r) k := by
  funext a
  apply Fin.ext
  blk_simp [index10]
  match a with
  | ⟨0, _⟩ => simp [token']
  | ⟨1, _⟩ => simp

theorem emb11 (t : Fin grid1.N) (k : Fin 2048) (q : Fin 128) : (win1_1.blk t).view.emb (ix2 k q) = ix2 k q := by
  funext a
  apply Fin.ext
  blk_simp [index11]
  match a with
  | ⟨0, _⟩ => simp
  | ⟨1, _⟩ => simp

theorem emb12 (t : Fin grid1.N) (r : Fin 1024) (q : Fin 128) :
    ((View.whole main_v14).slice (win1_2.rect t)).emb (ix2 r q) = ix2 (token' t r) q := by
  funext a
  apply Fin.ext
  blk_simp [index12]
  match a with
  | ⟨0, _⟩ => simp [token']
  | ⟨1, _⟩ => simp

theorem iblk00 (c : Dev nD) (t : Fin grid0.N) (r : Fin 1024) (k : Fin 2048) :
    (iblk0 (V1 m ρ) c 0 t : S1024x2048.Idx → EReal) (ix2 r k) = m ((c.tc : Thread nD τ).loc main_arg0) (ix2 (token t r) k) := by
  unfold iblk0; blk_simp; rw [emb00, V_rows]
theorem iblk01 (c : Dev nD) (t : Fin grid0.N) (k : Fin 2048) (q : Fin 1024) :
    (iblk0 (V1 m ρ) c 1 t : S2048x1024.Idx → EReal) (ix2 k q)
      = scaleAt (column t q) (m ((c.tc : Thread nD τ).loc main_arg1) (ix2 k (wide (column t q)))) := by
  unfold iblk0; blk_simp; rw [emb01, V_wide]

/-- The first launch leaves the second's operands as they were. -/
theorem V2_rows (c : Dev nD) : V2 m ρ c main_v0 = V1 m ρ c main_v0 := W2_of m ρ c main_v0 (by decide +kernel)
theorem V2_narrow (c : Dev nD) : V2 m ρ c main_v12 = V1 m ρ c main_v12 := W2_of m ρ c main_v12 (by decide +kernel)

theorem iblk10 (c : Dev nD) (t : Fin grid1.N) (r : Fin 1024) (k : Fin 2048) :
    (iblk1 (V2 m ρ) c 0 t : S1024x2048.Idx → EReal) (ix2 r k) = m ((c.tc : Thread nD τ).loc main_arg0) (ix2 (token' t r) k) := by
  unfold iblk1; blk_simp; rw [emb10, V2_rows, V_rows]
theorem iblk11 (c : Dev nD) (t : Fin grid1.N) (k : Fin 2048) (q : Fin 128) :
    (iblk1 (V2 m ρ) c 1 t : S2048x128.Idx → EReal) (ix2 k q) = keepAt q (m ((c.tc : Thread nD τ).loc main_arg1) (ix2 k (narrow q))) := by
  unfold iblk1; blk_simp; rw [emb11, V2_narrow, V_narrow]

/-! ## What the two launches leave -/

/-- The reference's values at the kernel's own arguments. -/
abbrev expectW (c : Dev nD) :=
  val_main_v13 (F := Ideal) (m ((c.tc : Thread nD τ).loc main_arg0)) (m ((c.tc : Thread nD τ).loc main_arg1))
abbrev expectN (c : Dev nD) :=
  val_main_v12 (F := Ideal) (m ((c.tc : Thread nD τ).loc main_arg0)) (m ((c.tc : Thread nD τ).loc main_arg1))

theorem out_wide (c : Dev nD) : (dat0 (V1 m ρ) c).arrAt 2 grid0.N = expectW m c := by
  refine (dat0 (V1 m ρ) c).arrAt_eq_of_covers 2 _ (by decide +kernel) fun t hf y => ?_
  blk_simp
  rw [after0_2]
  frame_out
  obtain ⟨r, q, rfl⟩ : ∃ (r : Fin 1024) (q : Fin 1024), y = ix2 r q := ⟨y 0, y 1, eq_ix2 y⟩
  rw [emb02]
  refine (pay0 _ _ r q).trans (Eq.trans (Finset.sum_congr rfl fun k _ => ?_) (ref_wide _ _ _ _).symm)
  exact congr (congrArg HMul.hMul (iblk00 m ρ c t r k)) (iblk01 m ρ c t k q)

theorem out_narrow (c : Dev nD) : (dat1 (V2 m ρ) c).arrAt 2 grid1.N = expectN m c := by
  refine (dat1 (V2 m ρ) c).arrAt_eq_of_covers 2 _ (by decide +kernel) fun t hf y => ?_
  blk_simp
  rw [after1_2]
  frame_out
  obtain ⟨r, q, rfl⟩ : ∃ (r : Fin 1024) (q : Fin 128), y = ix2 r q := ⟨y 0, y 1, eq_ix2 y⟩
  rw [emb12]
  refine (pay1 _ _ r q).trans (Eq.trans (Finset.sum_congr rfl fun k _ => ?_) (ref_narrow _ _ _ _).symm)
  exact congr (congrArg HMul.hMul (iblk10 m ρ c t r k)) (iblk11 m ρ c t k q)

end Cert.InProjValue

end
-- ==== Proof.InProjClaim.lean ====
/-
  The input projection's claims: one run of its two launches, over any number instance, from which the frames and the values follow.
-/
module

public import proofs.«01_k».proof.Proof.InProjVal
public import Idealize.ShloMosaic.Lib.Claim

@[expose] public section

set_option maxRecDepth 16384

noncomputable section

namespace Cert.InProjClaim

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The second launch writes none of the first's result. -/
theorem W3_wide (m : (ℓ : Loc nD τ sig) → Buf (Elt F) ℓ) (ρ : Dev nD → PrngReg) (c : Dev nD) :
    W3 m ρ c (Proc.devRef .tc main_v13) = (dat0 (V1 m ρ) c).arrAt 2 grid0.N :=
  (W3_of m ρ c main_v13 (by decide +kernel)).trans (W2_arr m ρ c 2)

theorem W3_narrow (m : (ℓ : Loc nD τ sig) → Buf (Elt F) ℓ) (ρ : Dev nD → PrngReg) (c : Dev nD) :
    W3 m ρ c (Proc.devRef .tc main_v14) = (dat1 (V2 m ρ) c).arrAt 2 grid1.N := W3_arr m ρ c 2

set_option backward.isDefEq.respectTransparency.types false in
/-- The run: both results at what the launches leave, the arguments as they were, every counter at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v13) = (dat0 (V1 m ρ) c).arrAt 2 grid0.N
      ∧ r.2.mem ((c.tc : Thread nD τ).loc main_v14) = (dat1 (V2 m ρ) c).arrAt 2 grid1.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v13 (by decide))).trans (W3_wide m ρ c),
       (h c _ (mem_uc main_v14 (by decide))).trans (W3_narrow m ρ c),
       (h c _ (mem_uc main_arg0 (by decide))).trans (W3_main_arg0 m ρ c),
       (h c _ (mem_uc main_arg1 (by decide))).trans (W3_main_arg1 m ρ c)⟩), funext fun g => hz g (.inr (no_unscoped g.2))⟩)

theorem body0_eq : @Cert.InProj.cc0_in_proj Bits _ _ = @Cert.InProjIdeal.cc0_in_proj Bits _ _ := rfl
theorem body1_eq : @Cert.InProj.cc1_in_proj_small Bits _ _ = @Cert.InProjIdeal.cc1_in_proj_small Bits _ _ := rfl

/-- The two prints of the kernel run the same bodies. -/
theorem defs₀_eq : @Cert.InProj.defs₀ Bits _ _ = @Cert.InProjIdeal.defs₀ Bits _ _ := by
  unfold Cert.InProj.defs₀ Cert.InProjIdeal.defs₀
  refine congrArg Defs.onTc ?_
  funext l x
  match l, x with
  | 0, (t, s) =>
    dsimp only
    rw [body0_eq]
    rfl
  | 1, (t, s) =>
    dsimp only
    rw [body1_eq]
    rfl
  | ⟨_ + 2, h⟩, _ => exact absurd h (Nat.not_lt.2 (Nat.le_add_left _ _))

theorem defs_eq : @Cert.InProj.defs Bits _ _ = @Cert.InProjIdeal.defs Bits _ _ := congrArg (Pipeline.defs Cert.InProjIdeal.pcfgs) defs₀_eq

theorem frame_kernel : Cert.quiescent_InProj := fun m ρ _ => by
  rw [defs_eq]
  exact (θ_run Cert.InProjIdeal.defs _ _).mono (fun _ h => ⟨fun c => (h.1 c).2.2, h.2⟩) (run (F := Bits) m ρ)

theorem frame_kernelIdeal : Cert.quiescent_InProjIdeal := fun m ρ _ =>
  (θ_run Cert.InProjIdeal.defs _ _).mono (fun _ h => ⟨fun c => (h.1 c).2.2, h.2⟩) (run (F := Ideal) m ρ)

/-- The reference's run leaves its arguments as they were and every counter at zero. -/
theorem frame_reference [Cert.InProjReferenceIdeal.Facts] : Cert.quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

theorem algebraic : Cert.algebraic_InProjIdeal_InProjReferenceIdeal := by
  intro m g m' g' _ hm
  refine ⟨Cert.InProjValue.expectW m, Cert.InProjValue.expectN m, ?_, ?_⟩
  · exact (θ_run Cert.InProjIdeal.defs _ _).mono (fun r h c =>
      ⟨(h.1 c).1.trans (Cert.InProjValue.out_wide m g c), (h.1 c).2.1.trans (Cert.InProjValue.out_narrow m g c), (h.1 c).2.2⟩) (run (F := Ideal) m g)
  · refine (θ_run Cert.InProjReferenceIdeal.defs _ _).mono (fun r h c => ?_) (Cert.InProjReferenceIdeal.Value.run (F := Ideal) m' g')
    obtain ⟨a0, a1⟩ := hm c
    refine ⟨(h c).1.trans ?_, (h c).2.1.trans ?_, (h c).2.2⟩
    · rw [Cert.InProjReferenceIdeal.Read.val_main_v13_eq, a0, a1]
    · rw [Cert.InProjReferenceIdeal.Read.val_main_v12_eq, a0, a1]

end Cert.InProjClaim

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.Reference
public import proofs.«01_k».proof.Proof.Gen.ReferenceIdeal
public import proofs.«01_k».proof.Proof.Gen.ReferenceIdeal.Run
public import proofs.«01_k».proof.Proof.Gen.Pre_rows_in_range
public import proofs.«01_k».proof.Proof.Gen.Ple
public import proofs.«01_k».proof.Proof.Gen.PleIdeal
public import proofs.«01_k».proof.Proof.Gen.PleIdeal.Frame
public import proofs.«01_k».proof.Proof.Gen.PleReferenceIdeal
public import proofs.«01_k».proof.Proof.Gen.PleReferenceIdeal.Run
public import proofs.«01_k».proof.Proof.Gen.PleReferenceIdeal.Read
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_plan_tables
public import proofs.«01_k».proof.Proof.Gen.InProj
public import proofs.«01_k».proof.Proof.Gen.InProjIdeal
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Run
public import proofs.«01_k».proof.Proof.Value
public import proofs.«01_k».proof.Proof.PleClaim
public import proofs.«01_k».proof.Proof.OutClaim
public import proofs.«01_k».proof.Proof.ExpertsClaim
public import proofs.«01_k».proof.Proof.Gen.Attention
public import proofs.«01_k».proof.Proof.Gen.AttentionIdeal
public import proofs.«01_k».proof.Proof.Gen.AttentionIdeal.Frame
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Gen.Pre_finite_rows
public import proofs.«01_k».proof.Proof.Gen.OutProj
public import proofs.«01_k».proof.Proof.Gen.OutProjIdeal
public import proofs.«01_k».proof.Proof.Gen.OutProjIdeal.Frame
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Pre_finite_out_proj
public import proofs.«01_k».proof.Proof.AttClaim
public import proofs.«01_k».proof.Proof.InProjClaim

@[expose] public section

noncomputable section

namespace Cert.Proof

open Idealize.ShloMosaic Idealize.ShloMosaic.TcCoe Idealize.SL.Sem
open Cert.KernelIdeal.Hand (OpC ResC TabC gathered)
open Cert.RowsValue (words_of_pre planes planes_eq)

/-! ## combine_rows -/

/-- The kernel's frame, at the bits. -/
theorem frame_kernel : Cert.quiescent_Kernel := fun m ρ h =>
  (θ_run Cert.KernelIdeal.defs _ _).mono (fun _ h => ⟨fun c => (h.1 c).2, h.2⟩)
    (Cert.KernelIdeal.Hand.run_main (F := Bits) m ρ fun c => words_of_pre _ _ _ (h c))

theorem frame_kernelIdeal : Cert.quiescent_KernelIdeal := fun m ρ h =>
  (θ_run Cert.KernelIdeal.defs _ _).mono (fun _ h => ⟨fun c => (h.1 c).2, h.2⟩)
    (Cert.KernelIdeal.Hand.run_main (F := Ideal) m ρ fun c => words_of_pre _ _ _ (h c))

theorem frame_referenceIdeal : Cert.quiescent_ReferenceIdeal := fun m ρ _ =>
  (θ_run Cert.ReferenceIdeal.defs _ _).mono (fun _ h => ⟨fun c => (h.1 c).2, h.2⟩) (Cert.RowsValue.run_frame (F := Ideal) m ρ)

theorem frame_reference : Cert.quiescent_Reference := fun m ρ _ =>
  (θ_run Cert.ReferenceIdeal.defs _ _).mono (fun _ h => ⟨fun c => (h.1 c).2, h.2⟩) (Cert.RowsValue.run_frame (F := Bits) m ρ)

/-- What the kernel leaves in its result on core c. -/
abbrev rowsOf {F : FTy → Type} [FloatOps F] (m : (ℓ : Loc Cert.KernelIdeal.nD Cert.KernelIdeal.τ Cert.KernelIdeal.sig) → Buf (Elt F) ℓ)
    (c : Dev Cert.KernelIdeal.nD) : ResC F :=
  gathered (m ((c.tc : Thread Cert.KernelIdeal.nD Cert.KernelIdeal.τ).loc Cert.KernelIdeal.main_arg0) : TabC)
    (m ((c.tc : Thread Cert.KernelIdeal.nD Cert.KernelIdeal.τ).loc Cert.KernelIdeal.main_arg1) : TabC)
    (m ((c.tc : Thread Cert.KernelIdeal.nD Cert.KernelIdeal.τ).loc Cert.KernelIdeal.main_arg2) : OpC F)

theorem algebraic_rows : Cert.algebraic_KernelIdeal_ReferenceIdeal := fun m g m' g' h hm =>
  ⟨rowsOf m,
   (θ_run Cert.KernelIdeal.defs _ _).mono (fun _ h => h.1)
    (Cert.KernelIdeal.Hand.run_main (F := Ideal) m g fun c => words_of_pre _ _ _ (h c)),
   (θ_run Cert.ReferenceIdeal.defs _ _).mono (fun _ hr c => ⟨(hr.1 c).1.trans (by
      rw [(hm c).1, (hm c).2.1, (hm c).2.2]
      have w := words_of_pre _ _ _ (h c)
      exact planes_eq _ _ _ w.1 w.2), (hr.1 c).2⟩) (Cert.RowsValue.run_frame (F := Ideal) m' g')⟩

theorem bitexact_rows : Cert.bitexact_Kernel_Reference := fun m g m' g' h hm =>
  ⟨rowsOf (F := Bits) m,
   (θ_run Cert.KernelIdeal.defs _ _).mono (fun _ h => h.1)
    (Cert.KernelIdeal.Hand.run_main (F := Bits) m g fun c => words_of_pre _ _ _ (h c)),
   (θ_run Cert.ReferenceIdeal.defs _ _).mono (fun _ hr c => ⟨(hr.1 c).1.trans (by
      have w := words_of_pre _ _ _ (h c)
      exact (congr (congr (congrArg (planes (F := Bits)) (hm c).1) (hm c).2.1) (hm c).2.2).trans (planes_eq _ _ _ w.1 w.2)), (hr.1 c).2⟩)
    (Cert.RowsValue.run_frame (F := Bits) m' g')⟩

theorem claim : Cert.Claim :=
  ⟨Cert.Kernel.Gen.facts, Cert.KernelIdeal.Gen.facts, Cert.ReferenceIdeal.Gen.facts, Cert.Reference.Gen.facts, Cert.Ple.Gen.facts, Cert.PleIdeal.Gen.facts,
    Cert.PleReferenceIdeal.Gen.facts, Cert.Experts.Gen.facts, Cert.ExpertsIdeal.Gen.facts, Cert.ExpertsReferenceIdeal.Gen.facts,
    Cert.InProj.Gen.facts, Cert.InProjIdeal.Gen.facts, Cert.InProjReferenceIdeal.Gen.facts,
    Cert.Attention.Gen.facts, Cert.AttentionIdeal.Gen.facts, Cert.AttentionReferenceIdeal.Gen.facts,
    Cert.OutProj.Gen.facts, Cert.OutProjIdeal.Gen.facts, Cert.OutProjReferenceIdeal.Gen.facts,
    Cert.Pre_rows_in_range.Gen.facts, Cert.Pre_plan_tables.Gen.facts, Cert.Pre_finite_rows.Gen.facts, Cert.Pre_finite_out_proj.Gen.facts,
    frame_kernel, frame_kernelIdeal, frame_referenceIdeal, fun m ρ _ => frame_referenceIdeal m ρ trivial, frame_reference,
    Cert.PleClaim.frame_kernel, Cert.PleClaim.frame_kernelIdeal, Cert.PleClaim.frame_reference,
    Cert.ExpertsClaim.frame_kernel, Cert.ExpertsClaim.frame_kernelIdeal, Cert.ExpertsClaim.frame_reference, fun m ρ _ => Cert.ExpertsClaim.frame_reference m ρ trivial,
    Cert.InProjClaim.frame_kernel, Cert.InProjClaim.frame_kernelIdeal, Cert.InProjClaim.frame_reference,
    Cert.AttClaim.frame_kernel, Cert.AttClaim.frame_kernelIdeal, fun m ρ _ => Cert.AttClaim.frame_kernelIdeal m ρ trivial,
    Cert.AttClaim.frame_reference, fun m ρ _ => Cert.AttClaim.frame_reference m ρ trivial,
    Cert.OutClaim.frame_kernel, Cert.OutClaim.frame_kernelIdeal, fun m ρ _ => Cert.OutClaim.frame_kernelIdeal m ρ trivial,
    Cert.OutClaim.frame_reference, fun m ρ _ => Cert.OutClaim.frame_reference m ρ trivial,
    trivial, algebraic_rows, bitexact_rows, trivial, Cert.PleClaim.algebraic, trivial, Cert.ExpertsClaim.algebraic, trivial, Cert.InProjClaim.algebraic,
    trivial, Cert.AttClaim.algebraic, trivial, Cert.OutClaim.algebraic⟩

end Cert.Proof

end
